-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.bf16_pack.Statement Cert.KernelIdeal.S512x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x1024 : Shape := ⟨3, ![2, 8192, 1024]⟩
abbrev S1x1024 : Shape := ⟨2, ![1, 1024]⟩
abbrev S1x1024x4096 : Shape := ⟨3, ![1, 1024, 4096]⟩
abbrev S2x512 : Shape := ⟨2, ![2, 512]⟩
abbrev S1x512 : Shape := ⟨2, ![1, 512]⟩
abbrev S2x8192x512 : Shape := ⟨3, ![2, 8192, 512]⟩
abbrev S1x1024x1024 : Shape := ⟨3, ![1, 1024, 1024]⟩
abbrev S1024 : Shape := ⟨1, ![1024]⟩
abbrev S128x128 : Shape := ⟨2, ![128, 128]⟩
abbrev S64x64 : Shape := ⟨2, ![64, 64]⟩
abbrev S1x512x1024 : Shape := ⟨3, ![1, 512, 1024]⟩
abbrev S1x1024x2048 : Shape := ⟨3, ![1, 1024, 2048]⟩
abbrev S1x512x512 : Shape := ⟨3, ![1, 512, 512]⟩
abbrev S1024x2048 : Shape := ⟨2, ![1024, 2048]⟩
abbrev S1024x1024 : Shape := ⟨2, ![1024, 1024]⟩
abbrev S4x128x128 : Shape := ⟨3, ![4, 128, 128]⟩
abbrev S512x512 : Shape := ⟨2, ![512, 512]⟩
abbrev S512x1024 : Shape := ⟨2, ![512, 1024]⟩
abbrev S4x8x128x128 : Shape := ⟨4, ![4, 8, 128, 128]⟩
abbrev S4x8x8x128 : Shape := ⟨4, ![4, 8, 8, 128]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S64x256 : Shape := ⟨2, ![64, 256]⟩
abbrev S64x128 : Shape := ⟨2, ![64, 128]⟩
abbrev S1x128 : Shape := ⟨2, ![1, 128]⟩
abbrev S16x128 : Shape := ⟨2, ![16, 128]⟩
abbrev S32x128 : Shape := ⟨2, ![32, 128]⟩
abbrev S1x1x128x128 : Shape := ⟨4, ![1, 1, 128, 128]⟩
abbrev S8x128 : Shape := ⟨2, ![8, 128]⟩
abbrev S1x1x8x128 : Shape := ⟨4, ![1, 1, 8, 128]⟩
abbrev S1x128x128 : Shape := ⟨3, ![1, 128, 128]⟩
abbrev S1x1x1x128 : Shape := ⟨4, ![1, 1, 1, 128]⟩
abbrev S64 : Shape := ⟨1, ![64]⟩
abbrev S64x1 : Shape := ⟨2, ![64, 1]⟩

abbrev nBuf : Space → Nat
  | .hbm => 12
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S2x512, .f32⟩
  | .hbm, ⟨4, _⟩ => ⟨S1x512, .f32⟩
  | .hbm, ⟨5, _⟩ => ⟨S2x8192x512, .bf16⟩
  | .hbm, ⟨6, _⟩ => ⟨S1x1024x1024, .f32⟩
  | .hbm, ⟨7, _⟩ => ⟨S1024, .f32⟩
  | .hbm, ⟨8, _⟩ => ⟨S128x128, .bf16⟩
  | .hbm, ⟨9, _⟩ => ⟨S64x64, .i32⟩
  | .hbm, ⟨10, _⟩ => ⟨S1x1024, .f32⟩
  | .hbm, ⟨11, _⟩ => ⟨S2x8192x1024, .f32⟩
  | .local _ .vmem, ⟨0, _⟩ => ⟨S128x128, .bf16⟩
  | .local _ .vmem, ⟨1, _⟩ => ⟨S64x64, .i32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024x2048, .f32⟩
  | .local _ .vmem, ⟨6, _⟩ => ⟨S2x512, .f32⟩
  | .local _ .vmem, ⟨7, _⟩ => ⟨S1x512, .f32⟩
  | .local _ .vmem, ⟨8, _⟩ => ⟨S1x512x512, .bf16⟩
  | .local _ .vmem, ⟨9, _⟩ => ⟨S1x512x512, .bf16⟩
  | .local _ .vmem, ⟨10, _⟩ => ⟨S1x1024x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S1024x2048, .bf16⟩
  | .local _ .vmem, ⟨15, _⟩ => ⟨S1024x1024, .bf16⟩
  | .local _ .vmem, ⟨16, _⟩ => ⟨S4x128x128, .f32⟩
  | .local _ .vmem, ⟨17, _⟩ => ⟨S512x512, .bf16⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S4x8x128x128, .f32⟩
  | .local _ .vmem, ⟨25, _⟩ => ⟨S4x8x8x128, .f32⟩
  | .local _ .vmem, ⟨26, _⟩ => ⟨S512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [BitOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x8192x1024 : Shape := ⟨3, ![2, 8192, 1024]⟩
abbrev S1x1024 : Shape := ⟨2, ![1, 1024]⟩
abbrev S1x1024x4096 : Shape := ⟨3, ![1, 1024, 4096]⟩
abbrev S2x512 : Shape := ⟨2, ![2, 512]⟩
abbrev S1x512 : Shape := ⟨2, ![1, 512]⟩
abbrev S2x8192x512 : Shape := ⟨3, ![2, 8192, 512]⟩
abbrev S1x1024x1024 : Shape := ⟨3, ![1, 1024, 1024]⟩
abbrev S1024 : Shape := ⟨1, ![1024]⟩
abbrev S_ : Shape := ⟨0, ![]⟩
abbrev S512 : Shape := ⟨1, ![512]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S1024x512 : Shape := ⟨2, ![1024, 512]⟩
abbrev S4x128 : Shape := ⟨2, ![4, 128]⟩
abbrev S2x8192x4x128 : Shape := ⟨4, ![2, 8192, 4, 128]⟩
abbrev S1x1x4x128 : Shape := ⟨4, ![1, 1, 4, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S2x4x128x128 : Shape := ⟨4, ![2, 4, 128, 128]⟩
abbrev S2x128x64x4x128 : Shape := ⟨5, ![2, 128, 64, 4, 128]⟩
abbrev S128x2x4x64x128 : Shape := ⟨5, ![128, 2, 4, 64, 128]⟩
abbrev S1x2x4x64x128 : Shape := ⟨5, ![1, 2, 4, 64, 128]⟩
abbrev S2x4x64x128 : Shape := ⟨4, ![2, 4, 64, 128]⟩
abbrev S2x4x64x1x128 : Shape := ⟨5, ![2, 4, 64, 1, 128]⟩
abbrev S2x4x1x64x128 : Shape := ⟨5, ![2, 4, 1, 64, 128]⟩
abbrev S2x4x64x64x128 : Shape := ⟨5, ![2, 4, 64, 64, 128]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S2x8192x4 : Shape := ⟨3, ![2, 8192, 4]⟩
abbrev S2x8192x4x1 : Shape := ⟨4, ![2, 8192, 4, 1]⟩
abbrev S1024x1024 : Shape := ⟨2, ![1024, 1024]⟩

abbrev nBuf : Space → Nat
  | .hbm => 319
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x4096, .f32⟩
  | 3 => ⟨S2x512, .f32⟩
  | 4 => ⟨S1x512, .f32⟩
  | 5 => ⟨S2x8192x512, .bf16⟩
  | 6 => ⟨S1x1024x1024, .f32⟩
  | 7 => ⟨S1024, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1024, .f32⟩
  | 26 => ⟨S2x8192x1024, .f32⟩
  | 27 => ⟨S_, .f32⟩
  | 28 => ⟨S2x8192, .f32⟩
  | 29 => ⟨S2x8192x1, .f32⟩
  | 30 => ⟨S_, .f32⟩
  | 31 => ⟨S2x8192x1, .f32⟩
  | 32 => ⟨S2x8192x1, .f32⟩
  | 33 => ⟨S_, .f32⟩
  | 34 => ⟨S2x8192x1, .f32⟩
  | 35 => ⟨S2x8192x1, .f32⟩
  | 36 => ⟨S2x8192x1, .f32⟩
  | 37 => ⟨S2x8192x1024, .f32⟩
  | 38 => ⟨S2x8192x1024, .f32⟩
  | 39 => ⟨S1x1x1024, .f32⟩
  | 40 => ⟨S2x8192x1024, .f32⟩
  | 41 => ⟨S2x8192x1024, .f32⟩
  | 42 => ⟨S1024x4096, .f32⟩
  | 43 => ⟨S1024x512, .f32⟩
  | 44 => ⟨S2x8192x512, .f32⟩
  | 45 => ⟨S1024, .f32⟩
  | 46 => ⟨S2x8192x1024, .f32⟩
  | 47 => ⟨S_, .f32⟩
  | 48 => ⟨S2x8192, .f32⟩
  | 49 => ⟨S2x8192x1, .f32⟩
  | 50 => ⟨S_, .f32⟩
  | 51 => ⟨S2x8192x1, .f32⟩
  | 52 => ⟨S2x8192x1, .f32⟩
  | 53 => ⟨S_, .f32⟩
  | 54 => ⟨S2x8192x1, .f32⟩
  | 55 => ⟨S2x8192x1, .f32⟩
  | 56 => ⟨S2x8192x1, .f32⟩
  | 57 => ⟨S2x8192x1024, .f32⟩
  | 58 => ⟨S2x8192x1024, .f32⟩
  | 59 => ⟨S1x1x1024, .f32⟩
  | 60 => ⟨S2x8192x1024, .f32⟩
  | 61 => ⟨S2x8192x1024, .f32⟩
  | 62 => ⟨S1024x4096, .f32⟩
  | 63 => ⟨S1024x512, .f32⟩
  | 64 => ⟨S2x8192x512, .f32⟩
  | 65 => ⟨S1024, .f32⟩
  | 66 => ⟨S2x8192x1024, .f32⟩
  | 67 => ⟨S_, .f32⟩
  | 68 => ⟨S2x8192, .f32⟩
  | 69 => ⟨S2x8192x1, .f32⟩
  | 70 => ⟨S_, .f32⟩
  | 71 => ⟨S2x8192x1, .f32⟩
  | 72 => ⟨S2x8192x1, .f32⟩
  | 73 => ⟨S_, .f32⟩
  | 74 => ⟨S2x8192x1, .f32⟩
  | 75 => ⟨S2x8192x1, .f32⟩
  | 76 => ⟨S2x8192x1, .f32⟩
  | 77 => ⟨S2x8192x1024, .f32⟩
  | 78 => ⟨S2x8192x1024, .f32⟩
  | 79 => ⟨S1x1x1024, .f32⟩
  | 80 => ⟨S2x8192x1024, .f32⟩
  | 81 => ⟨S2x8192x1024, .f32⟩
  | 82 => ⟨S1024x4096, .f32⟩
  | 83 => ⟨S1024x512, .f32⟩
  | 84 => ⟨S2x8192x512, .f32⟩
  | 85 => ⟨S1x512, .f32⟩
  | 86 => ⟨S512, .f32⟩
  | 87 => ⟨S_, .f32⟩
  | 88 => ⟨S_, .f32⟩
  | 89 => ⟨S_, .f32⟩
  | 90 => ⟨S512, .f32⟩
  | 91 => ⟨S512, .f32⟩
  | 92 => ⟨S_, .f32⟩
  | 93 => ⟨S512, .f32⟩
  | 94 => ⟨S512, .f32⟩
  | 95 => ⟨S4x128, .f32⟩
  | 96 => ⟨S2x8192x4x128, .f32⟩
  | 97 => ⟨S2x8192x4x128, .f32⟩
  | 98 => ⟨S2x8192x4x128, .f32⟩
  | 99 => ⟨S4x128, .f32⟩
  | 100 => ⟨S4x128, .f32⟩
  | 101 => ⟨S4x128, .f32⟩
  | 102 => ⟨S2x8192x4x128, .f32⟩
  | 103 => ⟨S_, .f32⟩
  | 104 => ⟨S2x8192x4x128, .f32⟩
  | 105 => ⟨S2x8192x4x128, .f32⟩
  | 106 => ⟨S2x8192x4x128, .f32⟩
  | 107 => ⟨S2x8192x4x128, .f32⟩
  | 108 => ⟨S2x8192x4x128, .i1⟩
  | 109 => ⟨S2x8192x4x128, .f32⟩
  | 110 => ⟨S2x8192x4x128, .f32⟩
  | 111 => ⟨S2x8192x4x128, .f32⟩
  | 112 => ⟨S2x8192x4x128, .f32⟩
  | 113 => ⟨S2x8192x4x128, .f32⟩
  | 114 => ⟨S2x8192x4x128, .f32⟩
  | 115 => ⟨S2x8192x4x128, .f32⟩
  | 116 => ⟨S2x8192x4x128, .f32⟩
  | 117 => ⟨S1x1x4x128, .f32⟩
  | 118 => ⟨S2x8192x4x128, .f32⟩
  | 119 => ⟨S2x8192x4x128, .f32⟩
  | 120 => ⟨S1x1x4x128, .f32⟩
  | 121 => ⟨S2x8192x4x128, .f32⟩
  | 122 => ⟨S2x8192x4x128, .f32⟩
  | 123 => ⟨S2x8192x4x128, .f32⟩
  | 124 => ⟨S2x8192x4x128, .f32⟩
  | 125 => ⟨S2x8192x4x128, .i1⟩
  | 126 => ⟨S2x8192x4x128, .f32⟩
  | 127 => ⟨S2x8192x4x128, .f32⟩
  | _ => ⟨S2x8192x1024, .f32⟩

abbrev hbmTy0_1 (i : Nat) : BufTy := match i % 128 with
  | 0 => ⟨S2x8192x4x128, .f32⟩
  | 1 => ⟨S2x8192x4x128, .f32⟩
  | 2 => ⟨S2x8192x4x128, .f32⟩
  | 3 => ⟨S2x8192x4x128, .f32⟩
  | 4 => ⟨S2x8192x4x128, .f32⟩
  | 5 => ⟨S2x8192x4x128, .f32⟩
  | 6 => ⟨S2x8192x4x128, .f32⟩
  | 7 => ⟨S2x8192x4x128, .f32⟩
  | 8 => ⟨S2x8192x4x128, .f32⟩
  | 9 => ⟨S2x8192x4x128, .f32⟩
  | 10 => ⟨S_, .f32⟩
  | 11 => ⟨S2x8192x4x128, .f32⟩
  | 12 => ⟨S2x8192x4x128, .f32⟩
  | 13 => ⟨S_, .f32⟩
  | 14 => ⟨S2x8192x4x128, .f32⟩
  | 15 => ⟨S2x8192x4x128, .f32⟩
  | 16 => ⟨S2x8192x4x128, .f32⟩
  | 17 => ⟨S64, .i32⟩
  | 18 => ⟨S64x1, .i32⟩
  | 19 => ⟨S64, .i32⟩
  | 20 => ⟨S1x64, .i32⟩
  | 21 => ⟨S64x64, .i32⟩
  | 22 => ⟨S64x64, .i32⟩
  | 23 => ⟨S64x64, .i1⟩
  | 24 => ⟨S64x64x1, .i1⟩
  | 25 => ⟨S_, .f32⟩
  | 26 => ⟨S2x4x128x128, .f32⟩
  | 27 => ⟨S2x128x64x4x128, .f32⟩
  | 28 => ⟨S128x2x4x64x128, .f32⟩
  | 29 => ⟨S2x128x64x4x128, .f32⟩
  | 30 => ⟨S128x2x4x64x128, .f32⟩
  | 31 => ⟨S2x128x64x4x128, .f32⟩
  | 32 => ⟨S128x2x4x64x128, .f32⟩
  | 33 => ⟨S2x128x64x4x128, .f32⟩
  | 34 => ⟨S128x2x4x64x128, .f32⟩
  | 35 => ⟨S_, .f32⟩
  | 36 => ⟨S128x2x4x64x128, .f32⟩
  | 37 => ⟨S_, .i32⟩
  | 38 => ⟨S128x2x4x64x128, .f32⟩
  | 39 => ⟨S128x2x4x64x128, .f32⟩
  | 40 => ⟨S128x2x4x64x128, .f32⟩
  | 41 => ⟨S128x2x4x64x128, .f32⟩
  | 42 => ⟨S64x64x1, .i1⟩
  | 43 => ⟨S_, .i32⟩
  | 44 => ⟨S2x4x128x128, .f32⟩
  | 45 => ⟨S128x2x4x64x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S1x2x4x64x128, .f32⟩
  | 53 => ⟨S2x4x64x128, .f32⟩
  | 54 => ⟨S_, .i32⟩
  | 55 => ⟨S_, .i32⟩
  | 56 => ⟨S_, .i32⟩
  | 57 => ⟨S_, .i32⟩
  | 58 => ⟨S1x2x4x64x128, .f32⟩
  | 59 => ⟨S2x4x64x128, .f32⟩
  | 60 => ⟨S_, .i32⟩
  | 61 => ⟨S_, .i32⟩
  | 62 => ⟨S_, .i32⟩
  | 63 => ⟨S_, .i32⟩
  | 64 => ⟨S1x2x4x64x128, .f32⟩
  | 65 => ⟨S2x4x64x128, .f32⟩
  | 66 => ⟨S_, .i32⟩
  | 67 => ⟨S_, .i32⟩
  | 68 => ⟨S_, .i32⟩
  | 69 => ⟨S_, .i32⟩
  | 70 => ⟨S1x2x4x64x128, .f32⟩
  | 71 => ⟨S2x4x64x128, .f32⟩
  | 72 => ⟨S_, .f32⟩
  | 73 => ⟨S_, .f32⟩
  | 74 => ⟨S2x4x64x128, .f32⟩
  | 75 => ⟨S2x4x64x128, .f32⟩
  | 76 => ⟨S2x4x64x128, .f32⟩
  | 77 => ⟨S2x4x64x128, .f32⟩
  | 78 => ⟨S2x4x64x1x128, .f32⟩
  | 79 => ⟨S2x4x1x64x128, .f32⟩
  | 80 => ⟨S2x4x64x64x128, .f32⟩
  | 81 => ⟨S2x4x64x64x128, .f32⟩
  | 82 => ⟨S2x4x64x64x128, .f32⟩
  | 83 => ⟨S_, .f32⟩
  | 84 => ⟨S_, .f32⟩
  | 85 => ⟨S2x4x64x64x128, .i1⟩
  | 86 => ⟨S2x4x64x64x128, .f32⟩
  | 87 => ⟨S2x4x64x64x128, .f32⟩
  | 88 => ⟨S2x4x64x64x128, .f32⟩
  | 89 => ⟨S2x4x64x1x128, .f32⟩
  | 90 => ⟨S2x4x64x64x128, .f32⟩
  | 91 => ⟨S2x4x64x64x128, .f32⟩
  | 92 => ⟨S2x4x1x64x128, .f32⟩
  | 93 => ⟨S2x4x64x64x128, .f32⟩
  | 94 => ⟨S2x4x64x64x128, .f32⟩
  | 95 => ⟨S_, .f32⟩
  | 96 => ⟨S2x4x64x64, .f32⟩
  | 97 => ⟨S2x4x64x128, .f32⟩
  | 98 => ⟨S2x4x1x128, .f32⟩
  | 99 => ⟨S2x4x64x128, .f32⟩
  | 100 => ⟨S2x4x64x128, .f32⟩
  | 101 => ⟨S2x4x64x128, .f32⟩
  | 102 => ⟨S2x4x64x128, .f32⟩
  | 103 => ⟨S2x4x128, .f32⟩
  | 104 => ⟨S2x4x128, .f32⟩
  | 105 => ⟨S2x4x128x1, .f32⟩
  | 106 => ⟨S2x4x128x128, .f32⟩
  | 107 => ⟨S2x4x128x128, .f32⟩
  | 108 => ⟨S2x4x128x128, .f32⟩
  | 109 => ⟨S2x4x128x128, .f32⟩
  | 110 => ⟨S2x4x64x128, .f32⟩
  | 111 => ⟨S1x2x4x64x128, .f32⟩
  | 112 => ⟨S_, .i32⟩
  | 113 => ⟨S_, .i32⟩
  | 114 => ⟨S_, .i32⟩
  | 115 => ⟨S_, .i32⟩
  | 116 => ⟨S128x2x4x64x128, .f32⟩
  | 117 => ⟨S_, .i32⟩
  | 118 => ⟨S_, .i32⟩
  | 119 => ⟨S2x128x64x4x128, .f32⟩
  | 120 => ⟨S2x8192x4x128, .f32⟩
  | 121 => ⟨S512, .f32⟩
  | 122 => ⟨S4x128, .f32⟩
  | 123 => ⟨S2x8192x4x128, .f32⟩
  | 124 => ⟨S_, .f32⟩
  | 125 => ⟨S2x8192x4, .f32⟩
  | 126 => ⟨S2x8192x4x1, .f32⟩
  | 127 => ⟨S_, .f32⟩
  | _ => ⟨S2x8192x1024, .f32⟩

abbrev hbmTy0_2 (i : Nat) : BufTy := match i % 128 with
  | 0 => ⟨S2x8192x4x1, .f32⟩
  | 1 => ⟨S2x8192x4x1, .f32⟩
  | 2 => ⟨S_, .f32⟩
  | 3 => ⟨S2x8192x4x1, .f32⟩
  | 4 => ⟨S2x8192x4x1, .f32⟩
  | 5 => ⟨S2x8192x4x1, .f32⟩
  | 6 => ⟨S2x8192x4x128, .f32⟩
  | 7 => ⟨S2x8192x4x128, .f32⟩
  | 8 => ⟨S1x1x4x128, .f32⟩
  | 9 => ⟨S2x8192x4x128, .f32⟩
  | 10 => ⟨S2x8192x4x128, .f32⟩
  | 11 => ⟨S1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S1024x4096, .f32⟩
  | 29 => ⟨S1024x512, .f32⟩
  | 30 => ⟨S2x8192x512, .f32⟩
  | 31 => ⟨S2x8192x512, .f32⟩
  | 32 => ⟨S2x8192x512, .f32⟩
  | 33 => ⟨S2x8192x512, .f32⟩
  | 34 => ⟨S_, .f32⟩
  | 35 => ⟨S2x8192x512, .f32⟩
  | 36 => ⟨S2x8192x512, .f32⟩
  | 37 => ⟨S_, .f32⟩
  | 38 => ⟨S2x8192x512, .f32⟩
  | 39 => ⟨S2x8192x512, .f32⟩
  | 40 => ⟨S2x8192x512, .f32⟩
  | 41 => ⟨S2x8192x512, .f32⟩
  | 42 => ⟨S2x8192x512, .f32⟩
  | 43 => ⟨S2x8192x1024, .f32⟩
  | 44 => ⟨S1024x1024, .f32⟩
  | 45 => ⟨S2x8192x1024, .f32⟩
  | 46 => ⟨S2x8192x1024, .f32⟩
  | 47 => ⟨S2x8192x1024, .f32⟩
  | 48 => ⟨S_, .f32⟩
  | 49 => ⟨S2x8192, .f32⟩
  | 50 => ⟨S2x8192x1, .f32⟩
  | 51 => ⟨S_, .f32⟩
  | 52 => ⟨S2x8192x1, .f32⟩
  | 53 => ⟨S2x8192x1, .f32⟩
  | 54 => ⟨S_, .f32⟩
  | 55 => ⟨S2x8192x1, .f32⟩
  | 56 => ⟨S2x8192x1, .f32⟩
  | 57 => ⟨S2x8192x1, .f32⟩
  | 58 => ⟨S2x8192x1024, .f32⟩
  | 59 => ⟨S2x8192x1024, .f32⟩
  | 60 => ⟨S1x1x1024, .f32⟩
  | 61 => ⟨S2x8192x1024, .f32⟩
  | 62 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_call0_cst : Ref sig .tc := ⟨.hbm, 22, rfl⟩
abbrev main_call0_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_cst_12 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_call2_v0 : Ref sig .tc := ⟨.hbm, 136, rfl⟩
abbrev main_call2_v1 : Ref sig .tc := ⟨.hbm, 137, rfl⟩
abbrev main_call2_cst : Ref sig .tc := ⟨.hbm, 138, rfl⟩
abbrev main_call2_v2 : Ref sig .tc := ⟨.hbm, 139, rfl⟩
abbrev main_call2_v3 : Ref sig .tc := ⟨.hbm, 140, rfl⟩
abbrev main_call2_cst_0 : Ref sig .tc := ⟨.hbm, 141, rfl⟩
abbrev main_call2_v4 : Ref sig .tc := ⟨.hbm, 142, rfl⟩
abbrev main_call2_v5 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_14 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_15 : Ref sig .tc := ⟨.hbm, 163, rfl⟩
abbrev main_v124 : Ref sig .tc := ⟨.hbm, 164, rfl⟩
abbrev main_c : Ref sig .tc := ⟨.hbm, 165, rfl⟩
abbrev main_v125_0 : Ref sig .tc := ⟨.hbm, 166, rfl⟩
abbrev main_v125_1 : Ref sig .tc := ⟨.hbm, 167, rfl⟩
abbrev main_v125_2 : Ref sig .tc := ⟨.hbm, 168, rfl⟩
abbrev main_v125_3 : Ref sig .tc := ⟨.hbm, 169, rfl⟩
abbrev main_v125_4 : Ref sig .tc := ⟨.hbm, 170, rfl⟩
abbrev main_v125_5 : Ref sig .tc := ⟨.hbm, 171, rfl⟩
abbrev main_v125_6 : Ref sig .tc := ⟨.hbm, 172, rfl⟩
abbrev main_v125_7 : Ref sig .tc := ⟨.hbm, 173, rfl⟩
abbrev main_while0c_c_32 : Ref sig .tc := ⟨.hbm, 174, rfl⟩
abbrev main_while0c_v181 : Ref sig .tc := ⟨.hbm, 175, rfl⟩
abbrev main_while0b_call3_c : Ref sig .tc := ⟨.hbm, 176, rfl⟩
abbrev main_while0b_call3_c_0 : Ref sig .tc := ⟨.hbm, 177, rfl⟩
abbrev main_while0b_call3_c_1 : Ref sig .tc := ⟨.hbm, 178, rfl⟩
abbrev main_while0b_call3_c_2 : Ref sig .tc := ⟨.hbm, 179, rfl⟩
abbrev main_while0b_call3_v0 : Ref sig .tc := ⟨.hbm, 180, rfl⟩
abbrev main_while0b_v181 : Ref sig .tc := ⟨.hbm, 181, rfl⟩
abbrev main_while0b_call4_c : Ref sig .tc := ⟨.hbm, 182, rfl⟩
abbrev main_while0b_call4_c_0 : Ref sig .tc := ⟨.hbm, 183, rfl⟩
abbrev main_while0b_call4_c_1 : Ref sig .tc := ⟨.hbm, 184, rfl⟩
abbrev main_while0b_call4_c_2 : Ref sig .tc := ⟨.hbm, 185, rfl⟩
abbrev main_while0b_call4_v0 : Ref sig .tc := ⟨.hbm, 186, rfl⟩
abbrev main_while0b_v182 : Ref sig .tc := ⟨.hbm, 187, rfl⟩
abbrev main_while0b_call5_c : Ref sig .tc := ⟨.hbm, 188, rfl⟩
abbrev main_while0b_call5_c_0 : Ref sig .tc := ⟨.hbm, 189, rfl⟩
abbrev main_while0b_call5_c_1 : Ref sig .tc := ⟨.hbm, 190, rfl⟩
abbrev main_while0b_call5_c_2 : Ref sig .tc := ⟨.hbm, 191, rfl⟩
abbrev main_while0b_call5_v0 : Ref sig .tc := ⟨.hbm, 192, rfl⟩
abbrev main_while0b_v183 : Ref sig .tc := ⟨.hbm, 193, rfl⟩
abbrev main_while0b_call6_c : Ref sig .tc := ⟨.hbm, 194, rfl⟩
abbrev main_while0b_call6_c_0 : Ref sig .tc := ⟨.hbm, 195, rfl⟩
abbrev main_while0b_call6_c_1 : Ref sig .tc := ⟨.hbm, 196, rfl⟩
abbrev main_while0b_call6_c_2 : Ref sig .tc := ⟨.hbm, 197, rfl⟩
abbrev main_while0b_call6_v0 : Ref sig .tc := ⟨.hbm, 198, rfl⟩
abbrev main_while0b_v184 : Ref sig .tc := ⟨.hbm, 199, rfl⟩
abbrev main_while0b_call7_call0_cst : Ref sig .tc := ⟨.hbm, 200, rfl⟩
abbrev main_while0b_call7_call0_v0 : Ref sig .tc := ⟨.hbm, 201, rfl⟩
abbrev main_while0b_v185 : Ref sig .tc := ⟨.hbm, 202, rfl⟩
abbrev main_while0b_v186 : Ref sig .tc := ⟨.hbm, 203, rfl⟩
abbrev main_while0b_v187 : Ref sig .tc := ⟨.hbm, 204, rfl⟩
abbrev main_while0b_v188 : Ref sig .tc := ⟨.hbm, 205, rfl⟩
abbrev main_while0b_v189 : Ref sig .tc := ⟨.hbm, 206, rfl⟩
abbrev main_while0b_v190 : Ref sig .tc := ⟨.hbm, 207, rfl⟩
abbrev main_while0b_v191 : Ref sig .tc := ⟨.hbm, 208, rfl⟩
abbrev main_while0b_v192 : Ref sig .tc := ⟨.hbm, 209, rfl⟩
abbrev main_while0b_v193 : Ref sig .tc := ⟨.hbm, 210, rfl⟩
abbrev main_while0b_cst_32 : Ref sig .tc := ⟨.hbm, 211, rfl⟩
abbrev main_while0b_call8_v0 : Ref sig .tc := ⟨.hbm, 212, rfl⟩
abbrev main_while0b_call8_v1 : Ref sig .tc := ⟨.hbm, 213, rfl⟩
abbrev main_while0b_call8_v2 : Ref sig .tc := ⟨.hbm, 214, rfl⟩
abbrev main_while0b_v194 : Ref sig .tc := ⟨.hbm, 215, rfl⟩
abbrev main_while0b_v195 : Ref sig .tc := ⟨.hbm, 216, rfl⟩
abbrev main_while0b_v196 : Ref sig .tc := ⟨.hbm, 217, rfl⟩
abbrev main_while0b_v197 : Ref sig .tc := ⟨.hbm, 218, rfl⟩
abbrev main_while0b_v198 : Ref sig .tc := ⟨.hbm, 219, rfl⟩
abbrev main_while0b_v199 : Ref sig .tc := ⟨.hbm, 220, rfl⟩
abbrev main_while0b_v200 : Ref sig .tc := ⟨.hbm, 221, rfl⟩
abbrev main_while0b_v201 : Ref sig .tc := ⟨.hbm, 222, rfl⟩
abbrev main_while0b_cst_33 : Ref sig .tc := ⟨.hbm, 223, rfl⟩
abbrev main_while0b_v202 : Ref sig .tc := ⟨.hbm, 224, rfl⟩
abbrev main_while0b_v203 : Ref sig .tc := ⟨.hbm, 225, rfl⟩
abbrev main_while0b_v204 : Ref sig .tc := ⟨.hbm, 226, rfl⟩
abbrev main_while0b_v205 : Ref sig .tc := ⟨.hbm, 227, rfl⟩
abbrev main_while0b_v206 : Ref sig .tc := ⟨.hbm, 228, rfl⟩
abbrev main_while0b_v207 : Ref sig .tc := ⟨.hbm, 229, rfl⟩
abbrev main_while0b_v208 : Ref sig .tc := ⟨.hbm, 230, rfl⟩
abbrev main_while0b_v209 : Ref sig .tc := ⟨.hbm, 231, rfl⟩
abbrev main_while0b_v210 : Ref sig .tc := ⟨.hbm, 232, rfl⟩
abbrev main_while0b_v211 : Ref sig .tc := ⟨.hbm, 233, rfl⟩
abbrev main_while0b_v212 : Ref sig .tc := ⟨.hbm, 234, rfl⟩
abbrev main_while0b_v213 : Ref sig .tc := ⟨.hbm, 235, rfl⟩
abbrev main_while0b_v214 : Ref sig .tc := ⟨.hbm, 236, rfl⟩
abbrev main_while0b_v215 : Ref sig .tc := ⟨.hbm, 237, rfl⟩
abbrev main_while0b_v216 : Ref sig .tc := ⟨.hbm, 238, rfl⟩
abbrev main_while0b_call9_v0 : Ref sig .tc := ⟨.hbm, 239, rfl⟩
abbrev main_while0b_call9_c : Ref sig .tc := ⟨.hbm, 240, rfl⟩
abbrev main_while0b_call9_c_0 : Ref sig .tc := ⟨.hbm, 241, rfl⟩
abbrev main_while0b_call9_c_1 : Ref sig .tc := ⟨.hbm, 242, rfl⟩
abbrev main_while0b_call9_c_2 : Ref sig .tc := ⟨.hbm, 243, rfl⟩
abbrev main_while0b_v217 : Ref sig .tc := ⟨.hbm, 244, rfl⟩
abbrev main_while0b_c_34 : Ref sig .tc := ⟨.hbm, 245, rfl⟩
abbrev main_while0b_v218 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_cst_16 : Ref sig .tc := ⟨.hbm, 252, rfl⟩
abbrev main_v131 : Ref sig .tc := ⟨.hbm, 253, rfl⟩
abbrev main_v132 : Ref sig .tc := ⟨.hbm, 254, rfl⟩
abbrev main_cst_17 : Ref sig .tc := ⟨.hbm, 255, rfl⟩
abbrev main_v133 : Ref sig .tc := ⟨.hbm, 256, rfl⟩
abbrev main_v134 : Ref sig .tc := ⟨.hbm, 257, rfl⟩
abbrev main_cst_18 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_cst_19 : Ref sig .tc := ⟨.hbm, 269, rfl⟩
abbrev main_v145 : Ref sig .tc := ⟨.hbm, 270, rfl⟩
abbrev main_v146 : Ref sig .tc := ⟨.hbm, 271, rfl⟩
abbrev main_cst_20 : Ref sig .tc := ⟨.hbm, 272, rfl⟩
abbrev main_v147 : Ref sig .tc := ⟨.hbm, 273, rfl⟩
abbrev main_v148 : Ref sig .tc := ⟨.hbm, 274, rfl⟩
abbrev main_cst_21 : Ref sig .tc := ⟨.hbm, 275, rfl⟩
abbrev main_v149 : Ref sig .tc := ⟨.hbm, 276, rfl⟩
abbrev main_v150 : Ref sig .tc := ⟨.hbm, 277, rfl⟩
abbrev main_v151 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_call10_v0 : Ref sig .tc := ⟨.hbm, 288, rfl⟩
abbrev main_call10_v1 : Ref sig .tc := ⟨.hbm, 289, rfl⟩
abbrev main_call10_cst : Ref sig .tc := ⟨.hbm, 290, rfl⟩
abbrev main_call10_v2 : Ref sig .tc := ⟨.hbm, 291, rfl⟩
abbrev main_call10_v3 : Ref sig .tc := ⟨.hbm, 292, rfl⟩
abbrev main_call10_cst_0 : Ref sig .tc := ⟨.hbm, 293, rfl⟩
abbrev main_call10_v4 : Ref sig .tc := ⟨.hbm, 294, rfl⟩
abbrev main_call10_v5 : Ref sig .tc := ⟨.hbm, 295, rfl⟩
abbrev main_v161 : Ref sig .tc := ⟨.hbm, 296, rfl⟩
abbrev main_v162 : Ref sig .tc := ⟨.hbm, 297, rfl⟩
abbrev main_v163 : Ref sig .tc := ⟨.hbm, 298, rfl⟩
abbrev main_v164 : Ref sig .tc := ⟨.hbm, 299, rfl⟩
abbrev main_v165 : Ref sig .tc := ⟨.hbm, 300, rfl⟩
abbrev main_v166 : Ref sig .tc := ⟨.hbm, 301, rfl⟩
abbrev main_v167 : Ref sig .tc := ⟨.hbm, 302, rfl⟩
abbrev main_v168 : Ref sig .tc := ⟨.hbm, 303, rfl⟩
abbrev main_cst_22 : Ref sig .tc := ⟨.hbm, 304, rfl⟩
abbrev main_v169 : Ref sig .tc := ⟨.hbm, 305, rfl⟩
abbrev main_v170 : Ref sig .tc := ⟨.hbm, 306, rfl⟩
abbrev main_cst_23 : Ref sig .tc := ⟨.hbm, 307, rfl⟩
abbrev main_v171 : Ref sig .tc := ⟨.hbm, 308, rfl⟩
abbrev main_v172 : Ref sig .tc := ⟨.hbm, 309, rfl⟩
abbrev main_cst_24 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_v176 : Ref sig .tc := ⟨.hbm, 314, rfl⟩
abbrev main_v177 : Ref sig .tc := ⟨.hbm, 315, rfl⟩
abbrev main_v178 : Ref sig .tc := ⟨.hbm, 316, rfl⟩
abbrev main_v179 : Ref sig .tc := ⟨.hbm, 317, rfl⟩
abbrev main_v180 : Ref sig .tc := ⟨.hbm, 318, rfl⟩

abbrev nD : Nat := 1
abbrev τ : Topo := Topo.v7x

variable {F : FTy → Type} [FloatOps F]

abbrev main_while0_count : Scf.Loop 32 := ⟨0#32, 128#32, 1#32⟩
-- ==== Proof.Scalar.lean ====
/- Facts about extended reals the value proof uses: the decay gate of the recurrence written two ways, and the silu
   gate written two ways. No program is mentioned here. -/
module

public import Idealize.ShloMosaic.Lib.Pointwise
public import Mathlib.Analysis.SpecialFunctions.Log.Basic
public import Mathlib.Analysis.SpecialFunctions.Pow.Real

@[expose] public section

noncomputable section

namespace Cert.Hgrn

open Idealize.ShloMosaic

/-- The absolute value as the instance writes it. -/
def eabs (x : EReal) : EReal := max x (-x)

/-- `logaddexp`: the logarithm of a sum of exponentials. -/
def lse (x y : EReal) : EReal := max x y + Ideal.log1p (Ideal.exp (-(eabs (x - y))))

/-- The logarithm of the forget gate, as the reference writes it: of the lower bound `l` and the logit `p`. -/
def logGate (l p : EReal) : EReal := lse (Ideal.log l) (Ideal.log1p (-l) - lse (-p) 0)

/-- The forget gate as the kernel writes it, `h` being one half. -/
def gate (h l p : EReal) : EReal := h * (1 + l) + h * (1 - l) * Ideal.tanh (h * p)

theorem eabs_coe (x : ℝ) : eabs (x : EReal) = ((|x| : ℝ) : EReal) := by
  unfold eabs
  rw [← EReal.coe_neg]
  rcases le_total 0 x with h | h
  · rw [abs_of_nonneg h, max_eq_left (EReal.coe_le_coe_iff.mpr (by linarith))]
  · rw [abs_of_nonpos h, max_eq_right (EReal.coe_le_coe_iff.mpr (by linarith))]

theorem log_pos_coe (x : ℝ) (h : 0 < x) : Ideal.log (x : EReal) = (Real.log x : EReal) := by
  rw [Ideal.log_coe, if_neg (not_le.mpr h)]

theorem log1p_coe (x : ℝ) (h : 0 < 1 + x) : Ideal.log1p (x : EReal) = (Real.log (1 + x) : EReal) := by
  unfold Ideal.log1p
  rw [← EReal.coe_one, ← EReal.coe_add, log_pos_coe _ h]

/-- `lse` of two reals. -/
theorem lse_coe (x y : ℝ) : lse (x : EReal) (y : EReal) = (Real.log (Real.exp x + Real.exp y) : EReal) := by
  unfold lse
  rw [← EReal.coe_sub, eabs_coe, ← EReal.coe_neg, Ideal.exp_coe, log1p_coe _ (by positivity)]
  rcases le_total x y with h | h
  · rw [max_eq_right (EReal.coe_le_coe_iff.mpr h), ← EReal.coe_add, abs_of_nonpos (by linarith)]
    congr 1
    have : Real.exp x + Real.exp y = Real.exp y * (1 + Real.exp (- -(x - y))) := by
      rw [mul_add, mul_one, ← Real.exp_add]; ring_nf
    rw [this, Real.log_mul (Real.exp_pos y).ne' (by positivity), Real.log_exp]
  · rw [max_eq_left (EReal.coe_le_coe_iff.mpr h), ← EReal.coe_add, abs_of_nonneg (by linarith)]
    congr 1
    have : Real.exp x + Real.exp y = Real.exp x * (1 + Real.exp (-(x - y))) := by
      rw [mul_add, mul_one, ← Real.exp_add]; ring_nf
    rw [this, Real.log_mul (Real.exp_pos x).ne' (by positivity), Real.log_exp]

theorem log_one_zero : Ideal.log (1 : EReal) = 0 := by
  rw [← EReal.coe_one, log_pos_coe _ one_pos, Real.log_one, EReal.coe_zero]

theorem log1p_zero : Ideal.log1p (0 : EReal) = 0 := by
  unfold Ideal.log1p; rw [add_zero, log_one_zero]

/-- `lse` at `-∞` on the right. -/
theorem lse_bot (x : ℝ) : lse (x : EReal) ⊥ = x := by
  unfold lse eabs
  rw [EReal.coe_sub_bot, max_eq_left le_top, EReal.neg_top, Ideal.exp_bot, log1p_zero, add_zero, max_eq_left bot_le]

theorem lse_top_zero : lse ⊤ 0 = ⊤ := by
  unfold lse eabs
  rw [sub_zero, max_eq_left le_top, max_eq_left le_top, EReal.neg_top, Ideal.exp_bot, log1p_zero, add_zero]

theorem lse_bot_zero : lse ⊥ 0 = 0 := by
  unfold lse eabs
  rw [sub_zero, EReal.neg_bot, max_eq_right bot_le, max_eq_right le_top, EReal.neg_top, Ideal.exp_bot, log1p_zero, add_zero]

/-- The gate as a real: between the lower bound and one, the kernel's form and the reference's logarithm of it. -/
theorem gate_spec (l : ℝ) (h0 : 0 < l) (h1 : l < 1) (p : EReal) :
    ∃ f : ℝ, l ≤ f ∧ f ≤ 1 ∧ gate ((1 / 2 : ℝ) : EReal) l p = f ∧ logGate l p = (Real.log f : EReal) := by
  have hl1 : Ideal.log1p (-(l : EReal)) = (Real.log (1 - l) : EReal) := by
    rw [← EReal.coe_neg, log1p_coe _ (by linarith)]; ring_nf
  induction p using EReal.rec with
  | bot =>
    refine ⟨l, le_refl _, h1.le, ?_, ?_⟩
    · unfold gate
      rw [EReal.coe_mul_bot_of_pos (by norm_num), Ideal.tanh_bot]
      rw [show (-1 : EReal) = ((-1 : ℝ) : EReal) by rw [EReal.coe_neg, EReal.coe_one], ← EReal.coe_one]
      simp only [← EReal.coe_add, ← EReal.coe_sub, ← EReal.coe_mul]
      congr 1; ring
    · unfold logGate
      rw [EReal.neg_bot, lse_top_zero, hl1, show ((Real.log (1 - l) : ℝ) : EReal) - ⊤ = ⊥ from rfl, log_pos_coe _ h0, lse_bot]
  | top =>
    refine ⟨1, h1.le, le_refl _, ?_, ?_⟩
    · unfold gate
      rw [EReal.coe_mul_top_of_pos (by norm_num), Ideal.tanh_top, ← EReal.coe_one]
      simp only [← EReal.coe_add, ← EReal.coe_sub, ← EReal.coe_mul]
      congr 1; ring
    · unfold logGate
      rw [EReal.neg_top, lse_bot_zero, hl1, sub_zero, log_pos_coe _ h0, lse_coe, Real.exp_log h0,
        Real.exp_log (by linarith)]
      congr 2; ring
  | coe p =>
    have hE := Real.exp_pos (-p)
    have hden : 0 < 1 + Real.exp (-p) := by linarith
    refine ⟨l + (1 - l) / (1 + Real.exp (-p)), ?_, ?_, ?_, ?_⟩
    · have : 0 < (1 - l) / (1 + Real.exp (-p)) := div_pos (by linarith) hden
      linarith
    · have : (1 - l) / (1 + Real.exp (-p)) ≤ 1 - l := div_le_self (by linarith) (by linarith)
      linarith
    · unfold gate
      rw [← EReal.coe_mul, Ideal.tanh_coe, ← EReal.coe_one]
      simp only [← EReal.coe_add, ← EReal.coe_sub, ← EReal.coe_mul]
      congr 1
      have ht : Real.tanh (1 / 2 * p) = (1 - Real.exp (-p)) / (1 + Real.exp (-p)) := by
        rw [Real.tanh_eq]
        have e1 : Real.exp (-(1 / 2 * p)) = Real.exp (1 / 2 * p) * Real.exp (-p) := by
          rw [← Real.exp_add]; ring_nf
        rw [e1, ← mul_one_sub, ← mul_one_add, mul_div_mul_left _ _ (Real.exp_pos _).ne']
      rw [ht]
      field_simp
      ring
    · unfold logGate
      rw [hl1, ← EReal.coe_neg p, ← EReal.coe_zero, lse_coe, ← EReal.coe_sub, log_pos_coe _ h0, lse_coe, Real.exp_log h0]
      congr 2
      rw [Real.exp_sub, Real.exp_log (by linarith), Real.exp_log (by positivity), Real.exp_zero, add_comm (Real.exp (-p))]

/-- `silu` written with a hyperbolic tangent, and written with an exponential. -/
theorem silu_spec (p : EReal) :
    p * (((1 / 2 : ℝ) : EReal) * Ideal.tanh (((1 / 2 : ℝ) : EReal) * p) + ((1 / 2 : ℝ) : EReal))
      = p * Ideal.div 1 (1 + Ideal.exp (-p)) := by
  have d1 : ∀ x : ℝ, 0 < x → Ideal.div 1 (x : EReal) = ((x⁻¹ : ℝ) : EReal) := by
    intro x hx
    unfold Ideal.div
    rw [if_neg (by intro h; exact hx.ne' (EReal.coe_eq_zero.mp h)), one_mul, EReal.coe_inv]
  induction p using EReal.rec with
  | bot =>
    rw [EReal.coe_mul_bot_of_pos (by norm_num), Ideal.tanh_bot, EReal.neg_bot, Ideal.exp_top]
    have e1 : (((1 / 2 : ℝ) : EReal) * (-1) + ((1 / 2 : ℝ) : EReal)) = 0 := by
      rw [show (-1 : EReal) = ((-1 : ℝ) : EReal) by rw [EReal.coe_neg, EReal.coe_one]]
      rw [← EReal.coe_mul, ← EReal.coe_add, ← EReal.coe_zero]
      congr 1; ring
    have e2 : (1 : EReal) + ⊤ = ⊤ := by rw [← EReal.coe_one]; exact EReal.coe_add_top 1
    rw [e1, e2]
    unfold Ideal.div
    rw [if_neg (by simp), EReal.inv_top, mul_zero, one_mul, mul_zero]
  | top =>
    rw [EReal.coe_mul_top_of_pos (by norm_num), Ideal.tanh_top, EReal.neg_top, Ideal.exp_bot, add_zero]
    have e1 : (((1 / 2 : ℝ) : EReal) * 1 + ((1 / 2 : ℝ) : EReal)) = 1 := by
      rw [mul_one, ← EReal.coe_add, ← EReal.coe_one]
      congr 1; ring
    rw [e1]
    have := d1 1 one_pos
    rw [EReal.coe_one] at this
    rw [this, inv_one, EReal.coe_one]
  | coe p =>
    have hE := Real.exp_pos (-p)
    have hden : 0 < 1 + Real.exp (-p) := by linarith
    rw [← EReal.coe_neg, Ideal.exp_coe]
    have e2 : (1 : EReal) + (Real.exp (-p) : EReal) = ((1 + Real.exp (-p) : ℝ) : EReal) := by
      rw [EReal.coe_add, EReal.coe_one]
    rw [e2, d1 _ hden, ← EReal.coe_mul (1 / 2) p, Ideal.tanh_coe, ← EReal.coe_mul (1 / 2), ← EReal.coe_add]
    congr 2
    have ht : Real.tanh (1 / 2 * p) = (1 - Real.exp (-p)) / (1 + Real.exp (-p)) := by
      rw [Real.tanh_eq]
      have e1 : Real.exp (-(1 / 2 * p)) = Real.exp (1 / 2 * p) * Real.exp (-p) := by
        rw [← Real.exp_add]; ring_nf
      rw [e1, ← mul_one_sub, ← mul_one_add, mul_div_mul_left _ _ (Real.exp_pos _).ne']
    rw [ht]
    field_simp
    ring

end Cert.Hgrn

end
-- ==== Proof.Decay.lean ====
/- One chunk of the recurrence: cumulative decays, and the scores of a chunk written level by level against the scores
   written with one exponential per pair. No program is mentioned here. -/
module

public import proofs.«01_k».proof.Proof.Scalar

@[expose] public section

noncomputable section

namespace Cert.Hgrn

open Idealize.ShloMosaic

/-- The cumulative sum of a chunk's logarithms, up to and with row `t`. -/
def cum (g : Fin 64 → ℝ) (t : Fin 64) : ℝ := ∑ s : Fin 64, if s ≤ t then g s else 0

/-- Cumulative sums of nonpositive numbers fall. -/
theorem cum_anti {g : Fin 64 → ℝ} (hg : ∀ s, g s ≤ 0) {s t : Fin 64} (h : s ≤ t) : cum g t ≤ cum g s := by
  unfold cum
  refine Finset.sum_le_sum fun i _ => ?_
  by_cases h1 : i ≤ s
  · rw [if_pos h1, if_pos (h1.trans h)]
  · rw [if_neg h1]
    split
    · exact hg i
    · exact le_refl _

/-- Two to the power of a number of bits. -/
theorem exp2_bits (x : ℝ) : Ideal.exp2 ((x * (Real.log 2)⁻¹ : ℝ) : EReal) = (Real.exp x : EReal) := by
  rw [Ideal.exp2_coe]
  congr 1
  show (2 : ℝ) ^ (x * (Real.log 2)⁻¹) = _
  have h2 : Real.log 2 ≠ 0 := (Real.log_pos (by norm_num)).ne'
  rw [Real.rpow_def_of_pos (by norm_num : (0 : ℝ) < 2)]
  congr 1
  field_simp

/-- Two to the power of minus the distance of two numbers of bits. -/
theorem exp2_dist (x y : ℝ) :
    Ideal.exp2 (0 - eabs (((x * (Real.log 2)⁻¹ : ℝ) : EReal) - ((y * (Real.log 2)⁻¹ : ℝ) : EReal)))
      = (Real.exp (-|x - y|) : EReal) := by
  rw [← EReal.coe_sub, eabs_coe, ← EReal.coe_zero, ← EReal.coe_sub]
  have h2 : 0 < (Real.log 2)⁻¹ := inv_pos.mpr (Real.log_pos (by norm_num))
  rw [← sub_mul, abs_mul, abs_of_pos h2, zero_sub, ← neg_mul, exp2_bits]

/-- The level of a pair of rows of a chunk: 0 in one block of eight, 1 2 3 across the halves of a block of 16 32 64, 4 after. -/
def level (t s : Fin 64) : ℕ :=
  if t.val < s.val then 4
  else if t.val / 8 = s.val / 8 then 0
  else if t.val / 16 = s.val / 16 then 1
  else if t.val / 32 = s.val / 32 then 2
  else 3

/-- The row a level measures its decays from. -/
def pivot1 (t : Fin 64) : Fin 64 := ⟨t.val / 16 * 16 + 7, by omega⟩
/-- The row a level measures its decays from. -/
def pivot2 (t : Fin 64) : Fin 64 := ⟨t.val / 32 * 32 + 15, by omega⟩
/-- The row a level measures its decays from. -/
def pivot3 (t : Fin 64) : Fin 64 := ⟨31, by omega⟩

/-- The decay from `s` to `t` through a row between them. -/
theorem through {g : Fin 64 → ℝ} (hg : ∀ s, g s ≤ 0) {s r t : Fin 64} (h1 : s ≤ r) (h2 : r ≤ t) :
    Real.exp (-|cum g t - cum g r|) * Real.exp (-|cum g s - cum g r|) = Real.exp (cum g t - cum g s) := by
  have a := cum_anti hg h1
  have b := cum_anti hg h2
  rw [← Real.exp_add, abs_of_nonpos (by linarith), abs_of_nonneg (by linarith)]
  congr 1; ring

/-- Three factors of a score put in the reference's order. -/
theorem regroup (a b : EReal) (x y z : ℝ) (h : x * y = z) :
    (a * (x : EReal)) * (b * (y : EReal)) = a * (z : EReal) * b := by
  rw [← h, EReal.coe_mul]
  rw [mul_mul_mul_comm, mul_comm a b, mul_comm (b * a), mul_comm b a, ← mul_assoc, mul_comm _ a, ← mul_assoc]

/-- A score of the chunk as the reference writes it. -/
def score (q k : Fin 64 → Fin 128 → EReal) (g : Fin 64 → Fin 128 → ℝ) (t s : Fin 64) : EReal :=
  ∑ d : Fin 128, q t d * Ideal.exp (if s ≤ t then ((cum (fun r => g r d) t - cum (fun r => g r d) s : ℝ) : EReal) else ⊥) * k s d

/-- A score of the chunk as the kernel writes it: the weights `e0` inside a block of eight, `w1 w2 w3` of the levels. -/
def scoreK (q k e0 f0 w1 w2 w3 : Fin 64 → Fin 128 → EReal) (t s : Fin 64) : EReal :=
  if level t s = 3 then ∑ d, q t d * w3 t d * (k s d * w3 s d)
  else if level t s = 2 then ∑ d, q t d * w2 t d * (k s d * w2 s d)
  else if level t s = 1 then ∑ d, q t d * w1 t d * (k s d * w1 s d)
  else if level t s = 0 then ∑ d, q t d * e0 t d * (k s d * f0 s d)
  else 0

/-- The two forms of a score agree. -/
theorem scoreK_eq (q k e0 f0 w1 w2 w3 : Fin 64 → Fin 128 → EReal) (g : Fin 64 → Fin 128 → ℝ) (hg : ∀ s d, g s d ≤ 0)
    (e : Fin 64 → Fin 128 → ℝ)
    (he : ∀ t s d, t.val / 8 = s.val / 8 → e t d - e s d = cum (fun r => g r d) t - cum (fun r => g r d) s)
    (h0 : ∀ t d, e0 t d = (Real.exp (e t d) : EReal)) (h0' : ∀ t d, f0 t d = (Real.exp (-(e t d)) : EReal))
    (h1 : ∀ t d, w1 t d = (Real.exp (-|cum (fun r => g r d) t - cum (fun r => g r d) (pivot1 t)|) : EReal))
    (h2 : ∀ t d, w2 t d = (Real.exp (-|cum (fun r => g r d) t - cum (fun r => g r d) (pivot2 t)|) : EReal))
    (h3 : ∀ t d, w3 t d = (Real.exp (-|cum (fun r => g r d) t - cum (fun r => g r d) (pivot3 t)|) : EReal))
    (t s : Fin 64) : scoreK q k e0 f0 w1 w2 w3 t s = score q k g t s := by
  unfold scoreK score
  by_cases hts : t.val < s.val
  · have hn : ¬ s ≤ t := fun h => absurd (Fin.le_def.mp h) (by omega)
    have h4 : level t s = 4 := by unfold level; rw [if_pos hts]
    rw [h4, if_neg (by decide), if_neg (by decide), if_neg (by decide), if_neg (by decide)]
    refine (Finset.sum_eq_zero fun d _ => ?_).symm
    rw [if_neg hn, Ideal.exp_bot, mul_zero, zero_mul]
  · have hle : s ≤ t := Fin.le_def.mpr (by omega)
    simp only [if_pos hle, Ideal.exp_coe]
    by_cases c0 : t.val / 8 = s.val / 8
    · have : level t s = 0 := by unfold level; rw [if_neg hts, if_pos c0]
      rw [this, if_neg (by decide), if_neg (by decide), if_neg (by decide), if_pos rfl]
      refine Finset.sum_congr rfl fun d _ => ?_
      rw [h0, h0']
      refine regroup _ _ _ _ _ ?_
      rw [← Real.exp_add, ← he t s d c0]
      congr 1
    · by_cases c1 : t.val / 16 = s.val / 16
      · have : level t s = 1 := by unfold level; rw [if_neg hts, if_neg c0, if_pos c1]
        rw [this, if_neg (by decide), if_neg (by decide), if_pos rfl]
        refine Finset.sum_congr rfl fun d _ => ?_
        have hp : pivot1 s = pivot1 t := Fin.ext (by show s.val / 16 * 16 + 7 = t.val / 16 * 16 + 7; omega)
        rw [h1, h1, hp]
        exact regroup _ _ _ _ _ (through (fun s => hg s d)
          (Fin.le_def.mpr (by show s.val ≤ t.val / 16 * 16 + 7; omega))
          (Fin.le_def.mpr (by show t.val / 16 * 16 + 7 ≤ t.val; omega)))
      · by_cases c2 : t.val / 32 = s.val / 32
        · have : level t s = 2 := by unfold level; rw [if_neg hts, if_neg c0, if_neg c1, if_pos c2]
          rw [this, if_neg (by decide), if_pos rfl]
          refine Finset.sum_congr rfl fun d _ => ?_
          have hp : pivot2 s = pivot2 t := Fin.ext (by show s.val / 32 * 32 + 15 = t.val / 32 * 32 + 15; omega)
          rw [h2, h2, hp]
          exact regroup _ _ _ _ _ (through (fun s => hg s d)
            (Fin.le_def.mpr (by show s.val ≤ t.val / 32 * 32 + 15; omega))
            (Fin.le_def.mpr (by show t.val / 32 * 32 + 15 ≤ t.val; omega)))
        · have : level t s = 3 := by unfold level; rw [if_neg hts, if_neg c0, if_neg c1, if_neg c2]
          rw [this, if_pos rfl]
          refine Finset.sum_congr rfl fun d _ => ?_
          have hp : pivot3 s = pivot3 t := rfl
          rw [h3, h3, hp]
          exact regroup _ _ _ _ _ (through (fun s => hg s d)
            (Fin.le_def.mpr (by show s.val ≤ 31; omega))
            (Fin.le_def.mpr (by show 31 ≤ t.val; omega)))

/-- Twice the coefficient of a half-row: cumulative sums above, sums centred in each block of eight below. -/
def coefZ (i : Fin 128) (s : Fin 64) : ℤ :=
  if i.val < 64 then (if s.val ≤ i.val then 2 else 0)
  else if s.val ≤ i.val - 64 then
    (if s.val ≤ (i.val - 64) / 8 * 8 then 0 else if s.val ≤ (i.val - 64) / 8 * 8 + 7 then 1 else 2)
  else
    (if s.val ≤ (i.val - 64) / 8 * 8 then -2 else if s.val ≤ (i.val - 64) / 8 * 8 + 7 then -1 else 0)

/-- The rows of the coefficient product, as reals: `x` the chunk's logarithms. -/
def mix (g : Fin 64 → ℝ) (i : Fin 128) : ℝ := ∑ s : Fin 64, ((coefZ i s : ℝ) / 2) * g s

theorem mix_top (g : Fin 64 → ℝ) (t : Fin 64) : mix g ⟨t.val, by omega⟩ = cum g t := by
  unfold mix cum
  refine Finset.sum_congr rfl fun s _ => ?_
  unfold coefZ
  have ht : t.val < 64 := t.isLt
  simp only [ht, if_true]
  by_cases h : s.val ≤ t.val
  · rw [if_pos h, if_pos (Fin.le_def.mpr h)]; norm_num
  · rw [if_neg h, if_neg (fun h' => h (Fin.le_def.mp h'))]; norm_num

/-- Inside a block of eight the centred rows differ as the cumulative sums do. -/
theorem mix_diff (g : Fin 64 → ℝ) (t s : Fin 64) (h : t.val / 8 = s.val / 8) :
    mix g ⟨64 + t.val, by omega⟩ - mix g ⟨64 + s.val, by omega⟩ = cum g t - cum g s := by
  rw [← mix_top, ← mix_top]
  unfold mix
  rw [← Finset.sum_sub_distrib, ← Finset.sum_sub_distrib]
  refine Finset.sum_congr rfl fun r _ => ?_
  rw [← sub_mul, ← sub_mul]
  congr 1
  have key : coefZ ⟨64 + t.val, by omega⟩ r - coefZ ⟨64 + s.val, by omega⟩ r
      = coefZ ⟨t.val, by omega⟩ r - coefZ ⟨s.val, by omega⟩ r := by
    unfold coefZ
    have ht : t.val < 64 := t.isLt
    have hs : s.val < 64 := s.isLt
    simp only [ht, hs, if_true, show ¬ (64 + t.val < 64) by omega, show ¬ (64 + s.val < 64) by omega, if_false,
      Nat.add_sub_cancel_left]
    split_ifs <;> omega
  have key' : ((coefZ ⟨64 + t.val, by omega⟩ r : ℤ) : ℝ) - ((coefZ ⟨64 + s.val, by omega⟩ r : ℤ) : ℝ)
      = ((coefZ ⟨t.val, by omega⟩ r : ℤ) : ℝ) - ((coefZ ⟨s.val, by omega⟩ r : ℤ) : ℝ) := by
    exact_mod_cast key
  linarith

end Cert.Hgrn

end
-- ==== Proof.Window.lean ====
/- The reference's running sums along an axis, at the exact reals: a window of the whole axis padded low by one less. -/
module

public import proofs.«01_k».proof.Proof.Scalar

@[expose] public section

noncomputable section

namespace Cert.Hgrn

open Idealize.ShloMosaic

/-- A window sum is the initial value and the sum over the window's positions. -/
theorem window_sum {s t : Shape} (window strides lo hi : Fin s.rank → Nat) (h : s.ReduceWindows window strides lo hi t)
    (x : s.Idx → EReal) (j : t.Idx) :
    Ideal.hostReduceWindowAdd window strides lo hi h x 0 j
      = ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0) := by
  rw [sum_idx_eq_foldl]
  unfold Ideal.hostReduceWindowAdd Host.reduceWindow
  refine congrArg (fun f => List.foldl f 0 _) (funext fun r => funext fun n => ?_)
  refine congrArg (r + ·) ?_
  split <;> rfl

/-- Positions of a window of 64 padded low by 63, read as rows. -/
theorem window64 (g : ℕ → EReal) (t : ℕ) (ht : t < 64) :
    (∑ x : Fin 64, if 63 ≤ t + x.val then g (t + x.val - 63) else 0) = ∑ s : Fin 64, if s.val ≤ t then g s.val else 0 := by
  rw [Fin.sum_univ_eq_sum_range (fun x => if 63 ≤ t + x then g (t + x - 63) else 0) 64,
    Fin.sum_univ_eq_sum_range (fun s => if s ≤ t then g s else 0) 64, ← Finset.sum_filter, ← Finset.sum_filter]
  refine Finset.sum_bij' (fun x _ => t + x - 63) (fun s _ => s + 63 - t) ?_ ?_ ?_ ?_ ?_ <;>
    intro a ha <;> simp only [Finset.mem_filter, Finset.mem_range] at ha ⊢
  · omega
  · omega
  · omega
  · omega

/-- The running sum along the third of four axes. -/
theorem cumsum_third (h : (⟨4, ![2, 4, 64, 128]⟩ : Shape).ReduceWindows (![1, 1, 64, 1] : Fin 4 → Nat) ![1, 1, 1, 1] ![0, 0, 63, 0] ![0, 0, 0, 0] ⟨4, ![2, 4, 64, 128]⟩)
    (x : (⟨4, ![2, 4, 64, 128]⟩ : Shape).Idx → EReal) (b : Fin 2) (n : Fin 4) (t : Fin 64) (d : Fin 128) :
    Ideal.hostReduceWindowAdd ![1, 1, 64, 1] ![1, 1, 1, 1] ![0, 0, 63, 0] ![0, 0, 0, 0] h x 0 (ix4 b n t d)
      = ∑ s : Fin 64, if s ≤ t then x (ix4 b n s d) else 0 := by
  rw [window_sum]
  refine (sum_idx4 (n0 := 1) (n1 := 1) (n2 := 64) (n3 := 1) _).trans ?_
  rw [Fin.sum_univ_one, Fin.sum_univ_one]
  simp only [Fin.sum_univ_one]
  have ht := t.isLt
  refine Eq.trans (Finset.sum_congr rfl fun y _ => ?_)
    ((window64 (fun m => if h : m < 64 then x (ix4 b n ⟨m, h⟩ d) else 0) t.val t.isLt).trans
      (Finset.sum_congr rfl fun s _ => ?_))
  · have hy := y.isLt
    by_cases c : 63 ≤ t.val + y.val
    · rw [if_pos c, dif_pos (show t.val + y.val - 63 < 64 by omega), dif_pos]
      · refine congrArg x (funext fun a => Fin.ext ?_)
        match a with
        | ⟨0, _⟩ => show b.val * 1 + 0 - 0 = b.val; omega
        | ⟨1, _⟩ => show n.val * 1 + 0 - 0 = n.val; omega
        | ⟨2, _⟩ => show t.val * 1 + y.val - 63 = t.val + y.val - 63; omega
        | ⟨3, _⟩ => show d.val * 1 + 0 - 0 = d.val; omega
      · intro a
        match a with
        | ⟨0, _⟩ => show 0 ≤ b.val * 1 + 0 ∧ b.val * 1 + 0 - 0 < 2; omega
        | ⟨1, _⟩ => show 0 ≤ n.val * 1 + 0 ∧ n.val * 1 + 0 - 0 < 4; omega
        | ⟨2, _⟩ => show 63 ≤ t.val * 1 + y.val ∧ t.val * 1 + y.val - 63 < 64; omega
        | ⟨3, _⟩ => show 0 ≤ d.val * 1 + 0 ∧ d.val * 1 + 0 - 0 < 128; omega
    · rw [if_neg c, dif_neg]
      intro h'
      have h2 : 63 ≤ t.val * 1 + y.val := (h' 2).1
      omega
  · rw [dif_pos s.isLt]
    by_cases c : s ≤ t
    · rw [if_pos c, if_pos (Fin.le_def.mp c)]
    · rw [if_neg c, if_neg (fun h' => c (Fin.le_def.mpr h'))]

/-- The first row of a running sum along the first of two axes. -/
theorem cumsum_first (h : (⟨2, ![2, 512]⟩ : Shape).ReduceWindows (![2, 1] : Fin 2 → Nat) ![1, 1] ![1, 0] ![0, 0] ⟨2, ![2, 512]⟩)
    (x : (⟨2, ![2, 512]⟩ : Shape).Idx → EReal) (d : Fin 512) :
    Ideal.hostReduceWindowAdd ![2, 1] ![1, 1] ![1, 0] ![0, 0] h x 0 (ix2 0 d) = x (ix2 0 d) := by
  have hd := d.isLt
  rw [window_sum]
  refine (sum_idx2 (n0 := 2) (n1 := 1) _).trans ?_
  simp only [Fin.sum_univ_two, Fin.sum_univ_one]
  rw [dif_neg (fun h' => by
      have h2 : 1 ≤ 0 * 1 + 0 := (h' 0).1
      omega), dif_pos (fun a => by
      match a with
      | ⟨0, _⟩ => show 1 ≤ 0 * 1 + 1 ∧ 0 * 1 + 1 - 1 < 2; omega
      | ⟨1, _⟩ => show 0 ≤ d.val * 1 + 0 ∧ d.val * 1 + 0 - 0 < 512; omega), zero_add]
  refine congrArg x (funext fun a => Fin.ext ?_)
  match a with
  | ⟨0, _⟩ => rfl
  | ⟨1, _⟩ => show d.val * 1 + 0 - 0 = d.val; omega

end Cert.Hgrn
end
-- ==== Proof.Spec.lean ====
/- The layer's last call as mathematics over extended reals: the projections of the normalised rows, the decay gates, the
   chunked recurrence, the per-head norm, the output projection and the last norm. Both programs are read to these. -/
module

public import proofs.«01_k».proof.Proof.Decay
public import proofs.«01_k».proof.Proof.Window

@[expose] public section

noncomputable section

namespace Cert.Hgrn

open Idealize.ShloMosaic

/-- The word of 1024. -/
abbrev nD : EReal := Ideal.ofBits FTy.f32 1149239296#32
/-- The word of 128. -/
abbrev nH : EReal := Ideal.ofBits FTy.f32 1124073472#32
/-- The word of the norms' small number. -/
abbrev eps : EReal := Ideal.ofBits FTy.f32 897988541#32
/-- The word of the largest lower bound of a gate. -/
abbrev top1 : EReal := Ideal.ofBits FTy.f32 1065353199#32

/-- What the call is given. -/
structure Args where
  X : Fin 2 → Fin 8192 → Fin 1024 → EReal
  NW : Fin 1024 → EReal
  W : Fin 1024 → Fin 4096 → EReal
  L : Fin 2 → Fin 512 → EReal
  GN : Fin 512 → EReal
  OAT : Fin 2 → Fin 8192 → Fin 512 → EReal
  WO : Fin 1024 → Fin 1024 → EReal
  FW : Fin 1024 → EReal

variable (a : Args)

/-- The normalised row. -/
def Args.u (b : Fin 2) (t : Fin 8192) (x : Fin 1024) : EReal :=
  a.X b t x * Ideal.rsqrt (Ideal.div (∑ y, a.X b t y * a.X b t y) nD + eps) * a.NW x

/-- The projection onto a column of the weights. -/
def Args.p (b : Fin 2) (t : Fin 8192) (j : Fin 4096) : EReal := ∑ x, a.u b t x * a.W x j

/-- The largest logit of a column. -/
def Args.lmax (n : Fin 512) : EReal := max (a.L 0 n) (a.L 1 n)

/-- The gate's lower bound: the first row of the softmax over the layers, clipped. -/
def Args.lb (n : Fin 512) : EReal :=
  min top1 (max eps (Ideal.div (Ideal.exp (a.L 0 n - a.lmax n))
    (Ideal.exp (a.L 0 n - a.lmax n) + Ideal.exp (a.L 1 n - a.lmax n))))

/-- The gate of a row and a column of the gates' section. -/
def Args.f (b : Fin 2) (t : Fin 8192) (n : Fin 512) : ℝ :=
  (gate ((1 / 2 : ℝ) : EReal) (a.lb n) (a.p b t ⟨512 + n.val, by omega⟩)).toReal

/-- A projection times its logistic. -/
def silu (p : EReal) : EReal := p * Ideal.div 1 (1 + Ideal.exp (-p))

/-- The row `t` of chunk `c`. -/
def row (c : ℕ) (t : Fin 64) : Fin 8192 := ⟨(c * 64 + t.val) % 8192, Nat.mod_lt _ (by norm_num)⟩
/-- The column `d` of head `h`. -/
def col (h : Fin 4) (d : Fin 128) : Fin 512 := ⟨h.val * 128 + d.val, by omega⟩

/-- The queries of a chunk. -/
def Args.Q (b : Fin 2) (h : Fin 4) (c : ℕ) (t : Fin 64) (d : Fin 128) : EReal :=
  silu (a.p b (row c t) ⟨(col h d).val, by have := (col h d).isLt; omega⟩)
/-- The logarithms of a chunk's gates. -/
def Args.G (b : Fin 2) (h : Fin 4) (c : ℕ) (t : Fin 64) (d : Fin 128) : ℝ := Real.log (a.f b (row c t) (col h d))
/-- The keys of a chunk. -/
def Args.K (b : Fin 2) (h : Fin 4) (c : ℕ) (t : Fin 64) (d : Fin 128) : EReal := ((1 - a.f b (row c t) (col h d) : ℝ) : EReal)
/-- The values of a chunk. -/
def Args.V (b : Fin 2) (h : Fin 4) (c : ℕ) (t : Fin 64) (d : Fin 128) : EReal :=
  a.p b (row c t) ⟨1024 + (col h d).val, by have := (col h d).isLt; omega⟩

/-- What a chunk adds to the state. -/
def gain (k v : Fin 64 → Fin 128 → EReal) (g : Fin 64 → Fin 128 → ℝ) (i j : Fin 128) : EReal :=
  ∑ t : Fin 64, k t i * ((Real.exp (cum (fun r => g r i) 63 - cum (fun r => g r i) t) : ℝ) : EReal) * v t j

/-- What a chunk keeps of the state. -/
def keep (g : Fin 64 → Fin 128 → ℝ) (i : Fin 128) : EReal := ((Real.exp (cum (fun r => g r i) 63) : ℝ) : EReal)

/-- The state before chunk `c`. -/
def Args.S (b : Fin 2) (h : Fin 4) : ℕ → Fin 128 → Fin 128 → EReal
  | 0 => fun _ _ => 0
  | c + 1 => fun i j => keep (a.G b h c) i * Args.S b h c i j + gain (a.K b h c) (a.V b h c) (a.G b h c) i j

/-- What the state gives a chunk's row. -/
def inter (q : Fin 64 → Fin 128 → EReal) (g : Fin 64 → Fin 128 → ℝ) (s : Fin 128 → Fin 128 → EReal) (t : Fin 64) (j : Fin 128) : EReal :=
  ∑ i, q t i * ((Real.exp (cum (fun r => g r i) t) : ℝ) : EReal) * s i j

/-- What a chunk's own rows give one of them. -/
def intra (q k v : Fin 64 → Fin 128 → EReal) (g : Fin 64 → Fin 128 → ℝ) (t : Fin 64) (j : Fin 128) : EReal :=
  ∑ s, score q k g t s * v s j

/-- The recurrence's output. -/
def Args.O (b : Fin 2) (h : Fin 4) (c : ℕ) (t : Fin 64) (j : Fin 128) : EReal :=
  inter (a.Q b h c) (a.G b h c) (a.S b h c) t j + intra (a.Q b h c) (a.K b h c) (a.V b h c) (a.G b h c) t j

/-- The branch's output: the head's norm, its weights and the gate. -/
def Args.ohg (b : Fin 2) (c : ℕ) (t : Fin 64) (h : Fin 4) (j : Fin 128) : EReal :=
  a.O b h c t j * Ideal.rsqrt (Ideal.div (∑ y, a.O b h c t y * a.O b h c t y) nH + eps) * a.GN (col h j)
    * silu (a.p b (row c t) ⟨1536 + (col h j).val, by have := (col h j).isLt; omega⟩)

/-- The residual row after the output projection. -/
def Args.res (b : Fin 2) (t : Fin 8192) (d : Fin 1024) : EReal :=
  a.X b t d + ((∑ x : Fin 512, a.ohg b (t.val / 64) ⟨t.val % 64, Nat.mod_lt _ (by norm_num)⟩ ⟨x.val / 128, by omega⟩ ⟨x.val % 128, Nat.mod_lt _ (by norm_num)⟩
      * a.WO ⟨x.val, by omega⟩ d)
    + ∑ x : Fin 512, a.OAT b t x * a.WO ⟨512 + x.val, by omega⟩ d)

/-- The result. -/
def Args.out (b : Fin 2) (t : Fin 8192) (d : Fin 1024) : EReal :=
  a.res b t d * Ideal.rsqrt (Ideal.div (∑ y, a.res b t y * a.res b t y) nD + eps) * a.FW d

/-- The small number is a real between zero and one. -/
theorem eps_coe : ∃ r : ℝ, eps = (r : EReal) ∧ 0 < r ∧ r < 1 := by
  refine ⟨8796093 / 2 ^ 43, ?_, by norm_num, by norm_num⟩
  show Ideal.ofBits FTy.f32 897988541#32 = _
  simp [Ideal.ofBits, Ideal.ieee, -EReal.coe_mul]; norm_num

theorem top1_coe : ∃ r : ℝ, top1 = (r : EReal) ∧ 0 < r ∧ r < 1 := by
  refine ⟨16777199 / 2 ^ 24, ?_, by norm_num, by norm_num⟩
  show Ideal.ofBits FTy.f32 1065353199#32 = _
  simp [Ideal.ofBits, Ideal.ieee, -EReal.coe_mul]; norm_num

/-- The word of a half. -/
theorem half_f32 : Ideal.ofBits FTy.f32 1056964608#32 = ((1 / 2 : ℝ) : EReal) := by
  simp [Ideal.ofBits, Ideal.ieee, -EReal.coe_mul]; norm_num

/-- The short word of a half. -/
theorem half_bf16 : Ideal.ofBits FTy.bf16 0x3F00#16 = ((1 / 2 : ℝ) : EReal) := by
  simp [Ideal.ofBits, Ideal.ieee, -EReal.coe_mul]; norm_num

/-- The short word of minus a half. -/
theorem neg_half_bf16 : Ideal.ofBits FTy.bf16 0xBF00#16 = ((-(1 / 2) : ℝ) : EReal) := by
  simp [Ideal.ofBits, Ideal.ieee, -EReal.coe_mul, -EReal.coe_neg]; norm_num

/-- The short word of one. -/
theorem one_bf16 : Ideal.ofBits FTy.bf16 0x3F80#16 = ((1 : ℝ) : EReal) := by
  simp [Ideal.ofBits, Ideal.ieee, -EReal.coe_mul]; norm_num

/-- The short word of zero. -/
theorem zero_bf16 : Ideal.ofBits FTy.bf16 0x0000#16 = ((0 : ℝ) : EReal) := by
  simp [Ideal.ofBits, Ideal.ieee]

/-- The lower bound is a real between zero and one. -/
theorem Args.lb_coe (n : Fin 512) : ∃ l : ℝ, a.lb n = (l : EReal) ∧ 0 < l ∧ l < 1 := by
  obtain ⟨e, he, e0, e1⟩ := eps_coe
  obtain ⟨u, hu, u0, u1⟩ := top1_coe
  unfold Args.lb
  rw [he, hu]
  generalize Ideal.div _ _ = y
  induction y using EReal.rec with
  | bot => exact ⟨min u e, by rw [max_eq_left bot_le]; exact (EReal.coe_strictMono.monotone.map_min).symm, lt_min u0 e0, min_lt_of_left_lt u1⟩
  | top => exact ⟨u, by rw [max_eq_right le_top, min_eq_left le_top], u0, u1⟩
  | coe y =>
    refine ⟨min u (max e y), ?_, lt_min u0 (lt_max_of_lt_left e0), min_lt_of_left_lt u1⟩
    rw [EReal.coe_strictMono.monotone.map_min, EReal.coe_strictMono.monotone.map_max]

/-- The gate is a real in (0, 1], whatever the projection. -/
theorem Args.f_spec (b : Fin 2) (t : Fin 8192) (n : Fin 512) :
    0 < a.f b t n ∧ a.f b t n ≤ 1
      ∧ gate ((1 / 2 : ℝ) : EReal) (a.lb n) (a.p b t ⟨512 + n.val, by omega⟩) = (a.f b t n : EReal)
      ∧ logGate (a.lb n) (a.p b t ⟨512 + n.val, by omega⟩) = (Real.log (a.f b t n) : EReal) := by
  obtain ⟨l, hl, l0, l1⟩ := a.lb_coe n
  obtain ⟨f, f0, f1, h1, h2⟩ := gate_spec l l0 l1 (a.p b t ⟨512 + n.val, by omega⟩)
  have hf : a.f b t n = f := by
    unfold Args.f
    rw [hl, h1, EReal.toReal_coe]
  rw [hf, hl]
  exact ⟨lt_of_lt_of_le l0 f0, f1, h1, h2⟩

theorem Args.G_nonpos (b : Fin 2) (h : Fin 4) (c : ℕ) (t : Fin 64) (d : Fin 128) : a.G b h c t d ≤ 0 := by
  obtain ⟨h0, h1, _⟩ := a.f_spec b (row c t) (col h d)
  exact Real.log_nonpos h0.le h1

end Cert.Hgrn
end
-- ==== Proof.Unit.lean ====
/- One head's chunk in the kernel: the values it makes, written once, and read at an index. -/
module

public import proofs.«01_k».proof.Proof.Spec
public import proofs.«01_k».proof.Proof.Gen.KernelIdeal
public import Idealize.ShloMosaic.Lib.Pointwise

@[expose] public section

set_option maxRecDepth 16384

noncomputable section

namespace Cert.Hgrn

open Idealize.ShloMosaic Cert.KernelIdeal Cert.KernelIdeal.Gen

section forms

variable {F : FTy → Type} [FloatOps F] [Named F]

/-- The sums of a chunk's logarithms, in bits: cumulative above, centred below. -/
def uSums (C : FVec F S128x128 .bf16) (gm : FVec F S64x256 .bf16) : FVec F S128x128 .f32 :=
  matmul dot_S128x128_S128x128_S128x128_1_0_0_1_n_n none C
    (concatenate S128x128 0 [⟨S64x128, extractStridedSlice S64x128 ![0, 0] gm slices_S64x256_o0_0_S64x128⟩,
      ⟨S64x128, extractStridedSlice S64x128 ![0, 128] gm slices_S64x256_o0_128_S64x128⟩] concatenates_S64x128_S64x128_S128x128_d0)
    (constant S128x128 .f32 0x00000000#32)

/-- The cumulative sums. -/
def uCum (M : FVec F S128x128 .f32) : FVec F S64x128 .f32 := extractStridedSlice S64x128 ![0, 0] M slices_S128x128_o0_0_S64x128
/-- The centred sums. -/
def uMid (M : FVec F S128x128 .f32) : FVec F S64x128 .f32 := extractStridedSlice S64x128 ![64, 0] M slices_S128x128_o64_0_S64x128

/-- The zeros a distance is taken from. -/
def uZero : FVec F S64x128 .f32 := broadcast S64x128 (FloatOps.ofBits .f32 0x00000000#32)

/-- Two to the power of minus a distance. -/
def uFar (b p : FVec F S64x128 .f32) : FVec F S64x128 .bf16 := truncf .bf16 (exp2 (subf uZero (absf (subf b p)))) bitsLt_bf16_f32

/-- The weights of the first level. -/
def uW1 (b : FVec F S64x128 .f32) : FVec F S64x128 .bf16 :=
  uFar b (concatenate S64x128 0
    [⟨S16x128, broadcastTo S16x128 (shapeCast S1x128 (extractStridedSlice S1x128 ![7, 0] b slices_S64x128_o7_0_S1x128) shapeCasts_S1x128_S1x128) broadcasts_S1x128_S16x128⟩,
     ⟨S16x128, broadcastTo S16x128 (shapeCast S1x128 (extractStridedSlice S1x128 ![23, 0] b slices_S64x128_o23_0_S1x128) shapeCasts_S1x128_S1x128) broadcasts_S1x128_S16x128⟩,
     ⟨S16x128, broadcastTo S16x128 (shapeCast S1x128 (extractStridedSlice S1x128 ![39, 0] b slices_S64x128_o39_0_S1x128) shapeCasts_S1x128_S1x128) broadcasts_S1x128_S16x128⟩,
     ⟨S16x128, broadcastTo S16x128 (shapeCast S1x128 (extractStridedSlice S1x128 ![55, 0] b slices_S64x128_o55_0_S1x128) shapeCasts_S1x128_S1x128) broadcasts_S1x128_S16x128⟩]
    concatenates_S16x128_S16x128_S16x128_S16x128_S64x128_d0)
/-- The weights of the second level. -/
def uW2 (b : FVec F S64x128 .f32) : FVec F S64x128 .bf16 :=
  uFar b (concatenate S64x128 0
    [⟨S32x128, broadcastTo S32x128 (shapeCast S1x128 (extractStridedSlice S1x128 ![15, 0] b slices_S64x128_o15_0_S1x128) shapeCasts_S1x128_S1x128) broadcasts_S1x128_S32x128⟩,
     ⟨S32x128, broadcastTo S32x128 (shapeCast S1x128 (extractStridedSlice S1x128 ![47, 0] b slices_S64x128_o47_0_S1x128) shapeCasts_S1x128_S1x128) broadcasts_S1x128_S32x128⟩]
    concatenates_S32x128_S32x128_S64x128_d0)
/-- The weights of the third level. -/
def uW3 (b : FVec F S64x128 .f32) : FVec F S64x128 .bf16 :=
  uFar b (broadcastTo S64x128 (shapeCast S1x128 (extractStridedSlice S1x128 ![31, 0] b slices_S64x128_o31_0_S1x128) shapeCasts_S1x128_S1x128) broadcasts_S1x128_S64x128)

/-- The scores of a level. -/
def uPart (q k : FVec F S64x128 .bf16) (wq wk : FVec F S64x128 .bf16) : FVec F S64x64 .f32 :=
  matmul dot_S64x128_S64x128_S64x64_1_1_0_0_n_n none (mulf q wq) (mulf k wk) (constant S64x64 .f32 0x00000000#32)

/-- The scores of a chunk. -/
def uScore (lev : IVec S64x64 32) (q k : FVec F S64x128 .bf16) (M : FVec F S128x128 .f32) : FVec F S64x64 .f32 :=
  select (cmpi .eq lev (broadcast S64x64 3#32)) (uPart q k (uW3 (uCum M)) (uW3 (uCum M)))
    (select (cmpi .eq lev (broadcast S64x64 2#32)) (uPart q k (uW2 (uCum M)) (uW2 (uCum M)))
      (select (cmpi .eq lev (broadcast S64x64 1#32)) (uPart q k (uW1 (uCum M)) (uW1 (uCum M)))
        (select (cmpi .eq lev (broadcast S64x64 0#32))
          (uPart q k (truncf .bf16 (exp2 (uMid M)) bitsLt_bf16_f32) (truncf .bf16 (exp2 (subf uZero (uMid M))) bitsLt_bf16_f32))
          (broadcast S64x64 (FloatOps.ofBits .f32 0x00000000#32)))))

/-- What the chunk's own rows give. -/
def uIntra (lev : IVec S64x64 32) (q k v : FVec F S64x128 .bf16) (M : FVec F S128x128 .f32) : FVec F S64x128 .f32 :=
  shapeCast S64x128 (matmul dot_S64x64_S64x128_S64x128_1_0_0_1_n_n none (truncf .bf16 (uScore lev q k M) bitsLt_bf16_f32) v (constant S64x128 .f32 0x00000000#32)) shapeCasts_S64x128_S64x128

/-- The sums of the chunk's last row. -/
def uLast (M : FVec F S128x128 .f32) : FVec F S1x128 .f32 := extractStridedSlice S1x128 ![63, 0] (uCum M) slices_S64x128_o63_0_S1x128

/-- What the chunk adds to the state. -/
def uGain (k v : FVec F S64x128 .bf16) (M : FVec F S128x128 .f32) : FVec F S1x1x128x128 .f32 :=
  shapeCast S1x1x128x128 (matmul dot_S64x128_S64x128_S128x128_0_0_1_1_n_n none v
    (mulf k (truncf .bf16 (exp2 (subf (broadcastTo S64x128 (uLast M) broadcasts_S1x128_S64x128) (uCum M))) bitsLt_bf16_f32))
    (constant S128x128 .f32 0x00000000#32)) shapeCasts_S128x128_S1x1x128x128

/-- The queries the state is read with. -/
def uQuery (q : FVec F S64x128 .bf16) (M : FVec F S128x128 .f32) : FVec F S64x128 .bf16 :=
  shapeCast S64x128 (mulf q (truncf .bf16 (exp2 (uCum M)) bitsLt_bf16_f32)) shapeCasts_S64x128_S64x128

/-- What the chunk keeps of the state. -/
def uKeep (M : FVec F S128x128 .f32) : FVec F S1x1x8x128 .f32 :=
  shapeCast S1x1x8x128 (broadcastTo S8x128 (shapeCast S1x128 (exp2 (uLast M)) shapeCasts_S1x128_S1x128) broadcasts_S1x128_S8x128) shapeCasts_S8x128_S1x1x8x128

end forms

/-- A total of reals, as extended reals. -/
theorem coe_total {n : ℕ} (g : Fin n → ℝ) : ((∑ i, g i : ℝ) : EReal) = ∑ i, (g i : EReal) := by
  induction n with
  | zero => rfl
  | succ n ih => rw [Fin.sum_univ_succ, Fin.sum_univ_succ, EReal.coe_add, ih]

/-- Bits in a unit of the natural logarithm. -/
def bits : ℝ := (Real.log 2)⁻¹

theorem bits_exp (x : ℝ) : FloatOps.exp2 (F := Ideal) (φ := .f32) ((x * bits : ℝ) : EReal) = (Real.exp x : EReal) := exp2_bits x

theorem bits_dist (x y : ℝ) : FloatOps.exp2 (F := Ideal) (φ := .f32) (0 - FloatOps.absf (F := Ideal) (φ := .f32) (((x * bits : ℝ) : EReal) - ((y * bits : ℝ) : EReal)))
    = (Real.exp (-|x - y|) : EReal) := exp2_dist x y

variable (C : FVec Ideal S128x128 .bf16) (gm : FVec Ideal S64x256 .bf16) (lev : IVec S64x64 32) (qv kv vv : FVec Ideal S64x128 .bf16)
variable (g : Fin 64 → Fin 128 → ℝ) (q k v : Fin 64 → Fin 128 → EReal)

/-- The coefficients. -/
def IsCoef : Prop := ∀ (i : Fin 128) (s : Fin 64), C (ix2 i ⟨s.val, by omega⟩) = (((coefZ i s : ℝ) / 2 : ℝ) : EReal)
  ∧ C (ix2 i ⟨64 + s.val, by omega⟩) = (((coefZ i s : ℝ) / 2 : ℝ) : EReal)

/-- A chunk's logarithms in bits, in two halves. -/
def IsBits : Prop := ∀ (s : Fin 64) (d : Fin 128), gm (ix2 s ⟨d.val, by omega⟩) = ((g s d * bits : ℝ) : EReal)
  ∧ gm (ix2 s ⟨128 + d.val, by omega⟩) = 0

theorem uSums_at (hC : IsCoef C) (hg : IsBits gm g) (i d : Fin 128) :
    uSums C gm (ix2 i d) = ((mix (fun r => g r d) i * bits : ℝ) : EReal) := by
  unfold uSums
  pointwise
  have e2 : ∑ x : Fin 64, C (ix2 i ⟨64 + x.val, by omega⟩) * gm (ix2 x ⟨128 + d.val, by omega⟩) = 0 :=
    Finset.sum_eq_zero fun x _ => by rw [(hg x d).2, mul_zero]
  have e1 : ∑ x : Fin 64, C (ix2 i ⟨x.val, by omega⟩) * gm (ix2 x ⟨d.val, by omega⟩) = ((mix (fun r => g r d) i * bits : ℝ) : EReal) := by
    unfold mix
    rw [Finset.sum_mul, coe_total]
    refine Finset.sum_congr rfl fun x _ => ?_
    rw [(hg x d).1, (hC i x).1, ← EReal.coe_mul, mul_assoc]
  rw [e1, e2, add_zero]

variable (M : FVec Ideal S128x128 .f32) (hM : ∀ i d, M (ix2 i d) = ((mix (fun r => g r d) i * bits : ℝ) : EReal))

include hM in
theorem uCum_at (t : Fin 64) (d : Fin 128) : uCum M (ix2 t d) = ((cum (fun r => g r d) t * bits : ℝ) : EReal) := by
  unfold uCum
  pointwise
  rw [hM, mix_top (fun r => g r d) t]

include hM in
theorem uMid_at (t : Fin 64) (d : Fin 128) : uMid M (ix2 t d) = ((mix (fun r => g r d) ⟨64 + t.val, by omega⟩ * bits : ℝ) : EReal) := by
  unfold uMid
  pointwise
  exact hM _ _

include hM in
theorem uW1_at (t : Fin 64) (d : Fin 128) : uW1 (uCum M) (ix2 t d)
    = (Real.exp (-|cum (fun r => g r d) t - cum (fun r => g r d) (pivot1 t)|) : EReal) := by
  unfold uW1 uFar uZero
  pointwise
  have e : (if h : t.val < 16 then uCum M (ix2 7 d) else if h : t.val - 16 < 16 then uCum M (ix2 23 d)
      else if h : t.val - 16 - 16 < 16 then uCum M (ix2 39 d) else uCum M (ix2 55 d)) = uCum M (ix2 (pivot1 t) d) := by
    have ht := t.isLt
    split_ifs
    · exact congrArg (fun r => uCum M (ix2 r d)) (Fin.ext (by show 7 = t.val / 16 * 16 + 7; omega))
    · exact congrArg (fun r => uCum M (ix2 r d)) (Fin.ext (by show 23 = t.val / 16 * 16 + 7; omega))
    · exact congrArg (fun r => uCum M (ix2 r d)) (Fin.ext (by show 39 = t.val / 16 * 16 + 7; omega))
    · exact congrArg (fun r => uCum M (ix2 r d)) (Fin.ext (by show 55 = t.val / 16 * 16 + 7; omega))
  rw [e, uCum_at g M hM, uCum_at g M hM, bits_dist]

include hM in
theorem uW2_at (t : Fin 64) (d : Fin 128) : uW2 (uCum M) (ix2 t d)
    = (Real.exp (-|cum (fun r => g r d) t - cum (fun r => g r d) (pivot2 t)|) : EReal) := by
  unfold uW2 uFar uZero
  pointwise
  have e : (if h : t.val < 32 then uCum M (ix2 15 d) else uCum M (ix2 47 d)) = uCum M (ix2 (pivot2 t) d) := by
    have ht := t.isLt
    split_ifs
    · exact congrArg (fun r => uCum M (ix2 r d)) (Fin.ext (by show 15 = t.val / 32 * 32 + 15; omega))
    · exact congrArg (fun r => uCum M (ix2 r d)) (Fin.ext (by show 47 = t.val / 32 * 32 + 15; omega))
  rw [e, uCum_at g M hM, uCum_at g M hM, bits_dist]

include hM in
theorem uW3_at (t : Fin 64) (d : Fin 128) : uW3 (uCum M) (ix2 t d)
    = (Real.exp (-|cum (fun r => g r d) t - cum (fun r => g r d) (pivot3 t)|) : EReal) := by
  unfold uW3 uFar uZero
  pointwise
  rw [uCum_at g M hM, uCum_at g M hM, bits_dist]
  rfl

variable (hq : ∀ t d, qv (ix2 t d) = q t d) (hk : ∀ t d, kv (ix2 t d) = k t d) (hv : ∀ t d, vv (ix2 t d) = v t d)
variable (hl : ∀ t s, lev (ix2 t s) = BitVec.ofNat 32 (level t s)) (h0 : ∀ s d, g s d ≤ 0)

include hM hq hk hl h0 in
theorem uScore_at (t s : Fin 64) : uScore lev qv kv M (ix2 t s) = score q k g t s := by
  unfold uScore uPart
  pointwise
  have pick : ∀ (n : ℕ) (hn : n ≤ 4) (x y : EReal), Scalar.select (IntOp.cmpi CmpIPredicate.eq (lev (ix2 t s)) (BitVec.ofNat 32 n)) x y
      = if level t s = n then x else y := fun n hn x y => by
    have hb : level t s ≤ 4 := by unfold level; split_ifs <;> omega
    rw [hl]
    show Scalar.select (BitVec.ofBool (BitVec.ofNat 32 (level t s) == BitVec.ofNat 32 n)) x y = _
    by_cases h : level t s = n
    · rw [if_pos h, h, beq_self_eq_true]; rfl
    · have h' : BitVec.ofNat 32 (level t s) ≠ BitVec.ofNat 32 n := fun q => h (by
        have := congrArg BitVec.toNat q
        rw [BitVec.toNat_ofNat, BitVec.toNat_ofNat, Nat.mod_eq_of_lt (by omega), Nat.mod_eq_of_lt (by omega)] at this
        exact this)
      rw [if_neg h, beq_eq_false_iff_ne.mpr h']; rfl
  refine Eq.trans ?_ (scoreK_eq q k (fun t d => Ideal.exp2 (uMid M (ix2 t d))) (fun t d => Ideal.exp2 (0 - uMid M (ix2 t d)))
    (fun t d => uW1 (uCum M) (ix2 t d)) (fun t d => uW2 (uCum M) (ix2 t d)) (fun t d => uW3 (uCum M) (ix2 t d)) g h0
    (fun t d => mix (fun r => g r d) ⟨64 + t.val, by omega⟩) (fun t s d h => mix_diff _ t s h)
    (fun t d => by rw [uMid_at g M hM, bits, exp2_bits])
    (fun t d => by rw [uMid_at g M hM, bits, ← EReal.coe_zero, ← EReal.coe_sub, zero_sub, ← neg_mul, exp2_bits])
    (uW1_at g M hM) (uW2_at g M hM) (uW3_at g M hM) t s)
  have z : ∀ x, uZero (F := Ideal) (ix2 s x) = 0 := fun x => by
    unfold uZero
    pointwise
  rw [pick 3 (by norm_num), pick 2 (by norm_num), pick 1 (by norm_num), pick 0 (by norm_num)]
  unfold scoreK
  simp only [hq, hk, z]
  rfl

include hM hq hk hv hl h0 in
theorem uIntra_at (t : Fin 64) (j : Fin 128) : uIntra lev qv kv vv M (ix2 t j) = intra q k v g t j := by
  unfold uIntra
  pointwise
  unfold intra
  refine Finset.sum_congr rfl fun s _ => ?_
  rw [uScore_at lev qv kv g q k M hM hq hk hl h0, hv]

include hM hk hv in
theorem uGain_at (j i : Fin 128) : uGain kv vv M (ix4 0 0 j i) = gain k v g i j := by
  unfold uGain uLast
  pointwise
  unfold gain
  refine Finset.sum_congr rfl fun t _ => ?_
  rw [hv, hk, uCum_at g M hM, uCum_at g M hM, ← EReal.coe_sub, ← sub_mul]
  rw [bits_exp, mul_comm]

include hM hq in
theorem uQuery_at (t : Fin 64) (d : Fin 128) : uQuery qv M (ix2 t d) = q t d * ((Real.exp (cum (fun r => g r d) t) : ℝ) : EReal) := by
  unfold uQuery
  pointwise
  rw [hq, uCum_at g M hM, bits_exp]

include hM in
theorem uKeep_at (r : Fin 8) (d : Fin 128) : uKeep M (ix4 0 0 r d) = keep g d := by
  unfold uKeep uLast
  pointwise
  rw [uCum_at g M hM, bits_exp]
  rfl

end Cert.Hgrn
end
-- ==== Proof.Stage.lean ====
/- The kernel's values outside a head's chunk: the norm, the projections, the gates, the recurrence's steps, the head's norm and the output. -/
module

public import proofs.«01_k».proof.Proof.Unit
public import proofs.«01_k».proof.Proof.Gen.KernelIdeal.Skeleton

@[expose] public section

set_option maxRecDepth 16384

noncomputable section

namespace Cert.Hgrn

open Idealize.ShloMosaic Cert.KernelIdeal Cert.KernelIdeal.Gen

section forms

variable {F : FTy → Type} [FloatOps F] [Named F]

/-- One half, one, everywhere. -/
def cHalf (s : Shape) : FVec F s .f32 := broadcast s (FloatOps.ofBits .f32 0x3F000000#32)
def cOne (s : Shape) : FVec F s .f32 := broadcast s (FloatOps.ofBits .f32 0x3F800000#32)
def cEps (s : Shape) : FVec F s .f32 := broadcast s (FloatOps.ofBits .f32 897988541#32)

/-- The norm of the rows. -/
def sNorm (X : FVec F S512x1024 .f32) : FVec F S512x1024 .f32 :=
  broadcastTo S512x1024 (rsqrt (addf (divf (shapeCast S512x1 (multiReduction .add [1] S512 (mulf X X) 0x00000000#32 reduces_S512x1024_S512 (.inl rfl) rfl) shapeCasts_S512_S512x1)
    (broadcast S512x1 (FloatOps.ofBits .f32 1149239296#32))) (cEps S512x1))) broadcasts_S512x1_S512x1024

/-- The normalised rows. -/
def sU (X : FVec F S512x1024 .f32) (nw : FVec F S1x1024 .f32) : FVec F S512x1024 .bf16 := k0_pay13 X nw (sNorm X)

/-- A section's projection. -/
def sP (X : FVec F S512x1024 .f32) (nw : FVec F S1x1024 .f32) (w : FVec F S1024x512 .bf16) : FVec F S512x512 .f32 :=
  matmul dot_S512x1024_S1024x512_S512x512_1_0_0_1_n_n none (sU X nw) w (constant S512x512 .f32 0x00000000#32)

/-- A projection times its logistic. -/
def sSilu (p : FVec F S512x512 .f32) : FVec F S512x512 .bf16 :=
  shapeCast S512x512 (truncf .bf16 (mulf p (addf (mulf (cHalf S512x512) (tanh (mulf (cHalf S512x512) p))) (cHalf S512x512))) bitsLt_bf16_f32) shapeCasts_S512x512_S512x512

/-- The lower bounds of the gates. -/
def sLow (L : FVec F S2x512 .f32) : FVec F S1x512 .f32 :=
  have e : FVec F S2x512 .f32 := exp (subf L (broadcastTo S2x512 (shapeCast S1x512 (multiReduction .maximumf [0] S512 L 4286578688#32 reduces_S2x512_S512 (.inl rfl) rfl) shapeCasts_S512_S1x512) broadcasts_S1x512_S2x512))
  minimumf (broadcast S1x512 (FloatOps.ofBits .f32 1065353199#32)) (maximumf (cEps S1x512)
    (divf (extractStridedSlice S1x512 ![0, 0] e slices_S2x512_o0_0_S1x512) (shapeCast S1x512 (multiReduction .add [0] S512 e 0x00000000#32 reduces_S2x512_S512 (.inl rfl) rfl) shapeCasts_S512_S1x512)))

def sUp (L : FVec F S2x512 .f32) : FVec F S1x512 .f32 := mulf (cHalf S1x512) (addf (cOne S1x512) (sLow L))
def sDown (L : FVec F S2x512 .f32) : FVec F S1x512 .f32 := mulf (cHalf S1x512) (subf (cOne S1x512) (sLow L))

/-- The gates. -/
def sF (L : FVec F S2x512 .f32) (X : FVec F S512x1024 .f32) (nw : FVec F S1x1024 .f32) (w : FVec F S1024x512 .bf16) : FVec F S512x512 .f32 :=
  k0_pay15 (sUp L) (sDown L) X nw (sNorm X) w

/-- The keys. -/
def sK (f : FVec F S512x512 .f32) : FVec F S512x512 .bf16 :=
  shapeCast S512x512 (truncf .bf16 (subf (cOne S512x512) f) bitsLt_bf16_f32) shapeCasts_S512x512_S512x512

/-- The values. -/
def sV (p : FVec F S512x512 .f32) : FVec F S512x512 .bf16 := shapeCast S512x512 (truncf .bf16 p bitsLt_bf16_f32) shapeCasts_S512x512_S512x512

/-- The gates' logarithms, in bits, and what their rounding leaves. -/
def sHi (L : FVec F S2x512 .f32) (X : FVec F S512x1024 .f32) (nw : FVec F S1x1024 .f32) (w : FVec F S1024x512 .bf16) : FVec F S512x512 .bf16 :=
  k0_pay19 (sUp L) (sDown L) X nw (sNorm X) w
def sLo (L : FVec F S2x512 .f32) (X : FVec F S512x1024 .f32) (nw : FVec F S1x1024 .f32) (w : FVec F S1024x512 .bf16) : FVec F S512x512 .bf16 :=
  k0_pay18 (sUp L) (sDown L) X nw (sNorm X) w

/-- The row and what the other branch adds. -/
def sRes (X : FVec F S512x1024 .f32) (oat : FVec F S512x512 .bf16) (wo : FVec F S512x1024 .bf16) : FVec F S1x512x1024 .f32 :=
  shapeCast S1x512x1024 (addf X (matmul dot_S512x512_S512x1024_S512x1024_1_0_0_1_n_n none oat wo (constant S512x1024 .f32 0x00000000#32))) shapeCasts_S512x1024_S1x512x1024

/-- The state after a chunk. -/
def uStep (s : FVec F S128x128 .f32) (d : FVec F S1x1x1x128 .f32) (g : FVec F S1x1x128x128 .f32) : FVec F S128x128 .f32 :=
  addf (mulf s (broadcastTo S128x128 (shapeCast S1x128 d shapeCasts_S1x1x1x128_S1x128) broadcasts_S1x128_S128x128)) (shapeCast S128x128 g shapeCasts_S1x1x128x128_S128x128)

/-- A chunk's output. -/
def uOut (oi : FVec F S64x128 .f32) (qd : FVec F S64x128 .bf16) (s : FVec F S128x128 .f32) : FVec F S64x128 .f32 :=
  addf oi (matmul dot_S64x128_S128x128_S64x128_1_1_0_0_n_n none qd (truncf .bf16 s bitsLt_bf16_f32) (constant S64x128 .f32 0x00000000#32))

/-- The head's norm, its weights and the gate. -/
def uHead (o : FVec F S64x128 .f32) (gn : FVec F S1x128 .f32) (z : FVec F S64x128 .bf16) : FVec F S64x128 .bf16 :=
  shapeCast S64x128 (truncf .bf16 (mulf (mulf (mulf o (broadcastTo S64x128 (rsqrt (addf (divf (shapeCast S64x1 (multiReduction .add [1] S64 (mulf o o) 0x00000000#32 reduces_S64x128_S64 (.inl rfl) rfl) shapeCasts_S64_S64x1)
    (broadcast S64x1 (FloatOps.ofBits .f32 1124073472#32))) (cEps S64x1))) broadcasts_S64x1_S64x128)) (broadcastTo S64x128 gn broadcasts_S1x128_S64x128)) (extf .f32 z bitsLt_bf16_f32)) bitsLt_bf16_f32) shapeCasts_S64x128_S64x128

end forms

variable (a : Args) (b : Fin 2) (t : Fin 8192) (r : Fin 512)
variable (X : FVec Ideal S512x1024 .f32) (nw : FVec Ideal S1x1024 .f32) (w : FVec Ideal S1024x512 .bf16) (L : FVec Ideal S2x512 .f32)

theorem sU_at (hX : ∀ d, X (ix2 r d) = a.X b t d) (hn : ∀ d, nw (ix2 0 d) = a.NW d) (x : Fin 1024) : sU X nw (ix2 r x) = a.u b t x := by
  unfold sU k0_pay13 sNorm cEps
  pointwise
  simp only [hX, hn]
  rfl

theorem sP_at (hX : ∀ d, X (ix2 r d) = a.X b t d) (hn : ∀ d, nw (ix2 0 d) = a.NW d) (j : Fin 4096) (n : Fin 512) (hw : ∀ x, w (ix2 x n) = a.W x j) :
    sP X nw w (ix2 r n) = a.p b t j := by
  unfold sP
  pointwise
  simp only [sU_at a b t r X nw hX hn, hw]
  rfl

theorem sSilu_at (p : FVec Ideal S512x512 .f32) (n : Fin 512) : sSilu p (ix2 r n) = silu (p (ix2 r n)) := by
  unfold sSilu cHalf
  pointwise
  rw [half_f32]
  exact silu_spec _

theorem sLow_at (hL : ∀ i n, L (ix2 i n) = a.L i n) (n : Fin 512) : sLow L (ix2 0 n) = a.lb n := by
  unfold sLow cEps
  pointwise
  have hb : Ideal.ofBits FTy.f32 4286578688#32 = (⊥ : EReal) := by
    simp [Ideal.ofBits, Ideal.ieee]
  have hm : Finset.fold max (⊥ : EReal) (fun x : Fin 2 => L (ix2 x n)) Finset.univ = a.lmax n := by
    rw [show (Finset.univ : Finset (Fin 2)) = {0, 1} from rfl, Finset.fold_insert (by decide), Finset.fold_singleton, max_bot_right, hL, hL]
    rfl
  rw [hb, hm, Fin.sum_univ_two, hL, hL]
  rfl

theorem sF_at (hX : ∀ d, X (ix2 r d) = a.X b t d) (hn : ∀ d, nw (ix2 0 d) = a.NW d) (hL : ∀ i n, L (ix2 i n) = a.L i n) (n : Fin 512)
    (hw : ∀ x, w (ix2 x n) = a.W x ⟨512 + n.val, by omega⟩) : sF L X nw w (ix2 r n) = (a.f b t n : EReal) := by
  rw [← (a.f_spec b t n).2.2.1]
  have hp := sP_at a b t r X nw w hX hn ⟨512 + n.val, by omega⟩ n hw
  have hl := sLow_at a L hL n
  unfold sP sU at hp
  unfold sF k0_pay15 sUp sDown cOne cHalf
  pointwise
  pointwise at hp
  rw [half_f32, hl, hp]
  rfl

theorem sK_at (f : FVec Ideal S512x512 .f32) (n : Fin 512) (x : ℝ) (h : f (ix2 r n) = x) : sK f (ix2 r n) = ((1 - x : ℝ) : EReal) := by
  unfold sK cOne
  pointwise
  rw [h, ← EReal.coe_one, ← EReal.coe_sub]

theorem sV_at (p : FVec Ideal S512x512 .f32) (n : Fin 512) : sV p (ix2 r n) = p (ix2 r n) := by
  unfold sV
  pointwise

theorem sHi_at (n : Fin 512) (x : ℝ) (h0 : 0 < x) (h : sF L X nw w (ix2 r n) = x) : sHi L X nw w (ix2 r n) = ((Real.log x * bits : ℝ) : EReal) := by
  unfold sF at h
  unfold sHi k0_pay19 k0_pay17 k0_pay16
  pointwise
  rw [h, log_pos_coe x h0, show Named.named (F := Ideal) (φ := .f32) κ "log2e" 1069066811#32 = ((bits : ℝ) : EReal) from rfl, ← EReal.coe_mul]

theorem sLo_at (n : Fin 512) (x : ℝ) (h0 : 0 < x) (h : sF L X nw w (ix2 r n) = x) : sLo L X nw w (ix2 r n) = 0 := by
  have h' := sHi_at r X nw w L n x h0 h
  unfold sHi k0_pay19 k0_pay17 at h'
  unfold sLo k0_pay18 k0_pay17
  pointwise
  pointwise at h'
  rw [h', ← EReal.coe_sub, sub_self, EReal.coe_zero]

theorem sRes_at (oat : FVec Ideal S512x512 .bf16) (wo : FVec Ideal S512x1024 .bf16) (d : Fin 1024) :
    sRes X oat wo (ix3 0 r d) = X (ix2 r d) + ∑ x : Fin 512, oat (ix2 r x) * wo (ix2 x d) := by
  unfold sRes
  pointwise

theorem uStep_at (s : FVec Ideal S128x128 .f32) (d : FVec Ideal S1x1x1x128 .f32) (g : FVec Ideal S1x1x128x128 .f32) (i j : Fin 128) :
    uStep s d g (ix2 j i) = d (ix4 0 0 0 i) * s (ix2 j i) + g (ix4 0 0 j i) := by
  unfold uStep
  pointwise
  rw [mul_comm]

theorem uOut_at (oi : FVec Ideal S64x128 .f32) (qd : FVec Ideal S64x128 .bf16) (s : FVec Ideal S128x128 .f32) (t : Fin 64) (j : Fin 128) :
    uOut oi qd s (ix2 t j) = (∑ i, qd (ix2 t i) * s (ix2 j i)) + oi (ix2 t j) := by
  unfold uOut
  pointwise
  rw [add_comm]

theorem uHead_at (o : FVec Ideal S64x128 .f32) (gn : FVec Ideal S1x128 .f32) (z : FVec Ideal S64x128 .bf16) (t : Fin 64) (j : Fin 128) :
    uHead o gn z (ix2 t j) = o (ix2 t j) * Ideal.rsqrt (Ideal.div (∑ y, o (ix2 t y) * o (ix2 t y)) nH + eps) * gn (ix2 0 j) * z (ix2 t j) := by
  unfold uHead cEps
  pointwise

/-- The output row. -/
theorem last_at (y : FVec Ideal S1x512x1024 .f32) (oh : FVec Ideal S512x512 .bf16) (wo : FVec Ideal S512x1024 .bf16) (fw : FVec Ideal S1x1024 .f32)
    (hy : ∀ d, y (ix3 0 r d) = a.X b t d + ∑ x : Fin 512, a.OAT b t x * a.WO ⟨512 + x.val, by omega⟩ d)
    (ho : ∀ x : Fin 512, oh (ix2 r x) = a.ohg b (t.val / 64) ⟨t.val % 64, Nat.mod_lt _ (by norm_num)⟩ ⟨x.val / 128, by omega⟩ ⟨x.val % 128, Nat.mod_lt _ (by norm_num)⟩)
    (hw : ∀ (x : Fin 512) d, wo (ix2 x d) = a.WO ⟨x.val, by omega⟩ d) (hf : ∀ d, fw (ix2 0 d) = a.FW d) (d : Fin 1024) :
    k0_pay4 (F := Ideal) y oh wo fw (ix3 0 r d) = a.out b t d := by
  have e : ∀ d, y (ix3 0 r d) + ∑ x : Fin 512, oh (ix2 r x) * wo (ix2 x d) = a.res b t d := fun d => by
    unfold Args.res
    rw [hy, add_assoc]
    simp only [ho, hw]
    rw [add_comm (∑ x : Fin 512, a.OAT b t x * _)]
  unfold k0_pay4
  pointwise
  simp only [e, hf]
  rfl

end Cert.Hgrn
end
-- ==== Proof.Tile.lean ====
/- A tile of 512 rows: what its buffers hold, chunk by chunk and head by head, and how the pieces are read back. -/
module

public import proofs.«01_k».proof.Proof.Stage
public import Idealize.ShloMosaic.Lib.Pipeline.ValueKit
public import Idealize.ShloMosaic.Lib.Pipeline.ReadBack
public import Idealize.ShloMosaic.Lib.WholeRead

@[expose] public section

set_option maxRecDepth 16384

noncomputable section

namespace Cert.Hgrn

open Idealize.ShloMosaic Cert.KernelIdeal Cert.KernelIdeal.Gen

/-- The place of a row in its chunk, the head and the place of a column. -/
def tm (r : Fin 512) : Fin 64 := ⟨r.val % 64, Nat.mod_lt _ (by norm_num)⟩
def hd (n : Fin 512) : Fin 4 := ⟨n.val / 128, by omega⟩
def dm (n : Fin 512) : Fin 128 := ⟨n.val % 128, Nat.mod_lt _ (by norm_num)⟩
/-- The row of a tile among all rows. -/
def trow (T : ℕ) (r : Fin 512) : Fin 8192 := row (8 * T + r.val / 64) (tm r)

section buffers

variable {α : Type}

/-- A buffer of rows and columns, by head, chunk, place and channel. -/
def tile2 (f : Fin 4 → ℕ → Fin 64 → Fin 128 → α) : S512x512.Idx → α := fun y => f (hd (y 1)) ((y 0).val / 64) (tm (y 0)) (dm (y 1))

/-- A buffer by head and chunk. -/
def tile4 {n0 n1 n2 n3 : ℕ} (f : Fin n0 → ℕ → Fin n2 → Fin n3 → α) : (⟨4, ![n0, n1, n2, n3]⟩ : Shape).Idx → α := fun y => f (y 0) (y 1).val (y 2) (y 3)

theorem tile2_at (f : Fin 4 → ℕ → Fin 64 → Fin 128 → α) (h : Fin 4) (ci : ℕ) (hci : ci < 8) {o0 o1 : ℕ} (e0 : o0 = 64 * ci) (e1 : o1 = 128 * h.val)
    (inb : ∀ a, (![o0, o1] : Fin 2 → ℕ) a + S64x128.size a ≤ S512x512.size a) (t : Fin 64) (d : Fin 128) :
    tile2 f ((Rect.unit (s := S512x512) ![o0, o1] S64x128.size inb).toLoadRect.idx (ix2 t d)) = f h ci t d := by
  have c0 : ((Rect.unit (s := S512x512) ![o0, o1] S64x128.size inb).toLoadRect.idx (ix2 t d) 0).val = o0 + t.val := by
    show o0 + 1 * t.val = _; omega
  have c1 : ((Rect.unit (s := S512x512) ![o0, o1] S64x128.size inb).toLoadRect.idx (ix2 t d) 1).val = o1 + d.val := by
    show o1 + 1 * d.val = _; omega
  unfold tile2
  have q1 : hd ((Rect.unit (s := S512x512) ![o0, o1] S64x128.size inb).toLoadRect.idx (ix2 t d) 1) = h := Fin.ext (by
    show ((Rect.unit (s := S512x512) ![o0, o1] S64x128.size inb).toLoadRect.idx (ix2 t d) 1).val / 128 = h.val
    rw [c1]; omega)
  have q2 : dm ((Rect.unit (s := S512x512) ![o0, o1] S64x128.size inb).toLoadRect.idx (ix2 t d) 1) = d := Fin.ext (by
    show ((Rect.unit (s := S512x512) ![o0, o1] S64x128.size inb).toLoadRect.idx (ix2 t d) 1).val % 128 = d.val
    rw [c1]; omega)
  have q3 : tm ((Rect.unit (s := S512x512) ![o0, o1] S64x128.size inb).toLoadRect.idx (ix2 t d) 0) = t := Fin.ext (by
    show ((Rect.unit (s := S512x512) ![o0, o1] S64x128.size inb).toLoadRect.idx (ix2 t d) 0).val % 64 = t.val
    rw [c0]; omega)
  have q0 : ((Rect.unit (s := S512x512) ![o0, o1] S64x128.size inb).toLoadRect.idx (ix2 t d) 0).val / 64 = ci := by
    rw [c0]; omega
  rw [q1, q2, q3, q0]

/-- A head's chunk is a piece of the buffer. -/
theorem tile2_piece (f : Fin 4 → ℕ → Fin 64 → Fin 128 → α) (h : Fin 4) (ci : ℕ) (hci : ci < 8) {o0 o1 : ℕ} (e0 : o0 = 64 * ci) (e1 : o1 = 128 * h.val)
    (inb : ∀ a, (![o0, o1] : Fin 2 → ℕ) a + S64x128.size a ≤ S512x512.size a) (v : S64x128.Idx → α) (hv : ∀ t d, v (ix2 t d) = f h ci t d) (x : S64x128.Idx) :
    v x = tile2 f ((Rect.unit (s := S512x512) ![o0, o1] S64x128.size inb).emb x) := by
  obtain ⟨t, d, rfl⟩ : ∃ t d, x = ix2 t d := ⟨_, _, eq_ix2 x⟩
  rw [hv]
  exact (tile2_at f h ci hci e0 e1 inb t d).symm

theorem tile4_at {n0 n1 n2 n3 m2 m3 : ℕ} (f : Fin n0 → ℕ → Fin n2 → Fin n3 → α) (h : Fin n0) (ci : ℕ) {o0 : ℕ} (e0 : o0 = h.val)
    (inb : ∀ a, (![o0, ci, 0, 0] : Fin 4 → ℕ) a + (![1, 1, m2, m3] : Fin 4 → ℕ) a ≤ (⟨4, ![n0, n1, n2, n3]⟩ : Shape).size a) (i : Fin m2) (j : Fin m3) (hi : i.val < n2) (hj : j.val < n3) :
    tile4 (n1 := n1) f ((Rect.unit (s := ⟨4, ![n0, n1, n2, n3]⟩) ![o0, ci, 0, 0] ![1, 1, m2, m3] inb).toLoadRect.idx (ix4 0 0 i j)) = f h ci ⟨i.val, hi⟩ ⟨j.val, hj⟩ := by
  unfold tile4
  have q0 : ((Rect.unit (s := ⟨4, ![n0, n1, n2, n3]⟩) ![o0, ci, 0, 0] ![1, 1, m2, m3] inb).toLoadRect.idx (ix4 0 0 i j) 0) = h := Fin.ext (by
    show o0 + 1 * 0 = _; omega)
  have q1 : ((Rect.unit (s := ⟨4, ![n0, n1, n2, n3]⟩) ![o0, ci, 0, 0] ![1, 1, m2, m3] inb).toLoadRect.idx (ix4 0 0 i j) 1).val = ci := by
    show ci + 1 * 0 = _; omega
  have q2 : ((Rect.unit (s := ⟨4, ![n0, n1, n2, n3]⟩) ![o0, ci, 0, 0] ![1, 1, m2, m3] inb).toLoadRect.idx (ix4 0 0 i j) 2) = ⟨i.val, hi⟩ := Fin.ext (by
    show 0 + 1 * i.val = i.val; omega)
  have q3 : ((Rect.unit (s := ⟨4, ![n0, n1, n2, n3]⟩) ![o0, ci, 0, 0] ![1, 1, m2, m3] inb).toLoadRect.idx (ix4 0 0 i j) 3) = ⟨j.val, hj⟩ := Fin.ext (by
    show 0 + 1 * j.val = j.val; omega)
  rw [q0, q1, q2, q3]
  rfl

theorem tile4_piece {n0 n1 n2 n3 : ℕ} (f : Fin n0 → ℕ → Fin n2 → Fin n3 → α) (h : Fin n0) (ci : ℕ) {o0 : ℕ} (e0 : o0 = h.val)
    (inb : ∀ a, (![o0, ci, 0, 0] : Fin 4 → ℕ) a + (![1, 1, n2, n3] : Fin 4 → ℕ) a ≤ (⟨4, ![n0, n1, n2, n3]⟩ : Shape).size a)
    (v : (⟨4, ![1, 1, n2, n3]⟩ : Shape).Idx → α) (hv : ∀ i j, v (ix4 0 0 i j) = f h ci i j) (x : (⟨4, ![1, 1, n2, n3]⟩ : Shape).Idx) :
    v x = tile4 (n1 := n1) f ((Rect.unit (s := ⟨4, ![n0, n1, n2, n3]⟩) ![o0, ci, 0, 0] ![1, 1, n2, n3] inb).emb x) := by
  obtain ⟨i, j, rfl⟩ : ∃ i j, x = ix4 0 0 i j := ⟨x 2, x 3, (eq_ix4 x).trans (by
    have h0 : x 0 = (⟨0, Nat.one_pos⟩ : Fin 1) := Fin.ext (by have := (x 0).isLt; show (x 0).val = 0; exact Nat.lt_one_iff.mp this)
    have h1 : x 1 = (⟨0, Nat.one_pos⟩ : Fin 1) := Fin.ext (by have := (x 1).isLt; show (x 1).val = 0; exact Nat.lt_one_iff.mp this)
    rw [h0, h1]
    rfl)⟩
  rw [hv]
  exact (tile4_at f h ci e0 inb i j i.isLt j.isLt).symm

end buffers

section reads

variable {sig : RefSig} {κ : Kind} {sp : Space} {s : Shape} {e : EltTy}

/-- Pieces of one function that cover the buffer leave it. -/
theorem canon_is (G : s.Idx → Elt Ideal e) (L : List (View.Piece (Elt Ideal) s e)) (h : View.PiecesOf G L) (hc : ∀ y, ∃ p ∈ L, y ∈ p.1.set) : View.canon L = G :=
  funext fun y => by
    have := View.canon_append_of_piecesOf G [] L h y (hc y)
    rwa [List.append_nil] at this

/-- A load of what the pieces leave. -/
theorem read_is (v : View sig κ sp s e) (L : List (View.Piece (Elt Ideal) s e)) (G : s.Idx → Elt Ideal e) (h : View.canon L = G) (B : LoadRect s) (x : B.shape.Idx) :
    v.readCov L B x = G (B.idx x) := by
  rw [View.readCov_eq_canon', h]

/-- A buffer stored whole. -/
theorem canon_whole {off : Fin s.rank → ℕ} (inb : ∀ a, off a + s.size a ≤ s.size a) (Z : s.Idx → Elt Ideal e) (h : ∀ a, off a = 0) :
    View.canon (⟨Rect.unit off s.size inb, Z⟩ :: ([] : List (View.Piece (Elt Ideal) s e))) = Z :=
  View.canon_cons_unit_lit inb Z [] h

theorem idx2 {N M n m o0 o1 : ℕ} (inb : ∀ a, (![o0, o1] : Fin 2 → ℕ) a + (![n, m] : Fin 2 → ℕ) a ≤ (⟨2, ![N, M]⟩ : Shape).size a) (i : Fin n) (j : Fin m)
    (hi : o0 + i.val < N) (hj : o1 + j.val < M) :
    (Rect.unit (s := ⟨2, ![N, M]⟩) ![o0, o1] ![n, m] inb).toLoadRect.idx (ix2 i j) = ix2 ⟨o0 + i.val, hi⟩ ⟨o1 + j.val, hj⟩ := by
  refine (eq_ix2 _).trans ?_
  congr 1
  · exact Fin.ext (by show o0 + 1 * i.val = o0 + i.val; omega)
  · exact Fin.ext (by show o1 + 1 * j.val = o1 + j.val; omega)

theorem idx3 {N M K n m k o0 o1 o2 : ℕ} (inb : ∀ a, (![o0, o1, o2] : Fin 3 → ℕ) a + (![n, m, k] : Fin 3 → ℕ) a ≤ (⟨3, ![N, M, K]⟩ : Shape).size a) (i : Fin n) (j : Fin m) (l : Fin k)
    (hi : o0 + i.val < N) (hj : o1 + j.val < M) (hl : o2 + l.val < K) :
    (Rect.unit (s := ⟨3, ![N, M, K]⟩) ![o0, o1, o2] ![n, m, k] inb).toLoadRect.idx (ix3 i j l) = ix3 ⟨o0 + i.val, hi⟩ ⟨o1 + j.val, hj⟩ ⟨o2 + l.val, hl⟩ := by
  refine (eq_ix3 _).trans ?_
  congr 1
  · exact Fin.ext (by show o0 + 1 * i.val = o0 + i.val; omega)
  · exact Fin.ext (by show o1 + 1 * j.val = o1 + j.val; omega)
  · exact Fin.ext (by show o2 + 1 * l.val = o2 + l.val; omega)

end reads

/-- What a tile is given, but for the weights and the state. -/
structure Tile (a : Args) (b : Fin 2) (T : ℕ) (x0 : Vec Ideal S128x128 .bf16) (x1 : Vec Ideal S64x64 .i32) (x2 : Vec Ideal S1x512x1024 .f32) (x3 : Vec Ideal S1x1024 .f32)
    (x5 : Vec Ideal S2x512 .f32) (x6 : Vec Ideal S1x512 .f32) (x7 : Vec Ideal S1x512x512 .bf16) (x9 : Vec Ideal S1x1024 .f32) : Prop where
  coef : IsCoef x0
  lev : ∀ t s, x1 (ix2 t s) = BitVec.ofNat 32 (level t s)
  rows : ∀ r d, x2 (ix3 0 r d) = a.X b (trow T r) d
  nw : ∀ d, x3 (ix2 0 d) = a.NW d
  lb : ∀ i n, x5 (ix2 i n) = a.L i n
  gn : ∀ n, x6 (ix2 0 n) = a.GN n
  oat : ∀ r n, x7 (ix3 0 r n) = a.OAT b (trow T r) n
  fw : ∀ d, x9 (ix2 0 d) = a.FW d

section units

variable (C : FVec Ideal S128x128 .bf16) (gm : FVec Ideal S64x256 .bf16) (lev : IVec S64x64 32) (qv kv vv : FVec Ideal S64x128 .bf16)
variable (a : Args) (b : Fin 2) (h : Fin 4) (c : ℕ)

theorem unit_intra (hC : IsCoef C) (hl : ∀ t s, lev (ix2 t s) = BitVec.ofNat 32 (level t s)) (hg : IsBits gm (a.G b h c)) (hq : ∀ t d, qv (ix2 t d) = a.Q b h c t d)
    (hk : ∀ t d, kv (ix2 t d) = a.K b h c t d) (hv : ∀ t d, vv (ix2 t d) = a.V b h c t d) (P : S64x128.Idx → EReal) (hP : P = uIntra lev qv kv vv (uSums C gm)) (t : Fin 64) (j : Fin 128) :
    P (ix2 t j) = intra (a.Q b h c) (a.K b h c) (a.V b h c) (a.G b h c) t j := by
  rw [hP]
  exact uIntra_at lev qv kv vv _ _ _ _ _ (uSums_at C gm _ hC hg) hq hk hv hl (fun t d => a.G_nonpos b h c t d) t j

theorem unit_gain (hC : IsCoef C) (hg : IsBits gm (a.G b h c))
    (hk : ∀ t d, kv (ix2 t d) = a.K b h c t d) (hv : ∀ t d, vv (ix2 t d) = a.V b h c t d) (P : S1x1x128x128.Idx → EReal) (hP : P = uGain kv vv (uSums C gm)) (j i : Fin 128) :
    P (ix4 0 0 j i) = gain (a.K b h c) (a.V b h c) (a.G b h c) i j := by
  rw [hP]
  exact uGain_at kv vv _ _ _ _ (uSums_at C gm _ hC hg) hk hv j i

theorem unit_query (hC : IsCoef C) (hg : IsBits gm (a.G b h c)) (hq : ∀ t d, qv (ix2 t d) = a.Q b h c t d) (P : S64x128.Idx → EReal) (hP : P = uQuery qv (uSums C gm)) (t : Fin 64) (d : Fin 128) :
    P (ix2 t d) = a.Q b h c t d * ((Real.exp (cum (fun r => a.G b h c r d) t) : ℝ) : EReal) := by
  rw [hP]
  exact uQuery_at qv _ _ _ (uSums_at C gm _ hC hg) hq t d

theorem unit_keep (hC : IsCoef C) (hg : IsBits gm (a.G b h c)) (P : S1x1x8x128.Idx → EReal) (hP : P = uKeep (uSums C gm)) (r : Fin 8) (d : Fin 128) :
    P (ix4 0 0 r d) = keep (a.G b h c) d := by
  rw [hP]
  exact uKeep_at _ _ (uSums_at C gm _ hC hg) r d

/-- The state after a chunk. -/
theorem unit_step (s : FVec Ideal S128x128 .f32) (d : FVec Ideal S1x1x1x128 .f32) (g : FVec Ideal S1x1x128x128 .f32) (hs : ∀ i j, s (ix2 j i) = a.S b h c i j)
    (hd : ∀ i, d (ix4 0 0 0 i) = keep (a.G b h c) i) (hg : ∀ i j, g (ix4 0 0 j i) = gain (a.K b h c) (a.V b h c) (a.G b h c) i j) (P : S128x128.Idx → EReal) (hP : P = uStep s d g) (i j : Fin 128) :
    P (ix2 j i) = a.S b h (c + 1) i j := by
  rw [hP, uStep_at, hs, hd, hg]
  rfl

/-- The branch's output on a chunk. -/
theorem unit_head (oi : FVec Ideal S64x128 .f32) (qd : FVec Ideal S64x128 .bf16) (s : FVec Ideal S128x128 .f32) (gn : FVec Ideal S1x128 .f32) (z : FVec Ideal S64x128 .bf16)
    (hs : ∀ i j, s (ix2 j i) = a.S b h c i j) (hi : ∀ t j, oi (ix2 t j) = intra (a.Q b h c) (a.K b h c) (a.V b h c) (a.G b h c) t j)
    (hq : ∀ t d, qd (ix2 t d) = a.Q b h c t d * ((Real.exp (cum (fun r => a.G b h c r d) t) : ℝ) : EReal))
    (hgn : ∀ j, gn (ix2 0 j) = a.GN (col h j)) (hz : ∀ t j, z (ix2 t j) = silu (a.p b (row c t) ⟨1536 + (col h j).val, by have := (col h j).isLt; omega⟩))
    (P : S64x128.Idx → EReal) (hP : P = uHead (uOut oi qd s) gn z) (t : Fin 64) (j : Fin 128) : P (ix2 t j) = a.ohg b c t h j := by
  have ho : ∀ t j, uOut oi qd s (ix2 t j) = a.O b h c t j := fun t j => by
    rw [uOut_at, hi]
    simp only [hq, hs]
    rfl
  rw [hP, uHead_at]
  simp only [ho, hgn, hz]
  rfl

end units

end Cert.Hgrn
end
-- ==== Proof.Mem.lean ====
/- The buffers and the data of a point, and what a tile knows of them. -/
module

public import proofs.«01_k».proof.Proof.Tile

@[expose] public section

set_option maxRecDepth 16384

noncomputable section

namespace Cert.Hgrn

open Idealize.ShloMosaic Cert.KernelIdeal Cert.KernelIdeal.Gen

/-- The buffers of a point. -/
structure Mem where
  c : Dev Cert.KernelIdeal.nD
  arg2 : Memref sig .tc .vmem S128x128 .bf16
  harg2 : arg2.IsWhole
  arg3 : Memref sig .tc .vmem S64x64 .i32
  harg3 : arg3.IsWhole
  arg4 : Memref sig .tc .vmem S1x512x1024 .f32
  harg4 : arg4.IsWhole
  arg5 : Memref sig .tc .vmem S1x1024 .f32
  harg5 : arg5.IsWhole
  arg6 : Memref sig .tc .vmem S1x1024x2048 .f32
  harg6 : arg6.IsWhole
  arg7 : Memref sig .tc .vmem S2x512 .f32
  harg7 : arg7.IsWhole
  arg8 : Memref sig .tc .vmem S1x512 .f32
  harg8 : arg8.IsWhole
  arg9 : Memref sig .tc .vmem S1x512x512 .bf16
  harg9 : arg9.IsWhole
  arg10 : Memref sig .tc .vmem S1x1024x1024 .f32
  harg10 : arg10.IsWhole
  arg11 : Memref sig .tc .vmem S1x1024 .f32
  harg11 : arg11.IsWhole
  arg12 : Memref sig .tc .vmem S1x512x1024 .f32
  harg12 : arg12.IsWhole
  arg13 : Memref sig .tc .vmem S1024x2048 .bf16
  harg13 : arg13.IsWhole
  arg14 : Memref sig .tc .vmem S1024x1024 .bf16
  harg14 : arg14.IsWhole
  arg15 : Memref sig .tc .vmem S4x128x128 .f32
  harg15 : arg15.IsWhole
  arg16 : Memref sig .tc .vmem S512x512 .bf16
  harg16 : arg16.IsWhole
  arg17 : Memref sig .tc .vmem S512x1024 .bf16
  harg17 : arg17.IsWhole
  arg18 : Memref sig .tc .vmem S512x512 .bf16
  harg18 : arg18.IsWhole
  arg19 : Memref sig .tc .vmem S512x512 .bf16
  harg19 : arg19.IsWhole
  arg20 : Memref sig .tc .vmem S512x512 .bf16
  harg20 : arg20.IsWhole
  arg21 : Memref sig .tc .vmem S512x512 .bf16
  harg21 : arg21.IsWhole
  arg22 : Memref sig .tc .vmem S512x512 .f32
  harg22 : arg22.IsWhole
  arg23 : Memref sig .tc .vmem S4x8x128x128 .f32
  harg23 : arg23.IsWhole
  arg24 : Memref sig .tc .vmem S4x8x8x128 .f32
  harg24 : arg24.IsWhole
  arg25 : Memref sig .tc .vmem S512x512 .bf16
  harg25 : arg25.IsWhole

/-- What a point is given. -/
structure Data where
  x0 : Vec Ideal S128x128 .bf16
  x1 : Vec Ideal S64x64 .i32
  x2 : Vec Ideal S1x512x1024 .f32
  x3 : Vec Ideal S1x1024 .f32
  x4 : Vec Ideal S1x1024x2048 .f32
  x5 : Vec Ideal S2x512 .f32
  x6 : Vec Ideal S1x512 .f32
  x7 : Vec Ideal S1x512x512 .bf16
  x8 : Vec Ideal S1x1024x1024 .f32
  x9 : Vec Ideal S1x1024 .f32
  xs0 : Vec Ideal S1024x2048 .bf16
  xs1 : Vec Ideal S1024x1024 .bf16
  xs2 : Vec Ideal S4x128x128 .f32

/-- A tile at the first point of a sequence: the weights come with it, the state is reset. -/
structure InA (a : Args) (b : Fin 2) (T : ℕ) (D : Data) : Prop where
  tile : Tile a b T D.x0 D.x1 D.x2 D.x3 D.x5 D.x6 D.x7 D.x9
  first : T = 0
  lt : T < 16
  win : ∀ (k : Fin 1024) (j : Fin 2048), D.x4 (ix3 0 k j) = a.W k ⟨j.val, by omega⟩
  wout : ∀ k d, D.x8 (ix3 0 k d) = a.WO k d

/-- A later tile: the weights and the state are those carried. -/
structure InB (a : Args) (b : Fin 2) (T : ℕ) (D : Data) : Prop where
  tile : Tile a b T D.x0 D.x1 D.x2 D.x3 D.x5 D.x6 D.x7 D.x9
  lt : T < 16
  win : ∀ (k : Fin 1024) (j : Fin 2048), D.xs0 (ix2 k j) = a.W k ⟨j.val, by omega⟩
  wout : ∀ k d, D.xs1 (ix2 k d) = a.WO k d
  st : ∀ h i j, D.xs2 (ix3 h j i) = a.S b h (8 * T) i j

section loads

variable {sig : RefSig} {κ : Kind} {sp : Space} {e : EltTy}

/-- A load of a buffer's rectangle. -/
theorem load2 {N M n m o0 o1 : ℕ} {μ : Memref sig κ sp ⟨2, ![N, M]⟩ e} (hμ : μ.IsWhole) (X : (⟨2, ![N, M]⟩ : Shape).Idx → Elt Ideal e)
    (inb : ∀ a, (![o0, o1] : Fin 2 → ℕ) a + (![n, m] : Fin 2 → ℕ) a ≤ (⟨2, ![N, M]⟩ : Shape).size a) (i : Fin n) (j : Fin m) (i' : Fin N) (j' : Fin M)
    (hi : i'.val = o0 + i.val) (hj : j'.val = o1 + j.val) :
    View.readAt (Elt Ideal) μ.view (Rect.unit (s := ⟨2, ![N, M]⟩) ![o0, o1] ![n, m] inb).toLoadRect (hμ.unread X) (ix2 i j) = X (ix2 i' j') := by
  refine (hμ.readAt_unread X _ _).trans (congrArg X ?_)
  refine (idx2 inb i j (hi ▸ i'.isLt) (hj ▸ j'.isLt)).trans ?_
  congr 1
  · exact Fin.ext hi.symm
  · exact Fin.ext hj.symm

theorem load3 {N M K n m k o0 o1 o2 : ℕ} {μ : Memref sig κ sp ⟨3, ![N, M, K]⟩ e} (hμ : μ.IsWhole) (X : (⟨3, ![N, M, K]⟩ : Shape).Idx → Elt Ideal e)
    (inb : ∀ a, (![o0, o1, o2] : Fin 3 → ℕ) a + (![n, m, k] : Fin 3 → ℕ) a ≤ (⟨3, ![N, M, K]⟩ : Shape).size a) (i : Fin n) (j : Fin m) (l : Fin k) (i' : Fin N) (j' : Fin M) (l' : Fin K)
    (hi : i'.val = o0 + i.val) (hj : j'.val = o1 + j.val) (hl : l'.val = o2 + l.val) :
    View.readAt (Elt Ideal) μ.view (Rect.unit (s := ⟨3, ![N, M, K]⟩) ![o0, o1, o2] ![n, m, k] inb).toLoadRect (hμ.unread X) (ix3 i j l) = X (ix3 i' j' l') := by
  refine (hμ.readAt_unread X _ _).trans (congrArg X ?_)
  refine (idx3 inb i j l (hi ▸ i'.isLt) (hj ▸ j'.isLt) (hl ▸ l'.isLt)).trans ?_
  congr 1
  · exact Fin.ext hi.symm
  · exact Fin.ext hj.symm
  · exact Fin.ext hl.symm

/-- A load of what pieces leave. -/
theorem back2 {N M n m o0 o1 : ℕ} (v : View sig κ sp ⟨2, ![N, M]⟩ e) (L : List (View.Piece (Elt Ideal) ⟨2, ![N, M]⟩ e)) (X : (⟨2, ![N, M]⟩ : Shape).Idx → Elt Ideal e) (hL : View.canon L = X)
    (inb : ∀ a, (![o0, o1] : Fin 2 → ℕ) a + (![n, m] : Fin 2 → ℕ) a ≤ (⟨2, ![N, M]⟩ : Shape).size a) (i : Fin n) (j : Fin m) (i' : Fin N) (j' : Fin M)
    (hi : i'.val = o0 + i.val) (hj : j'.val = o1 + j.val) :
    v.readCov L (Rect.unit (s := ⟨2, ![N, M]⟩) ![o0, o1] ![n, m] inb).toLoadRect (ix2 i j) = X (ix2 i' j') := by
  refine (read_is v L X hL _ _).trans (congrArg X ?_)
  refine (idx2 inb i j (hi ▸ i'.isLt) (hj ▸ j'.isLt)).trans ?_
  congr 1
  · exact Fin.ext hi.symm
  · exact Fin.ext hj.symm

theorem back3 {N M K n m k o0 o1 o2 : ℕ} (v : View sig κ sp ⟨3, ![N, M, K]⟩ e) (L : List (View.Piece (Elt Ideal) ⟨3, ![N, M, K]⟩ e)) (X : (⟨3, ![N, M, K]⟩ : Shape).Idx → Elt Ideal e) (hL : View.canon L = X)
    (inb : ∀ a, (![o0, o1, o2] : Fin 3 → ℕ) a + (![n, m, k] : Fin 3 → ℕ) a ≤ (⟨3, ![N, M, K]⟩ : Shape).size a) (i : Fin n) (j : Fin m) (l : Fin k) (i' : Fin N) (j' : Fin M) (l' : Fin K)
    (hi : i'.val = o0 + i.val) (hj : j'.val = o1 + j.val) (hl : l'.val = o2 + l.val) :
    v.readCov L (Rect.unit (s := ⟨3, ![N, M, K]⟩) ![o0, o1, o2] ![n, m, k] inb).toLoadRect (ix3 i j l) = X (ix3 i' j' l') := by
  refine (read_is v L X hL _ _).trans (congrArg X ?_)
  refine (idx3 inb i j l (hi ▸ i'.isLt) (hj ▸ j'.isLt) (hl ▸ l'.isLt)).trans ?_
  congr 1
  · exact Fin.ext hi.symm
  · exact Fin.ext hj.symm
  · exact Fin.ext hl.symm

/-- A head's chunk, read back. -/
theorem rd2 (v : View sig κ sp S512x512 e) (L : List (View.Piece (Elt Ideal) S512x512 e)) (f : Fin 4 → ℕ → Fin 64 → Fin 128 → Elt Ideal e) (hL : View.canon L = tile2 f)
    (h : Fin 4) (ci : ℕ) (hci : ci < 8) {o0 o1 : ℕ} (e0 : o0 = 64 * ci) (e1 : o1 = 128 * h.val)
    (inb : ∀ a, (![o0, o1] : Fin 2 → ℕ) a + S64x128.size a ≤ S512x512.size a) (t : Fin 64) (d : Fin 128) :
    v.readCov L (Rect.unit (s := S512x512) ![o0, o1] S64x128.size inb).toLoadRect (ix2 t d) = f h ci t d :=
  (read_is v L _ hL _ _).trans (tile2_at f h ci hci e0 e1 inb t d)

theorem rd4 {n0 n1 n2 n3 m2 m3 : ℕ} (v : View sig κ sp ⟨4, ![n0, n1, n2, n3]⟩ e) (L : List (View.Piece (Elt Ideal) ⟨4, ![n0, n1, n2, n3]⟩ e)) (f : Fin n0 → ℕ → Fin n2 → Fin n3 → Elt Ideal e)
    (hL : View.canon L = tile4 (n1 := n1) f) (h : Fin n0) (ci : ℕ) {o0 : ℕ} (e0 : o0 = h.val)
    (inb : ∀ a, (![o0, ci, 0, 0] : Fin 4 → ℕ) a + (![1, 1, m2, m3] : Fin 4 → ℕ) a ≤ (⟨4, ![n0, n1, n2, n3]⟩ : Shape).size a) (i : Fin m2) (j : Fin m3) (hi : i.val < n2) (hj : j.val < n3) :
    v.readCov L (Rect.unit (s := ⟨4, ![n0, n1, n2, n3]⟩) ![o0, ci, 0, 0] ![1, 1, m2, m3] inb).toLoadRect (ix4 0 0 i j) = f h ci ⟨i.val, hi⟩ ⟨j.val, hj⟩ :=
  (read_is v L _ hL _ _).trans (tile4_at f h ci e0 inb i j hi hj)

end loads

theorem col_hd (n : Fin 512) : col (hd n) (dm n) = n := Fin.ext (by show n.val / 128 * 128 + n.val % 128 = n.val; omega)

/-- A buffer known at each row and column. -/
theorem tile2_ext {α : Type} (v : S512x512.Idx → α) (f : Fin 4 → ℕ → Fin 64 → Fin 128 → α) (hv : ∀ r n : Fin 512, v (ix2 r n) = f (hd n) (r.val / 64) (tm r) (dm n)) : v = tile2 f :=
  funext fun y => by
    obtain ⟨r, n, rfl⟩ : ∃ r n, y = ix2 r n := ⟨_, _, eq_ix2 y⟩
    exact hv r n

/-- The buffer of the gates' logarithms: for each head its bits, then zeros. -/
def gates (a : Args) (b : Fin 2) (T : ℕ) : S512x1024.Idx → EReal := fun y =>
  if (y 1).val % 256 < 128 then ((a.G b ⟨(y 1).val / 256, by have h : (y 1).val < 1024 := (y 1).isLt; omega⟩ (8 * T + (y 0).val / 64) (tm (y 0)) ⟨(y 1).val % 128, Nat.mod_lt _ (by norm_num)⟩ * bits : ℝ) : EReal) else 0

theorem gates_even (a : Args) (b : Fin 2) (T : ℕ) (h : Fin 4) {o : ℕ} (e : o = 256 * h.val) (inb : ∀ a, (![0, o] : Fin 2 → ℕ) a + S512x128.size a ≤ S512x1024.size a)
    (v : S512x128.Idx → EReal) (hv : ∀ (r : Fin 512) d, v (ix2 r d) = ((a.G b h (8 * T + r.val / 64) (tm r) d * bits : ℝ) : EReal)) (x : S512x128.Idx) :
    v x = gates a b T ((Rect.unit (s := S512x1024) ![0, o] S512x128.size inb).emb x) := by
  obtain ⟨r, d, rfl⟩ : ∃ r d, x = ix2 r d := ⟨_, _, eq_ix2 x⟩
  have hi : (Rect.unit (s := S512x1024) ![0, o] S512x128.size inb).emb (ix2 r d) = ix2 ⟨0 + r.val, by omega⟩ ⟨o + d.val, by omega⟩ := idx2 inb r d _ _
  rw [hi, hv]
  show _ = if (o + d.val) % 256 < 128 then _ else _
  rw [if_pos (by omega)]
  show _ = ((a.G b ⟨(o + d.val) / 256, _⟩ (8 * T + (0 + r.val) / 64) (tm ⟨0 + r.val, _⟩) ⟨(o + d.val) % 128, _⟩ * bits : ℝ) : EReal)
  have q1 : (⟨(o + d.val) / 256, by omega⟩ : Fin 4) = h := Fin.ext (by show (o + d.val) / 256 = h.val; omega)
  have q2 : (⟨(o + d.val) % 128, Nat.mod_lt _ (by norm_num)⟩ : Fin 128) = d := Fin.ext (by show (o + d.val) % 128 = d.val; omega)
  rw [q1, q2]
  simp only [Nat.zero_add]

theorem gates_odd (a : Args) (b : Fin 2) (T : ℕ) (h : Fin 4) {o : ℕ} (e : o = 256 * h.val + 128) (inb : ∀ a, (![0, o] : Fin 2 → ℕ) a + S512x128.size a ≤ S512x1024.size a)
    (v : S512x128.Idx → EReal) (hv : ∀ (r : Fin 512) d, v (ix2 r d) = 0) (x : S512x128.Idx) :
    v x = gates a b T ((Rect.unit (s := S512x1024) ![0, o] S512x128.size inb).emb x) := by
  obtain ⟨r, d, rfl⟩ : ∃ r d, x = ix2 r d := ⟨_, _, eq_ix2 x⟩
  have hi : (Rect.unit (s := S512x1024) ![0, o] S512x128.size inb).emb (ix2 r d) = ix2 ⟨0 + r.val, by omega⟩ ⟨o + d.val, by omega⟩ := idx2 inb r d _ _
  rw [hi, hv]
  show _ = if (o + d.val) % 256 < 128 then _ else _
  rw [if_neg (by omega)]

/-- A head's chunk of them, read back. -/
theorem rd_gates {sig : RefSig} {κ : Kind} {sp : Space} (v : View sig κ sp S512x1024 .bf16) (L : List (View.Piece (Elt Ideal) S512x1024 .bf16)) (a : Args) (b : Fin 2) (T : ℕ)
    (hL : View.canon L = gates a b T) (h : Fin 4) (ci : ℕ) (hci : ci < 8) {o0 o1 : ℕ} (e0 : o0 = 64 * ci) (e1 : o1 = 256 * h.val)
    (inb : ∀ a, (![o0, o1] : Fin 2 → ℕ) a + S64x256.size a ≤ S512x1024.size a) :
    IsBits (v.readCov L (Rect.unit (s := S512x1024) ![o0, o1] S64x256.size inb).toLoadRect) (a.G b h (8 * T + ci)) := by
  intro s d
  constructor
  · refine (back2 v L _ hL inb s ⟨d.val, by omega⟩ ⟨o0 + s.val, by omega⟩ ⟨o1 + d.val, by omega⟩ rfl rfl).trans ?_
    show (if (o1 + d.val) % 256 < 128 then _ else _) = _
    rw [if_pos (by omega)]
    show ((a.G b ⟨(o1 + d.val) / 256, _⟩ (8 * T + (o0 + s.val) / 64) (tm ⟨o0 + s.val, _⟩) ⟨(o1 + d.val) % 128, _⟩ * bits : ℝ) : EReal) = _
    have q1 : (⟨(o1 + d.val) / 256, by omega⟩ : Fin 4) = h := Fin.ext (by show (o1 + d.val) / 256 = h.val; omega)
    have q2 : (⟨(o1 + d.val) % 128, Nat.mod_lt _ (by norm_num)⟩ : Fin 128) = d := Fin.ext (by show (o1 + d.val) % 128 = d.val; omega)
    have q3 : tm ⟨o0 + s.val, by omega⟩ = s := Fin.ext (by show (o0 + s.val) % 64 = s.val; omega)
    have q4 : (o0 + s.val) / 64 = ci := by omega
    rw [q1, q2, q3, q4]
  · refine (back2 v L _ hL inb s ⟨128 + d.val, by omega⟩ ⟨o0 + s.val, by omega⟩ ⟨o1 + (128 + d.val), by omega⟩ rfl rfl).trans ?_
    show (if (o1 + (128 + d.val)) % 256 < 128 then _ else _) = _
    rw [if_neg (by omega)]

/-- The state carried: by head, value channel and key channel. -/
def carried (a : Args) (b : Fin 2) (T : ℕ) : S4x128x128.Idx → EReal := fun y => a.S b (y 0) (8 * T + 8) (y 2) (y 1)

theorem carried_piece (a : Args) (b : Fin 2) (T : ℕ) (h : Fin 4) {o : ℕ} (e : o = h.val) (inb : ∀ a, (![o, 0, 0] : Fin 3 → ℕ) a + (![1, 128, 128] : Fin 3 → ℕ) a ≤ S4x128x128.size a)
    (v : S1x128x128.Idx → EReal) (hv : ∀ i j, v (ix3 0 j i) = a.S b h (8 * T + 8) i j) (x : S1x128x128.Idx) :
    v x = carried a b T ((Rect.unit (s := S4x128x128) ![o, 0, 0] S1x128x128.size inb).emb x) := by
  obtain ⟨z, j, i, rfl⟩ : ∃ (z : Fin 1) (j i : Fin 128), x = ix3 z j i := ⟨_, _, _, eq_ix3 x⟩
  obtain rfl : z = 0 := Subsingleton.elim _ _
  have hi : (Rect.unit (s := S4x128x128) ![o, 0, 0] S1x128x128.size inb).emb (ix3 0 j i) = ix3 ⟨o + 0, by omega⟩ ⟨0 + j.val, by omega⟩ ⟨0 + i.val, by omega⟩ :=
    idx3 inb (0 : Fin 1) j i (by have := h.isLt; show o + 0 < 4; omega) (by omega) (by omega)
  rw [hi, hv]
  show _ = a.S b ⟨o + 0, _⟩ (8 * T + 8) ⟨0 + i.val, _⟩ ⟨0 + j.val, _⟩
  have q : (⟨o + 0, by omega⟩ : Fin 4) = h := Fin.ext e
  simp only [q, Nat.zero_add]

end Cert.Hgrn
end
-- ==== Proof.BaseA.lean ====
/- The projections a tile makes. -/
module

public import proofs.«01_k».proof.Proof.Mem
public import proofs.«01_k».proof.Proof.Gen.KernelIdeal.Frame.RunA

@[expose] public section

set_option maxRecDepth 16384

noncomputable section

namespace Cert.Hgrn

open Idealize.ShloMosaic Idealize.SL.Sem Cert.KernelIdeal Cert.KernelIdeal.Gen

variable {a : Args} {b : Fin 2} {T : ℕ} (M : Mem) (D : Data)

/-- The tile's rows. -/
theorem kA_x (H : InA a b T D) (r : Fin 512) (d : Fin 1024) : (kernelRun0_A.sl.v26 (F := Ideal) M.c M.arg4 M.harg4 D.x2) (ix2 r d) = a.X b (trow T r) d :=
by
  unfold kernelRun0_A.sl.v26
  pointwise
  refine (load3 M.harg4 D.x2 inb_S1x512x1024_S1x512x1024_0_0_0 0 r d 0 r d rfl (by omega) (by omega)).trans ?_
  exact H.tile.rows r d

theorem kA_nw (H : InA a b T D) (d : Fin 1024) : (kernelRun0_A.sl.r (F := Ideal) M.c M.arg5 M.harg5 D.x3) (ix2 0 d) = a.NW d :=
(load2 M.harg5 D.x3 inb_S1x1024_S1x1024_0_0 0 d 0 d rfl (by omega)).trans (H.tile.nw d)

theorem kA_lb (H : InA a b T D) (i : Fin 2) (n : Fin 512) : (View.readAt (Elt Ideal) M.arg7.view (Rect.unit (s := S2x512) ![0, 0] S2x512.size inb_S2x512_S2x512_0_0).toLoadRect (M.harg7.unread D.x5)) (ix2 i n) = a.L i n :=
(load2 M.harg7 D.x5 inb_S2x512_S2x512_0_0 i n i n (by omega) (by omega)).trans (H.tile.lb i n)

/-- The weights, as stored. -/
theorem kA_win (H : InA a b T D) (k : Fin 1024) (j : Fin 2048) : (kernelRun0_A.sl.v4866 (F := Ideal) M.c M.arg6 M.harg6 D.x4) (ix2 k j) = a.W k ⟨j.val, by omega⟩ :=
by
  unfold kernelRun0_A.sl.v4866 kernelRun0_A.sl.v4863 kernelRun0_A.sl.v4862
  pointwise
  refine (load3 M.harg6 D.x4 inb_S1x1024x2048_S1x1024x2048_0_0_0 0 k j 0 k j rfl (by omega) (by omega)).trans ?_
  exact H.win k j

/-- The weights, as stored. -/
theorem kA_wout (H : InA a b T D) (k : Fin 1024) (j : Fin 1024) : (kernelRun0_A.sl.v4872 (F := Ideal) M.c M.arg10 M.harg10 D.x8) (ix2 k j) = a.WO k j :=
by
  unfold kernelRun0_A.sl.v4872 kernelRun0_A.sl.v4869 kernelRun0_A.sl.v4868
  pointwise
  refine (load3 M.harg10 D.x8 inb_S1x1024x1024_S1x1024x1024_0_0_0 0 k j 0 k j rfl (by omega) (by omega)).trans ?_
  exact H.wout k j

theorem kA_cwin : View.canon (kernelRun0_A.sl.HS0_1 (F := Ideal) M.c M.arg6 M.harg6 D.x4) = (kernelRun0_A.sl.v4866 (F := Ideal) M.c M.arg6 M.harg6 D.x4) :=
by
  unfold kernelRun0_A.sl.HS0_1
  exact canon_whole _ _ (by decide)

theorem kA_cwout : View.canon (kernelRun0_A.sl.HS1_1 (F := Ideal) M.c M.arg10 M.harg10 D.x8) = (kernelRun0_A.sl.v4872 (F := Ideal) M.c M.arg10 M.harg10 D.x8) :=
by
  unfold kernelRun0_A.sl.HS1_1
  exact canon_whole _ _ (by decide)

theorem kA_w0 (H : InA a b T D) (x : Fin 1024) (n : Fin 512) : (kernelRun0_A.sl.v43 (F := Ideal) M.c M.arg6 M.harg6 M.arg13 D.x4) (ix2 x n) = a.W x ⟨0 + n.val, by omega⟩ :=
(back2 M.arg13.view _ _ (kA_cwin M D) inb_S1024x2048_S1024x512_0_0 x n x ⟨0 + n.val, by omega⟩ (by omega) rfl).trans (kA_win M D H x _)

theorem kA_w512 (H : InA a b T D) (x : Fin 1024) (n : Fin 512) : (kernelRun0_A.sl.v41 (F := Ideal) M.c M.arg6 M.harg6 M.arg13 D.x4) (ix2 x n) = a.W x ⟨512 + n.val, by omega⟩ :=
(back2 M.arg13.view _ _ (kA_cwin M D) inb_S1024x2048_S1024x512_0_512 x n x ⟨512 + n.val, by omega⟩ (by omega) rfl).trans (kA_win M D H x _)

theorem kA_w1024 (H : InA a b T D) (x : Fin 1024) (n : Fin 512) : (kernelRun0_A.sl.v2610 (F := Ideal) M.c M.arg6 M.harg6 M.arg13 D.x4) (ix2 x n) = a.W x ⟨1024 + n.val, by omega⟩ :=
(back2 M.arg13.view _ _ (kA_cwin M D) inb_S1024x2048_S1024x512_0_1024 x n x ⟨1024 + n.val, by omega⟩ (by omega) rfl).trans (kA_win M D H x _)

theorem kA_w1536 (H : InA a b T D) (x : Fin 1024) (n : Fin 512) : (kernelRun0_A.sl.v304 (F := Ideal) M.c M.arg6 M.harg6 M.arg13 D.x4) (ix2 x n) = a.W x ⟨1536 + n.val, by omega⟩ :=
(back2 M.arg13.view _ _ (kA_cwin M D) inb_S1024x2048_S1024x512_0_1536 x n x ⟨1536 + n.val, by omega⟩ (by omega) rfl).trans (kA_win M D H x _)

theorem kA_o0 (H : InA a b T D) (x : Fin 512) (d : Fin 1024) : (kernelRun0_A.sl.v4837 (F := Ideal) M.c M.arg10 M.harg10 M.arg14 D.x8) (ix2 x d) = a.WO ⟨0 + x.val, by omega⟩ d :=
(back2 M.arg14.view _ _ (kA_cwout M D) inb_S1024x1024_S512x1024_0_0 x d ⟨0 + x.val, by omega⟩ d rfl (by omega)).trans (kA_wout M D H _ d)

theorem kA_o512 (H : InA a b T D) (x : Fin 512) (d : Fin 1024) : (kernelRun0_A.sl.v2628 (F := Ideal) M.c M.arg10 M.harg10 M.arg14 D.x8) (ix2 x d) = a.WO ⟨512 + x.val, by omega⟩ d :=
(back2 M.arg14.view _ _ (kA_cwout M D) inb_S1024x1024_S512x1024_512_0 x d ⟨512 + x.val, by omega⟩ d rfl (by omega)).trans (kA_wout M D H _ d)

theorem kA_p0 (H : InA a b T D) (r n : Fin 512) : (sP (kernelRun0_A.sl.v26 (F := Ideal) M.c M.arg4 M.harg4 D.x2) (kernelRun0_A.sl.r (F := Ideal) M.c M.arg5 M.harg5 D.x3) (kernelRun0_A.sl.v43 (F := Ideal) M.c M.arg6 M.harg6 M.arg13 D.x4)) (ix2 r n) = a.p b (trow T r) ⟨0 + n.val, by omega⟩ :=
sP_at a b (trow T r) r _ _ _ (fun d => kA_x M D H r d) (fun d => kA_nw M D H d) _ n (fun x => kA_w0 M D H x n)

theorem kA_p1024 (H : InA a b T D) (r n : Fin 512) : (sP (kernelRun0_A.sl.v26 (F := Ideal) M.c M.arg4 M.harg4 D.x2) (kernelRun0_A.sl.r (F := Ideal) M.c M.arg5 M.harg5 D.x3) (kernelRun0_A.sl.v2610 (F := Ideal) M.c M.arg6 M.harg6 M.arg13 D.x4)) (ix2 r n) = a.p b (trow T r) ⟨1024 + n.val, by omega⟩ :=
sP_at a b (trow T r) r _ _ _ (fun d => kA_x M D H r d) (fun d => kA_nw M D H d) _ n (fun x => kA_w1024 M D H x n)

theorem kA_p1536 (H : InA a b T D) (r n : Fin 512) : (sP (kernelRun0_A.sl.v26 (F := Ideal) M.c M.arg4 M.harg4 D.x2) (kernelRun0_A.sl.r (F := Ideal) M.c M.arg5 M.harg5 D.x3) (kernelRun0_A.sl.v304 (F := Ideal) M.c M.arg6 M.harg6 M.arg13 D.x4)) (ix2 r n) = a.p b (trow T r) ⟨1536 + n.val, by omega⟩ :=
sP_at a b (trow T r) r _ _ _ (fun d => kA_x M D H r d) (fun d => kA_nw M D H d) _ n (fun x => kA_w1536 M D H x n)

/-- The gates. -/
theorem kA_f (H : InA a b T D) (r n : Fin 512) : (sF (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) (ix2 r n) = (a.f b (trow T r) n : EReal) :=
sF_at a b (trow T r) r _ _ _ _ (fun d => kA_x M D H r d) (fun d => kA_nw M D H d) (fun i n => kA_lb M D H i n) n (fun x => kA_w512 M D H x n)

/-- The queries. -/
theorem kA_q (H : InA a b T D) (r n : Fin 512) : (kernelRun0_A.sl.v111 (F := Ideal) M.c M.arg4 M.harg4 M.arg5 M.harg5 M.arg6 M.harg6 M.arg13 D.x2 D.x3 D.x4) (ix2 r n) = a.Q b (hd n) (8 * T + r.val / 64) (tm r) (dm n) :=
by
  have e : (kernelRun0_A.sl.v111 (F := Ideal) M.c M.arg4 M.harg4 M.arg5 M.harg5 M.arg6 M.harg6 M.arg13 D.x2 D.x3 D.x4) = sSilu (sP (kernelRun0_A.sl.v26 (F := Ideal) M.c M.arg4 M.harg4 D.x2) (kernelRun0_A.sl.r (F := Ideal) M.c M.arg5 M.harg5 D.x3) (kernelRun0_A.sl.v43 (F := Ideal) M.c M.arg6 M.harg6 M.arg13 D.x4)) := rfl
  rw [e, sSilu_at, kA_p0 M D H]
  unfold Args.Q trow
  simp only [col_hd, Nat.zero_add]

/-- The keys. -/
theorem kA_k (H : InA a b T D) (r n : Fin 512) : (kernelRun0_A.sl.v99 (F := Ideal) M.c M.arg4 M.harg4 M.arg5 M.harg5 M.arg6 M.harg6 M.arg7 M.harg7 M.arg13 D.x2 D.x3 D.x4 D.x5) (ix2 r n) = a.K b (hd n) (8 * T + r.val / 64) (tm r) (dm n) :=
by
  have e : (kernelRun0_A.sl.v99 (F := Ideal) M.c M.arg4 M.harg4 M.arg5 M.harg5 M.arg6 M.harg6 M.arg7 M.harg7 M.arg13 D.x2 D.x3 D.x4 D.x5) = sK (sF (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) := rfl
  rw [e, sK_at r _ n _ (kA_f M D H r n)]
  unfold Args.K trow
  simp only [col_hd]

/-- The values. -/
theorem kA_v (H : InA a b T D) (r n : Fin 512) : (kernelRun0_A.sl.v2637 (F := Ideal) M.c M.arg4 M.harg4 M.arg5 M.harg5 M.arg6 M.harg6 M.arg13 D.x2 D.x3 D.x4) (ix2 r n) = a.V b (hd n) (8 * T + r.val / 64) (tm r) (dm n) :=
by
  have e : (kernelRun0_A.sl.v2637 (F := Ideal) M.c M.arg4 M.harg4 M.arg5 M.harg5 M.arg6 M.harg6 M.arg13 D.x2 D.x3 D.x4) = sV (sP (kernelRun0_A.sl.v26 (F := Ideal) M.c M.arg4 M.harg4 D.x2) (kernelRun0_A.sl.r (F := Ideal) M.c M.arg5 M.harg5 D.x3) (kernelRun0_A.sl.v2610 (F := Ideal) M.c M.arg6 M.harg6 M.arg13 D.x4)) := rfl
  rw [e, sV_at, kA_p1024 M D H]
  unfold Args.V trow
  simp only [col_hd]

/-- The gate of the branch's output. -/
def zzA (a : Args) (b : Fin 2) (c : ℕ) (h : Fin 4) (t : Fin 64) (j : Fin 128) : EReal := silu (a.p b (row c t) ⟨1536 + (col h j).val, by have := (col h j).isLt; omega⟩)

theorem kA_z (H : InA a b T D) (r n : Fin 512) : (kernelRun0_A.sl.v2623 (F := Ideal) M.c M.arg4 M.harg4 M.arg5 M.harg5 M.arg6 M.harg6 M.arg13 D.x2 D.x3 D.x4) (ix2 r n) = zzA a b (8 * T + r.val / 64) (hd n) (tm r) (dm n) :=
by
  have e : (kernelRun0_A.sl.v2623 (F := Ideal) M.c M.arg4 M.harg4 M.arg5 M.harg5 M.arg6 M.harg6 M.arg13 D.x2 D.x3 D.x4) = sSilu (sP (kernelRun0_A.sl.v26 (F := Ideal) M.c M.arg4 M.harg4 D.x2) (kernelRun0_A.sl.r (F := Ideal) M.c M.arg5 M.harg5 D.x3) (kernelRun0_A.sl.v304 (F := Ideal) M.c M.arg6 M.harg6 M.arg13 D.x4)) := rfl
  rw [e, sSilu_at, kA_p1536 M D H]
  unfold zzA trow
  simp only [col_hd]

/-- The row and what the other branch adds to it. -/
theorem kA_y (H : InA a b T D) (r : Fin 512) (d : Fin 1024) : (kernelRun0_A.sl.v2633 (F := Ideal) M.c M.arg4 M.harg4 M.arg9 M.harg9 M.arg10 M.harg10 M.arg14 D.x2 D.x7 D.x8) (ix3 0 r d) = a.X b (trow T r) d + ∑ x : Fin 512, a.OAT b (trow T r) x * a.WO ⟨512 + x.val, by omega⟩ d :=
by
  have e : (kernelRun0_A.sl.v2633 (F := Ideal) M.c M.arg4 M.harg4 M.arg9 M.harg9 M.arg10 M.harg10 M.arg14 D.x2 D.x7 D.x8) = sRes (kernelRun0_A.sl.v26 (F := Ideal) M.c M.arg4 M.harg4 D.x2) (kernelRun0_A.sl.v2627 (F := Ideal) M.c M.arg9 M.harg9 D.x7) (kernelRun0_A.sl.v2628 (F := Ideal) M.c M.arg10 M.harg10 M.arg14 D.x8) := rfl
  rw [e, sRes_at, kA_x M D H]
  congr 1
  refine Finset.sum_congr rfl fun x _ => ?_
  rw [kA_o512 M D H]
  congr 1
  unfold kernelRun0_A.sl.v2627
  pointwise
  exact (load3 M.harg9 D.x7 inb_S1x512x512_S1x512x512_0_0_0 0 r x 0 r x rfl (by omega) (by omega)).trans (H.tile.oat r x)

theorem kA_cq (H : InA a b T D) : View.canon (kernelRun0_A.sl.HS3_1 (F := Ideal) M.c M.arg4 M.harg4 M.arg5 M.harg5 M.arg6 M.harg6 M.arg13 D.x2 D.x3 D.x4) = tile2 (fun h c t d => a.Q b h (8 * T + c) t d) :=
by
  unfold kernelRun0_A.sl.HS3_1
  exact (canon_whole _ _ (by decide)).trans (tile2_ext _ _ (fun r n => kA_q M D H r n))

theorem kA_ck (H : InA a b T D) : View.canon (kernelRun0_A.sl.HS5_1 (F := Ideal) M.c M.arg4 M.harg4 M.arg5 M.harg5 M.arg6 M.harg6 M.arg7 M.harg7 M.arg13 D.x2 D.x3 D.x4 D.x5) = tile2 (fun h c t d => a.K b h (8 * T + c) t d) :=
by
  unfold kernelRun0_A.sl.HS5_1
  exact (canon_whole _ _ (by decide)).trans (tile2_ext _ _ (fun r n => kA_k M D H r n))

theorem kA_cv (H : InA a b T D) : View.canon (kernelRun0_A.sl.HS6_1 (F := Ideal) M.c M.arg4 M.harg4 M.arg5 M.harg5 M.arg6 M.harg6 M.arg13 D.x2 D.x3 D.x4) = tile2 (fun h c t d => a.V b h (8 * T + c) t d) :=
by
  unfold kernelRun0_A.sl.HS6_1
  exact (canon_whole _ _ (by decide)).trans (tile2_ext _ _ (fun r n => kA_v M D H r n))

theorem kA_cz (H : InA a b T D) : View.canon (kernelRun0_A.sl.HS7_1 (F := Ideal) M.c M.arg4 M.harg4 M.arg5 M.harg5 M.arg6 M.harg6 M.arg13 D.x2 D.x3 D.x4) = tile2 (fun h c t d => zzA a b (8 * T + c) h t d) :=
by
  unfold kernelRun0_A.sl.HS7_1
  exact (canon_whole _ _ (by decide)).trans (tile2_ext _ _ (fun r n => kA_z M D H r n))

theorem kA_hi (H : InA a b T D) (r n : Fin 512) : (sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) (ix2 r n) = ((a.G b (hd n) (8 * T + r.val / 64) (tm r) (dm n) * bits : ℝ) : EReal) :=
by
  refine (sHi_at r _ _ _ _ n _ (a.f_spec b (trow T r) n).1 (kA_f M D H r n)).trans ?_
  unfold Args.G trow
  simp only [col_hd]

theorem kA_lo (H : InA a b T D) (r n : Fin 512) : (sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) (ix2 r n) = 0 :=
sLo_at r _ _ _ _ n _ (a.f_spec b (trow T r) n).1 (kA_f M D H r n)

theorem kA_g0 (H : InA a b T D) (r : Fin 512) (d : Fin 128) : (k0_pay20 (F := Ideal) (kernelRun0_A.sl.v20 (F := Ideal) M.c M.arg7 M.harg7 D.x5) (kernelRun0_A.sl.v24 (F := Ideal) M.c M.arg7 M.harg7 D.x5) (kernelRun0_A.sl.v26 (F := Ideal) M.c M.arg4 M.harg4 D.x2) (kernelRun0_A.sl.r (F := Ideal) M.c M.arg5 M.harg5 D.x3) (kernelRun0_A.sl.v36 (F := Ideal) M.c M.arg4 M.harg4 D.x2) (kernelRun0_A.sl.v41 (F := Ideal) M.c M.arg6 M.harg6 M.arg13 D.x4)) (ix2 r d) = ((a.G b 0 (8 * T + r.val / 64) (tm r) d * bits : ℝ) : EReal) :=
by
  have e : (k0_pay20 (F := Ideal) (kernelRun0_A.sl.v20 (F := Ideal) M.c M.arg7 M.harg7 D.x5) (kernelRun0_A.sl.v24 (F := Ideal) M.c M.arg7 M.harg7 D.x5) (kernelRun0_A.sl.v26 (F := Ideal) M.c M.arg4 M.harg4 D.x2) (kernelRun0_A.sl.r (F := Ideal) M.c M.arg5 M.harg5 D.x3) (kernelRun0_A.sl.v36 (F := Ideal) M.c M.arg4 M.harg4 D.x2) (kernelRun0_A.sl.v41 (F := Ideal) M.c M.arg6 M.harg6 M.arg13 D.x4)) = (shapeCast S512x128 (extractStridedSlice S512x128 ![0, 0] (sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) slices_S512x512_o0_0_S512x128) shapeCasts_S512x128_S512x128) := rfl
  rw [e]
  generalize hg : sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4) = g
  pointwise
  rw [← hg]
  refine (kA_hi M D H r ⟨d.val, by omega⟩).trans ?_
  have e1 : hd ⟨d.val, by omega⟩ = 0 := Fin.ext (by show (d.val) / 128 = 0; omega)
  have e2 : dm ⟨d.val, by omega⟩ = d := Fin.ext (by show (d.val) % 128 = d.val; omega)
  rw [e1, e2]

theorem kA_g1 (H : InA a b T D) (r : Fin 512) (d : Fin 128) : (k0_pay21 (F := Ideal) (kernelRun0_A.sl.v20 (F := Ideal) M.c M.arg7 M.harg7 D.x5) (kernelRun0_A.sl.v24 (F := Ideal) M.c M.arg7 M.harg7 D.x5) (kernelRun0_A.sl.v26 (F := Ideal) M.c M.arg4 M.harg4 D.x2) (kernelRun0_A.sl.r (F := Ideal) M.c M.arg5 M.harg5 D.x3) (kernelRun0_A.sl.v36 (F := Ideal) M.c M.arg4 M.harg4 D.x2) (kernelRun0_A.sl.v41 (F := Ideal) M.c M.arg6 M.harg6 M.arg13 D.x4)) (ix2 r d) = 0 :=
by
  have e : (k0_pay21 (F := Ideal) (kernelRun0_A.sl.v20 (F := Ideal) M.c M.arg7 M.harg7 D.x5) (kernelRun0_A.sl.v24 (F := Ideal) M.c M.arg7 M.harg7 D.x5) (kernelRun0_A.sl.v26 (F := Ideal) M.c M.arg4 M.harg4 D.x2) (kernelRun0_A.sl.r (F := Ideal) M.c M.arg5 M.harg5 D.x3) (kernelRun0_A.sl.v36 (F := Ideal) M.c M.arg4 M.harg4 D.x2) (kernelRun0_A.sl.v41 (F := Ideal) M.c M.arg6 M.harg6 M.arg13 D.x4)) = (shapeCast S512x128 (extractStridedSlice S512x128 ![0, 0] (sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) slices_S512x512_o0_0_S512x128) shapeCasts_S512x128_S512x128) := rfl
  rw [e]
  generalize hg : sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4) = g
  pointwise
  rw [← hg]
  exact kA_lo M D H r ⟨d.val, by omega⟩

theorem kA_g2 (H : InA a b T D) (r : Fin 512) (d : Fin 128) : (k0_pay22 (F := Ideal) (kernelRun0_A.sl.v20 (F := Ideal) M.c M.arg7 M.harg7 D.x5) (kernelRun0_A.sl.v24 (F := Ideal) M.c M.arg7 M.harg7 D.x5) (kernelRun0_A.sl.v26 (F := Ideal) M.c M.arg4 M.harg4 D.x2) (kernelRun0_A.sl.r (F := Ideal) M.c M.arg5 M.harg5 D.x3) (kernelRun0_A.sl.v36 (F := Ideal) M.c M.arg4 M.harg4 D.x2) (kernelRun0_A.sl.v41 (F := Ideal) M.c M.arg6 M.harg6 M.arg13 D.x4)) (ix2 r d) = ((a.G b 1 (8 * T + r.val / 64) (tm r) d * bits : ℝ) : EReal) :=
by
  have e : (k0_pay22 (F := Ideal) (kernelRun0_A.sl.v20 (F := Ideal) M.c M.arg7 M.harg7 D.x5) (kernelRun0_A.sl.v24 (F := Ideal) M.c M.arg7 M.harg7 D.x5) (kernelRun0_A.sl.v26 (F := Ideal) M.c M.arg4 M.harg4 D.x2) (kernelRun0_A.sl.r (F := Ideal) M.c M.arg5 M.harg5 D.x3) (kernelRun0_A.sl.v36 (F := Ideal) M.c M.arg4 M.harg4 D.x2) (kernelRun0_A.sl.v41 (F := Ideal) M.c M.arg6 M.harg6 M.arg13 D.x4)) = (shapeCast S512x128 (extractStridedSlice S512x128 ![0, 128] (sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) slices_S512x512_o0_128_S512x128) shapeCasts_S512x128_S512x128) := rfl
  rw [e]
  generalize hg : sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4) = g
  pointwise
  rw [← hg]
  refine (kA_hi M D H r ⟨128 + d.val, by omega⟩).trans ?_
  have e1 : hd ⟨128 + d.val, by omega⟩ = 1 := Fin.ext (by show (128 + d.val) / 128 = 1; omega)
  have e2 : dm ⟨128 + d.val, by omega⟩ = d := Fin.ext (by show (128 + d.val) % 128 = d.val; omega)
  rw [e1, e2]

theorem kA_g3 (H : InA a b T D) (r : Fin 512) (d : Fin 128) : (k0_pay23 (F := Ideal) (kernelRun0_A.sl.v20 (F := Ideal) M.c M.arg7 M.harg7 D.x5) (kernelRun0_A.sl.v24 (F := Ideal) M.c M.arg7 M.harg7 D.x5) (kernelRun0_A.sl.v26 (F := Ideal) M.c M.arg4 M.harg4 D.x2) (kernelRun0_A.sl.r (F := Ideal) M.c M.arg5 M.harg5 D.x3) (kernelRun0_A.sl.v36 (F := Ideal) M.c M.arg4 M.harg4 D.x2) (kernelRun0_A.sl.v41 (F := Ideal) M.c M.arg6 M.harg6 M.arg13 D.x4)) (ix2 r d) = 0 :=
by
  have e : (k0_pay23 (F := Ideal) (kernelRun0_A.sl.v20 (F := Ideal) M.c M.arg7 M.harg7 D.x5) (kernelRun0_A.sl.v24 (F := Ideal) M.c M.arg7 M.harg7 D.x5) (kernelRun0_A.sl.v26 (F := Ideal) M.c M.arg4 M.harg4 D.x2) (kernelRun0_A.sl.r (F := Ideal) M.c M.arg5 M.harg5 D.x3) (kernelRun0_A.sl.v36 (F := Ideal) M.c M.arg4 M.harg4 D.x2) (kernelRun0_A.sl.v41 (F := Ideal) M.c M.arg6 M.harg6 M.arg13 D.x4)) = (shapeCast S512x128 (extractStridedSlice S512x128 ![0, 128] (sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) slices_S512x512_o0_128_S512x128) shapeCasts_S512x128_S512x128) := rfl
  rw [e]
  generalize hg : sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4) = g
  pointwise
  rw [← hg]
  exact kA_lo M D H r ⟨128 + d.val, by omega⟩

theorem kA_g4 (H : InA a b T D) (r : Fin 512) (d : Fin 128) : (kernelRun0_A.sl.v81 (F := Ideal) M.c M.arg4 M.harg4 M.arg5 M.harg5 M.arg6 M.harg6 M.arg7 M.harg7 M.arg13 D.x2 D.x3 D.x4 D.x5) (ix2 r d) = ((a.G b 2 (8 * T + r.val / 64) (tm r) d * bits : ℝ) : EReal) :=
by
  have e : (kernelRun0_A.sl.v81 (F := Ideal) M.c M.arg4 M.harg4 M.arg5 M.harg5 M.arg6 M.harg6 M.arg7 M.harg7 M.arg13 D.x2 D.x3 D.x4 D.x5) = (shapeCast S512x128 (extractStridedSlice S512x128 ![0, 256] (sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) slices_S512x512_o0_256_S512x128) shapeCasts_S512x128_S512x128) := rfl
  rw [e]
  generalize hg : sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4) = g
  pointwise
  rw [← hg]
  refine (kA_hi M D H r ⟨256 + d.val, by omega⟩).trans ?_
  have e1 : hd ⟨256 + d.val, by omega⟩ = 2 := Fin.ext (by show (256 + d.val) / 128 = 2; omega)
  have e2 : dm ⟨256 + d.val, by omega⟩ = d := Fin.ext (by show (256 + d.val) % 128 = d.val; omega)
  rw [e1, e2]

theorem kA_g5 (H : InA a b T D) (r : Fin 512) (d : Fin 128) : (kernelRun0_A.sl.v85 (F := Ideal) M.c M.arg4 M.harg4 M.arg5 M.harg5 M.arg6 M.harg6 M.arg7 M.harg7 M.arg13 D.x2 D.x3 D.x4 D.x5) (ix2 r d) = 0 :=
by
  have e : (kernelRun0_A.sl.v85 (F := Ideal) M.c M.arg4 M.harg4 M.arg5 M.harg5 M.arg6 M.harg6 M.arg7 M.harg7 M.arg13 D.x2 D.x3 D.x4 D.x5) = (shapeCast S512x128 (extractStridedSlice S512x128 ![0, 256] (sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) slices_S512x512_o0_256_S512x128) shapeCasts_S512x128_S512x128) := rfl
  rw [e]
  generalize hg : sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4) = g
  pointwise
  rw [← hg]
  exact kA_lo M D H r ⟨256 + d.val, by omega⟩

theorem kA_g6 (H : InA a b T D) (r : Fin 512) (d : Fin 128) : (kernelRun0_A.sl.v89 (F := Ideal) M.c M.arg4 M.harg4 M.arg5 M.harg5 M.arg6 M.harg6 M.arg7 M.harg7 M.arg13 D.x2 D.x3 D.x4 D.x5) (ix2 r d) = ((a.G b 3 (8 * T + r.val / 64) (tm r) d * bits : ℝ) : EReal) :=
by
  have e : (kernelRun0_A.sl.v89 (F := Ideal) M.c M.arg4 M.harg4 M.arg5 M.harg5 M.arg6 M.harg6 M.arg7 M.harg7 M.arg13 D.x2 D.x3 D.x4 D.x5) = (shapeCast S512x128 (extractStridedSlice S512x128 ![0, 384] (sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) slices_S512x512_o0_384_S512x128) shapeCasts_S512x128_S512x128) := rfl
  rw [e]
  generalize hg : sHi (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4) = g
  pointwise
  rw [← hg]
  refine (kA_hi M D H r ⟨384 + d.val, by omega⟩).trans ?_
  have e1 : hd ⟨384 + d.val, by omega⟩ = 3 := Fin.ext (by show (384 + d.val) / 128 = 3; omega)
  have e2 : dm ⟨384 + d.val, by omega⟩ = d := Fin.ext (by show (384 + d.val) % 128 = d.val; omega)
  rw [e1, e2]

theorem kA_g7 (H : InA a b T D) (r : Fin 512) (d : Fin 128) : (kernelRun0_A.sl.v93 (F := Ideal) M.c M.arg4 M.harg4 M.arg5 M.harg5 M.arg6 M.harg6 M.arg7 M.harg7 M.arg13 D.x2 D.x3 D.x4 D.x5) (ix2 r d) = 0 :=
by
  have e : (kernelRun0_A.sl.v93 (F := Ideal) M.c M.arg4 M.harg4 M.arg5 M.harg5 M.arg6 M.harg6 M.arg7 M.harg7 M.arg13 D.x2 D.x3 D.x4 D.x5) = (shapeCast S512x128 (extractStridedSlice S512x128 ![0, 384] (sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4)) slices_S512x512_o0_384_S512x128) shapeCasts_S512x128_S512x128) := rfl
  rw [e]
  generalize hg : sLo (View.readAt (Elt Ideal) M.arg7.view (Rect.unit (s := S2x512) ![0, 0] S2x512.size inb_S2x512_S2x512_0_0).toLoadRect (M.harg7.unread D.x5)) (kernelRun0_A.sl.v26 (F := Ideal) M.c M.arg4 M.harg4 D.x2) (kernelRun0_A.sl.r (F := Ideal) M.c M.arg5 M.harg5 D.x3) (kernelRun0_A.sl.v41 (F := Ideal) M.c M.arg6 M.harg6 M.arg13 D.x4) = g
  pointwise
  rw [← hg]
  exact kA_lo M D H r ⟨384 + d.val, by omega⟩

/-- The gates' logarithms. -/
theorem kA_cg (H : InA a b T D) : View.canon (kernelRun0_A.sl.HS4_8 (F := Ideal) M.c M.arg4 M.harg4 M.arg5 M.harg5 M.arg6 M.harg6 M.arg7 M.harg7 M.arg13 D.x2 D.x3 D.x4 D.x5) = gates a b T :=
by
  refine canon_is _ _ ?_ (View.cover_of_tiledL (s := S512x1024) _ S512x128.size (by sl_kernel_rfl))
  unfold kernelRun0_A.sl.HS4_8
  exact ⟨gates_odd a b T 3 (o := 896) rfl inb_S512x1024_S512x128_0_896 _ (kA_g7 M D H), gates_even a b T 3 (o := 768) rfl inb_S512x1024_S512x128_0_768 _ (kA_g6 M D H), gates_odd a b T 2 (o := 640) rfl inb_S512x1024_S512x128_0_640 _ (kA_g5 M D H), gates_even a b T 2 (o := 512) rfl inb_S512x1024_S512x128_0_512 _ (kA_g4 M D H), gates_odd a b T 1 (o := 384) rfl inb_S512x1024_S512x128_0_384 _ (kA_g3 M D H), gates_even a b T 1 (o := 256) rfl inb_S512x1024_S512x128_0_256 _ (kA_g2 M D H), gates_odd a b T 0 (o := 128) rfl inb_S512x1024_S512x128_0_128 _ (kA_g1 M D H), gates_even a b T 0 (o := 0) rfl inb_S512x1024_S512x128_0_0 _ (kA_g0 M D H), trivial⟩

theorem kA_coef (H : InA a b T D) : IsCoef (kernelRun0_A.sl.r_6 (F := Ideal) M.c M.arg2 M.harg2 D.x0) :=
by
  have e : (kernelRun0_A.sl.r_6 (F := Ideal) M.c M.arg2 M.harg2 D.x0) = D.x0 := funext fun y => by
    obtain ⟨i, j, rfl⟩ : ∃ i j, y = ix2 i j := ⟨_, _, eq_ix2 y⟩
    exact load2 M.harg2 D.x0 inb_S128x128_S128x128_0_0 i j i j (by omega) (by omega)
  rw [e]
  exact H.tile.coef

theorem kA_lev (H : InA a b T D) (t s : Fin 64) : (kernelRun0_A.sl.r_8 (F := Ideal) M.c M.arg3 M.harg3 D.x1) (ix2 t s) = BitVec.ofNat 32 (level t s) :=
(load2 M.harg3 D.x1 inb_S64x64_S64x64_0_0 t s t s (by omega) (by omega)).trans (H.tile.lev t s)

end Cert.Hgrn
end
-- ==== Proof.UnitsA.lean ====
/- The chunks of a tile, head by head. -/
module

public import proofs.«01_k».proof.Proof.BaseA

@[expose] public section

set_option maxRecDepth 16384

noncomputable section

namespace Cert.Hgrn

open Idealize.ShloMosaic Idealize.SL.Sem Cert.KernelIdeal Cert.KernelIdeal.Gen

variable {a : Args} {b : Fin 2} {T : ℕ} (M : Mem) (D : Data)

/-- A chunk's own part, stored. -/
theorem kA_pI (H : InA a b T D) (h : Fin 4) (ci : ℕ) (hci : ci < 8) {o0 o1 o2 : ℕ} (e0 : o0 = 64 * ci) (e1 : o1 = 128 * h.val) (e2 : o2 = 256 * h.val) (inb : ∀ a, (![o0, o1] : Fin 2 → ℕ) a + S64x128.size a ≤ S512x512.size a) (inbg : ∀ a, (![o0, o2] : Fin 2 → ℕ) a + S64x256.size a ≤ S512x1024.size a) (P : FVec Ideal S64x128 .f32)
    (hP : P = uIntra (F := Ideal) (kernelRun0_A.sl.r_8 (F := Ideal) M.c M.arg3 M.harg3 D.x1) (M.arg16.view.readCov (kernelRun0_A.sl.HS3_1 (F := Ideal) M.c M.arg4 M.harg4 M.arg5 M.harg5 M.arg6 M.harg6 M.arg13 D.x2 D.x3 D.x4) (Rect.unit (s := S512x512) ![o0, o1] S64x128.size inb).toLoadRect) (M.arg18.view.readCov (kernelRun0_A.sl.HS5_1 (F := Ideal) M.c M.arg4 M.harg4 M.arg5 M.harg5 M.arg6 M.harg6 M.arg7 M.harg7 M.arg13 D.x2 D.x3 D.x4 D.x5) (Rect.unit (s := S512x512) ![o0, o1] S64x128.size inb).toLoadRect) (M.arg19.view.readCov (kernelRun0_A.sl.HS6_1 (F := Ideal) M.c M.arg4 M.harg4 M.arg5 M.harg5 M.arg6 M.harg6 M.arg13 D.x2 D.x3 D.x4) (Rect.unit (s := S512x512) ![o0, o1] S64x128.size inb).toLoadRect) (uSums (F := Ideal) (kernelRun0_A.sl.r_6 (F := Ideal) M.c M.arg2 M.harg2 D.x0) (M.arg17.view.readCov (kernelRun0_A.sl.HS4_8 (F := Ideal) M.c M.arg4 M.harg4 M.arg5 M.harg5 M.arg6 M.harg6 M.arg7 M.harg7 M.arg13 D.x2 D.x3 D.x4 D.x5) (Rect.unit (s := S512x1024) ![o0, o2] S64x256.size inbg).toLoadRect))) (x : S64x128.Idx) : P x = tile2 (fun h c t j => intra (a.Q b h (8 * T + c)) (a.K b h (8 * T + c)) (a.V b h (8 * T + c)) (a.G b h (8 * T + c)) t j) ((Rect.unit (s := S512x512) ![o0, o1] S64x128.size inb).emb x) :=
  tile2_piece _ h ci hci e0 e1 inb _ (unit_intra _ _ _ _ _ _ a b h (8 * T + ci) (kA_coef M D H) (kA_lev M D H) (rd_gates M.arg17.view _ a b T (kA_cg M D H) h ci hci e0 e2 inbg) (fun t d => rd2 M.arg16.view _ _ (kA_cq M D H) h ci hci e0 e1 inb t d) (fun t d => rd2 M.arg18.view _ _ (kA_ck M D H) h ci hci e0 e1 inb t d) (fun t d => rd2 M.arg19.view _ _ (kA_cv M D H) h ci hci e0 e1 inb t d) P hP) x

/-- A chunk's queries, decayed, stored. -/
theorem kA_pQ (H : InA a b T D) (h : Fin 4) (ci : ℕ) (hci : ci < 8) {o0 o1 o2 : ℕ} (e0 : o0 = 64 * ci) (e1 : o1 = 128 * h.val) (e2 : o2 = 256 * h.val) (inb : ∀ a, (![o0, o1] : Fin 2 → ℕ) a + S64x128.size a ≤ S512x512.size a) (inbg : ∀ a, (![o0, o2] : Fin 2 → ℕ) a + S64x256.size a ≤ S512x1024.size a) (P : FVec Ideal S64x128 .bf16)
    (hP : P = uQuery (F := Ideal) (M.arg16.view.readCov (kernelRun0_A.sl.HS3_1 (F := Ideal) M.c M.arg4 M.harg4 M.arg5 M.harg5 M.arg6 M.harg6 M.arg13 D.x2 D.x3 D.x4) (Rect.unit (s := S512x512) ![o0, o1] S64x128.size inb).toLoadRect) (uSums (F := Ideal) (kernelRun0_A.sl.r_6 (F := Ideal) M.c M.arg2 M.harg2 D.x0) (M.arg17.view.readCov (kernelRun0_A.sl.HS4_8 (F := Ideal) M.c M.arg4 M.harg4 M.arg5 M.harg5 M.arg6 M.harg6 M.arg7 M.harg7 M.arg13 D.x2 D.x3 D.x4 D.x5) (Rect.unit (s := S512x1024) ![o0, o2] S64x256.size inbg).toLoadRect))) (x : S64x128.Idx) : P x = tile2 (fun h c t d => a.Q b h (8 * T + c) t d * ((Real.exp (cum (fun r => a.G b h (8 * T + c) r d) t) : ℝ) : EReal)) ((Rect.unit (s := S512x512) ![o0, o1] S64x128.size inb).emb x) :=
  tile2_piece _ h ci hci e0 e1 inb _ (unit_query _ _ _ a b h (8 * T + ci) (kA_coef M D H) (rd_gates M.arg17.view _ a b T (kA_cg M D H) h ci hci e0 e2 inbg) (fun t d => rd2 M.arg16.view _ _ (kA_cq M D H) h ci hci e0 e1 inb t d) P hP) x

/-- What a chunk adds to the state, stored. -/
theorem kA_pG (H : InA a b T D) (h : Fin 4) (ci : ℕ) (hci : ci < 8) {o0 o1 o2 o4 : ℕ} (e0 : o0 = 64 * ci) (e1 : o1 = 128 * h.val) (e2 : o2 = 256 * h.val) (e4 : o4 = h.val) (inb : ∀ a, (![o0, o1] : Fin 2 → ℕ) a + S64x128.size a ≤ S512x512.size a) (inbg : ∀ a, (![o0, o2] : Fin 2 → ℕ) a + S64x256.size a ≤ S512x1024.size a)
    (inb4 : ∀ a, (![o4, ci, 0, 0] : Fin 4 → ℕ) a + (![1, 1, 128, 128] : Fin 4 → ℕ) a ≤ S4x8x128x128.size a) (P : FVec Ideal S1x1x128x128 .f32)
    (hP : P = uGain (F := Ideal) (M.arg18.view.readCov (kernelRun0_A.sl.HS5_1 (F := Ideal) M.c M.arg4 M.harg4 M.arg5 M.harg5 M.arg6 M.harg6 M.arg7 M.harg7 M.arg13 D.x2 D.x3 D.x4 D.x5) (Rect.unit (s := S512x512) ![o0, o1] S64x128.size inb).toLoadRect) (M.arg19.view.readCov (kernelRun0_A.sl.HS6_1 (F := Ideal) M.c M.arg4 M.harg4 M.arg5 M.harg5 M.arg6 M.harg6 M.arg13 D.x2 D.x3 D.x4) (Rect.unit (s := S512x512) ![o0, o1] S64x128.size inb).toLoadRect) (uSums (F := Ideal) (kernelRun0_A.sl.r_6 (F := Ideal) M.c M.arg2 M.harg2 D.x0) (M.arg17.view.readCov (kernelRun0_A.sl.HS4_8 (F := Ideal) M.c M.arg4 M.harg4 M.arg5 M.harg5 M.arg6 M.harg6 M.arg7 M.harg7 M.arg13 D.x2 D.x3 D.x4 D.x5) (Rect.unit (s := S512x1024) ![o0, o2] S64x256.size inbg).toLoadRect))) (x : S1x1x128x128.Idx) : P x = tile4 (n1 := 8) (fun h c j i => gain (a.K b h (8 * T + c)) (a.V b h (8 * T + c)) (a.G b h (8 * T + c)) i j) ((Rect.unit (s := S4x8x128x128) ![o4, ci, 0, 0] S1x1x128x128.size inb4).emb x) :=
  tile4_piece _ h ci e4 inb4 _ (unit_gain _ _ _ _ a b h (8 * T + ci) (kA_coef M D H) (rd_gates M.arg17.view _ a b T (kA_cg M D H) h ci hci e0 e2 inbg) (fun t d => rd2 M.arg18.view _ _ (kA_ck M D H) h ci hci e0 e1 inb t d) (fun t d => rd2 M.arg19.view _ _ (kA_cv M D H) h ci hci e0 e1 inb t d) P hP) x

/-- How a chunk decays the state, stored. -/
theorem kA_pK (H : InA a b T D) (h : Fin 4) (ci : ℕ) (hci : ci < 8) {o0 o2 o4 : ℕ} (e0 : o0 = 64 * ci) (e2 : o2 = 256 * h.val) (e4 : o4 = h.val) (inbg : ∀ a, (![o0, o2] : Fin 2 → ℕ) a + S64x256.size a ≤ S512x1024.size a)
    (inb4 : ∀ a, (![o4, ci, 0, 0] : Fin 4 → ℕ) a + (![1, 1, 8, 128] : Fin 4 → ℕ) a ≤ S4x8x8x128.size a) (P : FVec Ideal S1x1x8x128 .f32)
    (hP : P = uKeep (F := Ideal) (uSums (F := Ideal) (kernelRun0_A.sl.r_6 (F := Ideal) M.c M.arg2 M.harg2 D.x0) (M.arg17.view.readCov (kernelRun0_A.sl.HS4_8 (F := Ideal) M.c M.arg4 M.harg4 M.arg5 M.harg5 M.arg6 M.harg6 M.arg7 M.harg7 M.arg13 D.x2 D.x3 D.x4 D.x5) (Rect.unit (s := S512x1024) ![o0, o2] S64x256.size inbg).toLoadRect))) (x : S1x1x8x128.Idx) : P x = tile4 (n1 := 8) (fun h c r d => keep (a.G b h (8 * T + c)) d) ((Rect.unit (s := S4x8x8x128) ![o4, ci, 0, 0] S1x1x8x128.size inb4).emb x) :=
  tile4_piece _ h ci e4 inb4 _ (unit_keep _ _ a b h (8 * T + ci) (kA_coef M D H) (rd_gates M.arg17.view _ a b T (kA_cg M D H) h ci hci e0 e2 inbg) P hP) x

theorem kA_cQ (H : InA a b T D) : View.canon (kernelRun0_A.sl.HS8_32 (F := Ideal) M.c M.arg2 M.harg2 M.arg4 M.harg4 M.arg5 M.harg5 M.arg6 M.harg6 M.arg7 M.harg7 M.arg13 M.arg16 M.arg17 D.x0 D.x2 D.x3 D.x4 D.x5) = tile2 (fun h c t d => a.Q b h (8 * T + c) t d * ((Real.exp (cum (fun r => a.G b h (8 * T + c) r d) t) : ℝ) : EReal)) := by
  refine canon_is _ _ ?_ (View.cover_of_tiledL (s := S512x512) _ S64x128.size (by sl_kernel_rfl))
  unfold kernelRun0_A.sl.HS8_32
  exact ⟨kA_pQ M D H 3 7 (by norm_num) rfl rfl rfl inb_S512x512_S64x128_448_384 inb_S512x1024_S64x256_448_768 _ rfl,
    kA_pQ M D H 3 6 (by norm_num) rfl rfl rfl inb_S512x512_S64x128_384_384 inb_S512x1024_S64x256_384_768 _ rfl,
    kA_pQ M D H 3 5 (by norm_num) rfl rfl rfl inb_S512x512_S64x128_320_384 inb_S512x1024_S64x256_320_768 _ rfl,
    kA_pQ M D H 3 4 (by norm_num) rfl rfl rfl inb_S512x512_S64x128_256_384 inb_S512x1024_S64x256_256_768 _ rfl,
    kA_pQ M D H 3 3 (by norm_num) rfl rfl rfl inb_S512x512_S64x128_192_384 inb_S512x1024_S64x256_192_768 _ rfl,
    kA_pQ M D H 3 2 (by norm_num) rfl rfl rfl inb_S512x512_S64x128_128_384 inb_S512x1024_S64x256_128_768 _ rfl,
    kA_pQ M D H 3 1 (by norm_num) rfl rfl rfl inb_S512x512_S64x128_64_384 inb_S512x1024_S64x256_64_768 _ rfl,
    kA_pQ M D H 3 0 (by norm_num) rfl rfl rfl inb_S512x512_S64x128_0_384 inb_S512x1024_S64x256_0_768 _ rfl,
    kA_pQ M D H 2 7 (by norm_num) rfl rfl rfl inb_S512x512_S64x128_448_256 inb_S512x1024_S64x256_448_512 _ rfl,
    kA_pQ M D H 2 6 (by norm_num) rfl rfl rfl inb_S512x512_S64x128_384_256 inb_S512x1024_S64x256_384_512 _ rfl,
    kA_pQ M D H 2 5 (by norm_num) rfl rfl rfl inb_S512x512_S64x128_320_256 inb_S512x1024_S64x256_320_512 _ rfl,
    kA_pQ M D H 2 4 (by norm_num) rfl rfl rfl inb_S512x512_S64x128_256_256 inb_S512x1024_S64x256_256_512 _ rfl,
    kA_pQ M D H 2 3 (by norm_num) rfl rfl rfl inb_S512x512_S64x128_192_256 inb_S512x1024_S64x256_192_512 _ rfl,
    kA_pQ M D H 2 2 (by norm_num) rfl rfl rfl inb_S512x512_S64x128_128_256 inb_S512x1024_S64x256_128_512 _ rfl,
    kA_pQ M D H 2 1 (by norm_num) rfl rfl rfl inb_S512x512_S64x128_64_256 inb_S512x1024_S64x256_64_512 _ rfl,
    kA_pQ M D H 2 0 (by norm_num) rfl rfl rfl inb_S512x512_S64x128_0_256 inb_S512x1024_S64x256_0_512 _ rfl,
    kA_pQ M D H 1 7 (by norm_num) rfl rfl rfl inb_S512x512_S64x128_448_128 inb_S512x1024_S64x256_448_256 _ rfl,
    kA_pQ M D H 1 6 (by norm_num) rfl rfl rfl inb_S512x512_S64x128_384_128 inb_S512x1024_S64x256_384_256 _ rfl,
    kA_pQ M D H 1 5 (by norm_num) rfl rfl rfl inb_S512x512_S64x128_320_128 inb_S512x1024_S64x256_320_256 _ rfl,
    kA_pQ M D H 1 4 (by norm_num) rfl rfl rfl inb_S512x512_S64x128_256_128 inb_S512x1024_S64x256_256_256 _ rfl,
    kA_pQ M D H 1 3 (by norm_num) rfl rfl rfl inb_S512x512_S64x128_192_128 inb_S512x1024_S64x256_192_256 _ rfl,
    kA_pQ M D H 1 2 (by norm_num) rfl rfl rfl inb_S512x512_S64x128_128_128 inb_S512x1024_S64x256_128_256 _ rfl,
    kA_pQ M D H 1 1 (by norm_num) rfl rfl rfl inb_S512x512_S64x128_64_128 inb_S512x1024_S64x256_64_256 _ rfl,
    kA_pQ M D H 1 0 (by norm_num) rfl rfl rfl inb_S512x512_S64x128_0_128 inb_S512x1024_S64x256_0_256 _ rfl,
    kA_pQ M D H 0 7 (by norm_num) rfl rfl rfl inb_S512x512_S64x128_448_0 inb_S512x1024_S64x256_448_0 _ rfl,
    kA_pQ M D H 0 6 (by norm_num) rfl rfl rfl inb_S512x512_S64x128_384_0 inb_S512x1024_S64x256_384_0 _ rfl,
    kA_pQ M D H 0 5 (by norm_num) rfl rfl rfl inb_S512x512_S64x128_320_0 inb_S512x1024_S64x256_320_0 _ rfl,
    kA_pQ M D H 0 4 (by norm_num) rfl rfl rfl inb_S512x512_S64x128_256_0 inb_S512x1024_S64x256_256_0 _ rfl,
    kA_pQ M D H 0 3 (by norm_num) rfl rfl rfl inb_S512x512_S64x128_192_0 inb_S512x1024_S64x256_192_0 _ rfl,
    kA_pQ M D H 0 2 (by norm_num) rfl rfl rfl inb_S512x512_S64x128_128_0 inb_S512x1024_S64x256_128_0 _ rfl,
    kA_pQ M D H 0 1 (by norm_num) rfl rfl rfl inb_S512x512_S64x128_64_0 inb_S512x1024_S64x256_64_0 _ rfl,
    kA_pQ M D H 0 0 (by norm_num) rfl rfl rfl inb_S512x512_S64x128_0_0 inb_S512x1024_S64x256_0_0 _ rfl,
    trivial⟩

theorem kA_cI (H : InA a b T D) : View.canon (kernelRun0_A.sl.HS9_32 (F := Ideal) M.c M.arg2 M.harg2 M.arg3 M.harg3 M.arg4 M.harg4 M.arg5 M.harg5 M.arg6 M.harg6 M.arg7 M.harg7 M.arg13 M.arg16 M.arg17 M.arg18 M.arg19 D.x0 D.x1 D.x2 D.x3 D.x4 D.x5) = tile2 (fun h c t j => intra (a.Q b h (8 * T + c)) (a.K b h (8 * T + c)) (a.V b h (8 * T + c)) (a.G b h (8 * T + c)) t j) := by
  refine canon_is _ _ ?_ (View.cover_of_tiledL (s := S512x512) _ S64x128.size (by sl_kernel_rfl))
  unfold kernelRun0_A.sl.HS9_32
  exact ⟨kA_pI M D H 3 7 (by norm_num) rfl rfl rfl inb_S512x512_S64x128_448_384 inb_S512x1024_S64x256_448_768 _ rfl,
    kA_pI M D H 3 6 (by norm_num) rfl rfl rfl inb_S512x512_S64x128_384_384 inb_S512x1024_S64x256_384_768 _ rfl,
    kA_pI M D H 3 5 (by norm_num) rfl rfl rfl inb_S512x512_S64x128_320_384 inb_S512x1024_S64x256_320_768 _ rfl,
    kA_pI M D H 3 4 (by norm_num) rfl rfl rfl inb_S512x512_S64x128_256_384 inb_S512x1024_S64x256_256_768 _ rfl,
    kA_pI M D H 3 3 (by norm_num) rfl rfl rfl inb_S512x512_S64x128_192_384 inb_S512x1024_S64x256_192_768 _ rfl,
    kA_pI M D H 3 2 (by norm_num) rfl rfl rfl inb_S512x512_S64x128_128_384 inb_S512x1024_S64x256_128_768 _ rfl,
    kA_pI M D H 3 1 (by norm_num) rfl rfl rfl inb_S512x512_S64x128_64_384 inb_S512x1024_S64x256_64_768 _ rfl,
    kA_pI M D H 3 0 (by norm_num) rfl rfl rfl inb_S512x512_S64x128_0_384 inb_S512x1024_S64x256_0_768 _ rfl,
    kA_pI M D H 2 7 (by norm_num) rfl rfl rfl inb_S512x512_S64x128_448_256 inb_S512x1024_S64x256_448_512 _ rfl,
    kA_pI M D H 2 6 (by norm_num) rfl rfl rfl inb_S512x512_S64x128_384_256 inb_S512x1024_S64x256_384_512 _ rfl,
    kA_pI M D H 2 5 (by norm_num) rfl rfl rfl inb_S512x512_S64x128_320_256 inb_S512x1024_S64x256_320_512 _ rfl,
    kA_pI M D H 2 4 (by norm_num) rfl rfl rfl inb_S512x512_S64x128_256_256 inb_S512x1024_S64x256_256_512 _ rfl,
    kA_pI M D H 2 3 (by norm_num) rfl rfl rfl inb_S512x512_S64x128_192_256 inb_S512x1024_S64x256_192_512 _ rfl,
    kA_pI M D H 2 2 (by norm_num) rfl rfl rfl inb_S512x512_S64x128_128_256 inb_S512x1024_S64x256_128_512 _ rfl,
    kA_pI M D H 2 1 (by norm_num) rfl rfl rfl inb_S512x512_S64x128_64_256 inb_S512x1024_S64x256_64_512 _ rfl,
    kA_pI M D H 2 0 (by norm_num) rfl rfl rfl inb_S512x512_S64x128_0_256 inb_S512x1024_S64x256_0_512 _ rfl,
    kA_pI M D H 1 7 (by norm_num) rfl rfl rfl inb_S512x512_S64x128_448_128 inb_S512x1024_S64x256_448_256 _ rfl,
    kA_pI M D H 1 6 (by norm_num) rfl rfl rfl inb_S512x512_S64x128_384_128 inb_S512x1024_S64x256_384_256 _ rfl,
    kA_pI M D H 1 5 (by norm_num) rfl rfl rfl inb_S512x512_S64x128_320_128 inb_S512x1024_S64x256_320_256 _ rfl,
    kA_pI M D H 1 4 (by norm_num) rfl rfl rfl inb_S512x512_S64x128_256_128 inb_S512x1024_S64x256_256_256 _ rfl,
    kA_pI M D H 1 3 (by norm_num) rfl rfl rfl inb_S512x512_S64x128_192_128 inb_S512x1024_S64x256_192_256 _ rfl,
    kA_pI M D H 1 2 (by norm_num) rfl rfl rfl inb_S512x512_S64x128_128_128 inb_S512x1024_S64x256_128_256 _ rfl,
    kA_pI M D H 1 1 (by norm_num) rfl rfl rfl inb_S512x512_S64x128_64_128 inb_S512x1024_S64x256_64_256 _ rfl,
    kA_pI M D H 1 0 (by norm_num) rfl rfl rfl inb_S512x512_S64x128_0_128 inb_S512x1024_S64x256_0_256 _ rfl,
    kA_pI M D H 0 7 (by norm_num) rfl rfl rfl inb_S512x512_S64x128_448_0 inb_S512x1024_S64x256_448_0 _ rfl,
    kA_pI M D H 0 6 (by norm_num) rfl rfl rfl inb_S512x512_S64x128_384_0 inb_S512x1024_S64x256_384_0 _ rfl,
    kA_pI M D H 0 5 (by norm_num) rfl rfl rfl inb_S512x512_S64x128_320_0 inb_S512x1024_S64x256_320_0 _ rfl,
    kA_pI M D H 0 4 (by norm_num) rfl rfl rfl inb_S512x512_S64x128_256_0 inb_S512x1024_S64x256_256_0 _ rfl,
    kA_pI M D H 0 3 (by norm_num) rfl rfl rfl inb_S512x512_S64x128_192_0 inb_S512x1024_S64x256_192_0 _ rfl,
    kA_pI M D H 0 2 (by norm_num) rfl rfl rfl inb_S512x512_S64x128_128_0 inb_S512x1024_S64x256_128_0 _ rfl,
    kA_pI M D H 0 1 (by norm_num) rfl rfl rfl inb_S512x512_S64x128_64_0 inb_S512x1024_S64x256_64_0 _ rfl,
    kA_pI M D H 0 0 (by norm_num) rfl rfl rfl inb_S512x512_S64x128_0_0 inb_S512x1024_S64x256_0_0 _ rfl,
    trivial⟩

theorem kA_cG (H : InA a b T D) : View.canon (kernelRun0_A.sl.HS10_32 (F := Ideal) M.c M.arg2 M.harg2 M.arg4 M.harg4 M.arg5 M.harg5 M.arg6 M.harg6 M.arg7 M.harg7 M.arg13 M.arg17 M.arg18 M.arg19 D.x0 D.x2 D.x3 D.x4 D.x5) = tile4 (n1 := 8) (fun h c j i => gain (a.K b h (8 * T + c)) (a.V b h (8 * T + c)) (a.G b h (8 * T + c)) i j) := by
  refine canon_is _ _ ?_ (View.cover_of_tiledL (s := S4x8x128x128) _ S1x1x128x128.size (by sl_kernel_rfl))
  unfold kernelRun0_A.sl.HS10_32
  exact ⟨kA_pG M D H 3 7 (by norm_num) rfl rfl rfl rfl inb_S512x512_S64x128_448_384 inb_S512x1024_S64x256_448_768 inb_S4x8x128x128_S1x1x128x128_3_7_0_0 _ rfl,
    kA_pG M D H 3 6 (by norm_num) rfl rfl rfl rfl inb_S512x512_S64x128_384_384 inb_S512x1024_S64x256_384_768 inb_S4x8x128x128_S1x1x128x128_3_6_0_0 _ rfl,
    kA_pG M D H 3 5 (by norm_num) rfl rfl rfl rfl inb_S512x512_S64x128_320_384 inb_S512x1024_S64x256_320_768 inb_S4x8x128x128_S1x1x128x128_3_5_0_0 _ rfl,
    kA_pG M D H 3 4 (by norm_num) rfl rfl rfl rfl inb_S512x512_S64x128_256_384 inb_S512x1024_S64x256_256_768 inb_S4x8x128x128_S1x1x128x128_3_4_0_0 _ rfl,
    kA_pG M D H 3 3 (by norm_num) rfl rfl rfl rfl inb_S512x512_S64x128_192_384 inb_S512x1024_S64x256_192_768 inb_S4x8x128x128_S1x1x128x128_3_3_0_0 _ rfl,
    kA_pG M D H 3 2 (by norm_num) rfl rfl rfl rfl inb_S512x512_S64x128_128_384 inb_S512x1024_S64x256_128_768 inb_S4x8x128x128_S1x1x128x128_3_2_0_0 _ rfl,
    kA_pG M D H 3 1 (by norm_num) rfl rfl rfl rfl inb_S512x512_S64x128_64_384 inb_S512x1024_S64x256_64_768 inb_S4x8x128x128_S1x1x128x128_3_1_0_0 _ rfl,
    kA_pG M D H 3 0 (by norm_num) rfl rfl rfl rfl inb_S512x512_S64x128_0_384 inb_S512x1024_S64x256_0_768 inb_S4x8x128x128_S1x1x128x128_3_0_0_0 _ rfl,
    kA_pG M D H 2 7 (by norm_num) rfl rfl rfl rfl inb_S512x512_S64x128_448_256 inb_S512x1024_S64x256_448_512 inb_S4x8x128x128_S1x1x128x128_2_7_0_0 _ rfl,
    kA_pG M D H 2 6 (by norm_num) rfl rfl rfl rfl inb_S512x512_S64x128_384_256 inb_S512x1024_S64x256_384_512 inb_S4x8x128x128_S1x1x128x128_2_6_0_0 _ rfl,
    kA_pG M D H 2 5 (by norm_num) rfl rfl rfl rfl inb_S512x512_S64x128_320_256 inb_S512x1024_S64x256_320_512 inb_S4x8x128x128_S1x1x128x128_2_5_0_0 _ rfl,
    kA_pG M D H 2 4 (by norm_num) rfl rfl rfl rfl inb_S512x512_S64x128_256_256 inb_S512x1024_S64x256_256_512 inb_S4x8x128x128_S1x1x128x128_2_4_0_0 _ rfl,
    kA_pG M D H 2 3 (by norm_num) rfl rfl rfl rfl inb_S512x512_S64x128_192_256 inb_S512x1024_S64x256_192_512 inb_S4x8x128x128_S1x1x128x128_2_3_0_0 _ rfl,
    kA_pG M D H 2 2 (by norm_num) rfl rfl rfl rfl inb_S512x512_S64x128_128_256 inb_S512x1024_S64x256_128_512 inb_S4x8x128x128_S1x1x128x128_2_2_0_0 _ rfl,
    kA_pG M D H 2 1 (by norm_num) rfl rfl rfl rfl inb_S512x512_S64x128_64_256 inb_S512x1024_S64x256_64_512 inb_S4x8x128x128_S1x1x128x128_2_1_0_0 _ rfl,
    kA_pG M D H 2 0 (by norm_num) rfl rfl rfl rfl inb_S512x512_S64x128_0_256 inb_S512x1024_S64x256_0_512 inb_S4x8x128x128_S1x1x128x128_2_0_0_0 _ rfl,
    kA_pG M D H 1 7 (by norm_num) rfl rfl rfl rfl inb_S512x512_S64x128_448_128 inb_S512x1024_S64x256_448_256 inb_S4x8x128x128_S1x1x128x128_1_7_0_0 _ rfl,
    kA_pG M D H 1 6 (by norm_num) rfl rfl rfl rfl inb_S512x512_S64x128_384_128 inb_S512x1024_S64x256_384_256 inb_S4x8x128x128_S1x1x128x128_1_6_0_0 _ rfl,
    kA_pG M D H 1 5 (by norm_num) rfl rfl rfl rfl inb_S512x512_S64x128_320_128 inb_S512x1024_S64x256_320_256 inb_S4x8x128x128_S1x1x128x128_1_5_0_0 _ rfl,
    kA_pG M D H 1 4 (by norm_num) rfl rfl rfl rfl inb_S512x512_S64x128_256_128 inb_S512x1024_S64x256_256_256 inb_S4x8x128x128_S1x1x128x128_1_4_0_0 _ rfl,
    kA_pG M D H 1 3 (by norm_num) rfl rfl rfl rfl inb_S512x512_S64x128_192_128 inb_S512x1024_S64x256_192_256 inb_S4x8x128x128_S1x1x128x128_1_3_0_0 _ rfl,
    kA_pG M D H 1 2 (by norm_num) rfl rfl rfl rfl inb_S512x512_S64x128_128_128 inb_S512x1024_S64x256_128_256 inb_S4x8x128x128_S1x1x128x128_1_2_0_0 _ rfl,
    kA_pG M D H 1 1 (by norm_num) rfl rfl rfl rfl inb_S512x512_S64x128_64_128 inb_S512x1024_S64x256_64_256 inb_S4x8x128x128_S1x1x128x128_1_1_0_0 _ rfl,
    kA_pG M D H 1 0 (by norm_num) rfl rfl rfl rfl inb_S512x512_S64x128_0_128 inb_S512x1024_S64x256_0_256 inb_S4x8x128x128_S1x1x128x128_1_0_0_0 _ rfl,
    kA_pG M D H 0 7 (by norm_num) rfl rfl rfl rfl inb_S512x512_S64x128_448_0 inb_S512x1024_S64x256_448_0 inb_S4x8x128x128_S1x1x128x128_0_7_0_0 _ rfl,
    kA_pG M D H 0 6 (by norm_num) rfl rfl rfl rfl inb_S512x512_S64x128_384_0 inb_S512x1024_S64x256_384_0 inb_S4x8x128x128_S1x1x128x128_0_6_0_0 _ rfl,
    kA_pG M D H 0 5 (by norm_num) rfl rfl rfl rfl inb_S512x512_S64x128_320_0 inb_S512x1024_S64x256_320_0 inb_S4x8x128x128_S1x1x128x128_0_5_0_0 _ rfl,
    kA_pG M D H 0 4 (by norm_num) rfl rfl rfl rfl inb_S512x512_S64x128_256_0 inb_S512x1024_S64x256_256_0 inb_S4x8x128x128_S1x1x128x128_0_4_0_0 _ rfl,
    kA_pG M D H 0 3 (by norm_num) rfl rfl rfl rfl inb_S512x512_S64x128_192_0 inb_S512x1024_S64x256_192_0 inb_S4x8x128x128_S1x1x128x128_0_3_0_0 _ rfl,
    kA_pG M D H 0 2 (by norm_num) rfl rfl rfl rfl inb_S512x512_S64x128_128_0 inb_S512x1024_S64x256_128_0 inb_S4x8x128x128_S1x1x128x128_0_2_0_0 _ rfl,
    kA_pG M D H 0 1 (by norm_num) rfl rfl rfl rfl inb_S512x512_S64x128_64_0 inb_S512x1024_S64x256_64_0 inb_S4x8x128x128_S1x1x128x128_0_1_0_0 _ rfl,
    kA_pG M D H 0 0 (by norm_num) rfl rfl rfl rfl inb_S512x512_S64x128_0_0 inb_S512x1024_S64x256_0_0 inb_S4x8x128x128_S1x1x128x128_0_0_0_0 _ rfl,
    trivial⟩

theorem kA_cK (H : InA a b T D) : View.canon (kernelRun0_A.sl.HS11_32 (F := Ideal) M.c M.arg2 M.harg2 M.arg4 M.harg4 M.arg5 M.harg5 M.arg6 M.harg6 M.arg7 M.harg7 M.arg13 M.arg17 D.x0 D.x2 D.x3 D.x4 D.x5) = tile4 (n1 := 8) (fun h c r d => keep (a.G b h (8 * T + c)) d) := by
  refine canon_is _ _ ?_ (View.cover_of_tiledL (s := S4x8x8x128) _ S1x1x8x128.size (by sl_kernel_rfl))
  unfold kernelRun0_A.sl.HS11_32
  exact ⟨kA_pK M D H 3 7 (by norm_num) rfl rfl rfl inb_S512x1024_S64x256_448_768 inb_S4x8x8x128_S1x1x8x128_3_7_0_0 _ rfl,
    kA_pK M D H 3 6 (by norm_num) rfl rfl rfl inb_S512x1024_S64x256_384_768 inb_S4x8x8x128_S1x1x8x128_3_6_0_0 _ rfl,
    kA_pK M D H 3 5 (by norm_num) rfl rfl rfl inb_S512x1024_S64x256_320_768 inb_S4x8x8x128_S1x1x8x128_3_5_0_0 _ rfl,
    kA_pK M D H 3 4 (by norm_num) rfl rfl rfl inb_S512x1024_S64x256_256_768 inb_S4x8x8x128_S1x1x8x128_3_4_0_0 _ rfl,
    kA_pK M D H 3 3 (by norm_num) rfl rfl rfl inb_S512x1024_S64x256_192_768 inb_S4x8x8x128_S1x1x8x128_3_3_0_0 _ rfl,
    kA_pK M D H 3 2 (by norm_num) rfl rfl rfl inb_S512x1024_S64x256_128_768 inb_S4x8x8x128_S1x1x8x128_3_2_0_0 _ rfl,
    kA_pK M D H 3 1 (by norm_num) rfl rfl rfl inb_S512x1024_S64x256_64_768 inb_S4x8x8x128_S1x1x8x128_3_1_0_0 _ rfl,
    kA_pK M D H 3 0 (by norm_num) rfl rfl rfl inb_S512x1024_S64x256_0_768 inb_S4x8x8x128_S1x1x8x128_3_0_0_0 _ rfl,
    kA_pK M D H 2 7 (by norm_num) rfl rfl rfl inb_S512x1024_S64x256_448_512 inb_S4x8x8x128_S1x1x8x128_2_7_0_0 _ rfl,
    kA_pK M D H 2 6 (by norm_num) rfl rfl rfl inb_S512x1024_S64x256_384_512 inb_S4x8x8x128_S1x1x8x128_2_6_0_0 _ rfl,
    kA_pK M D H 2 5 (by norm_num) rfl rfl rfl inb_S512x1024_S64x256_320_512 inb_S4x8x8x128_S1x1x8x128_2_5_0_0 _ rfl,
    kA_pK M D H 2 4 (by norm_num) rfl rfl rfl inb_S512x1024_S64x256_256_512 inb_S4x8x8x128_S1x1x8x128_2_4_0_0 _ rfl,
    kA_pK M D H 2 3 (by norm_num) rfl rfl rfl inb_S512x1024_S64x256_192_512 inb_S4x8x8x128_S1x1x8x128_2_3_0_0 _ rfl,
    kA_pK M D H 2 2 (by norm_num) rfl rfl rfl inb_S512x1024_S64x256_128_512 inb_S4x8x8x128_S1x1x8x128_2_2_0_0 _ rfl,
    kA_pK M D H 2 1 (by norm_num) rfl rfl rfl inb_S512x1024_S64x256_64_512 inb_S4x8x8x128_S1x1x8x128_2_1_0_0 _ rfl,
    kA_pK M D H 2 0 (by norm_num) rfl rfl rfl inb_S512x1024_S64x256_0_512 inb_S4x8x8x128_S1x1x8x128_2_0_0_0 _ rfl,
    kA_pK M D H 1 7 (by norm_num) rfl rfl rfl inb_S512x1024_S64x256_448_256 inb_S4x8x8x128_S1x1x8x128_1_7_0_0 _ rfl,
    kA_pK M D H 1 6 (by norm_num) rfl rfl rfl inb_S512x1024_S64x256_384_256 inb_S4x8x8x128_S1x1x8x128_1_6_0_0 _ rfl,
    kA_pK M D H 1 5 (by norm_num) rfl rfl rfl inb_S512x1024_S64x256_320_256 inb_S4x8x8x128_S1x1x8x128_1_5_0_0 _ rfl,
    kA_pK M D H 1 4 (by norm_num) rfl rfl rfl inb_S512x1024_S64x256_256_256 inb_S4x8x8x128_S1x1x8x128_1_4_0_0 _ rfl,
    kA_pK M D H 1 3 (by norm_num) rfl rfl rfl inb_S512x1024_S64x256_192_256 inb_S4x8x8x128_S1x1x8x128_1_3_0_0 _ rfl,
    kA_pK M D H 1 2 (by norm_num) rfl rfl rfl inb_S512x1024_S64x256_128_256 inb_S4x8x8x128_S1x1x8x128_1_2_0_0 _ rfl,
    kA_pK M D H 1 1 (by norm_num) rfl rfl rfl inb_S512x1024_S64x256_64_256 inb_S4x8x8x128_S1x1x8x128_1_1_0_0 _ rfl,
    kA_pK M D H 1 0 (by norm_num) rfl rfl rfl inb_S512x1024_S64x256_0_256 inb_S4x8x8x128_S1x1x8x128_1_0_0_0 _ rfl,
    kA_pK M D H 0 7 (by norm_num) rfl rfl rfl inb_S512x1024_S64x256_448_0 inb_S4x8x8x128_S1x1x8x128_0_7_0_0 _ rfl,
    kA_pK M D H 0 6 (by norm_num) rfl rfl rfl inb_S512x1024_S64x256_384_0 inb_S4x8x8x128_S1x1x8x128_0_6_0_0 _ rfl,
    kA_pK M D H 0 5 (by norm_num) rfl rfl rfl inb_S512x1024_S64x256_320_0 inb_S4x8x8x128_S1x1x8x128_0_5_0_0 _ rfl,
    kA_pK M D H 0 4 (by norm_num) rfl rfl rfl inb_S512x1024_S64x256_256_0 inb_S4x8x8x128_S1x1x8x128_0_4_0_0 _ rfl,
    kA_pK M D H 0 3 (by norm_num) rfl rfl rfl inb_S512x1024_S64x256_192_0 inb_S4x8x8x128_S1x1x8x128_0_3_0_0 _ rfl,
    kA_pK M D H 0 2 (by norm_num) rfl rfl rfl inb_S512x1024_S64x256_128_0 inb_S4x8x8x128_S1x1x8x128_0_2_0_0 _ rfl,
    kA_pK M D H 0 1 (by norm_num) rfl rfl rfl inb_S512x1024_S64x256_64_0 inb_S4x8x8x128_S1x1x8x128_0_1_0_0 _ rfl,
    kA_pK M D H 0 0 (by norm_num) rfl rfl rfl inb_S512x1024_S64x256_0_0 inb_S4x8x8x128_S1x1x8x128_0_0_0_0 _ rfl,
    trivial⟩

end Cert.Hgrn
end
-- ==== Proof.HeadsA.lean ====
/- The state from chunk to chunk, the branch's output and what the point leaves. -/
module

public import proofs.«01_k».proof.Proof.UnitsA

@[expose] public section

set_option maxRecDepth 16384

noncomputable section

namespace Cert.Hgrn

open Idealize.ShloMosaic Idealize.SL.Sem Cert.KernelIdeal Cert.KernelIdeal.Gen

variable {a : Args} {b : Fin 2} {T : ℕ} (M : Mem) (D : Data)

/-- The state after a chunk, from the state before it. -/
theorem kA_step (H : InA a b T D) (h : Fin 4) (ci : ℕ) {o4 : ℕ} (e4 : o4 = h.val) (inbk : ∀ a, (![o4, ci, 0, 0] : Fin 4 → ℕ) a + (![1, 1, 1, 128] : Fin 4 → ℕ) a ≤ S4x8x8x128.size a) (inbv : ∀ a, (![o4, ci, 0, 0] : Fin 4 → ℕ) a + (![1, 1, 128, 128] : Fin 4 → ℕ) a ≤ S4x8x128x128.size a) (s : FVec Ideal S128x128 .f32) (hs : ∀ i j, s (ix2 j i) = a.S b h (8 * T + ci) i j) (P : FVec Ideal S128x128 .f32)
    (hP : P = uStep (F := Ideal) s (M.arg24.view.readCov (kernelRun0_A.sl.HS11_32 (F := Ideal) M.c M.arg2 M.harg2 M.arg4 M.harg4 M.arg5 M.harg5 M.arg6 M.harg6 M.arg7 M.harg7 M.arg13 M.arg17 D.x0 D.x2 D.x3 D.x4 D.x5) (Rect.unit (s := S4x8x8x128) ![o4, ci, 0, 0] S1x1x1x128.size inbk).toLoadRect) (M.arg23.view.readCov (kernelRun0_A.sl.HS10_32 (F := Ideal) M.c M.arg2 M.harg2 M.arg4 M.harg4 M.arg5 M.harg5 M.arg6 M.harg6 M.arg7 M.harg7 M.arg13 M.arg17 M.arg18 M.arg19 D.x0 D.x2 D.x3 D.x4 D.x5) (Rect.unit (s := S4x8x128x128) ![o4, ci, 0, 0] S1x1x128x128.size inbv).toLoadRect)) (i j : Fin 128) : P (ix2 j i) = a.S b h (8 * T + (ci + 1)) i j :=
  unit_step a b h (8 * T + ci) s _ _ hs
    (fun i => rd4 M.arg24.view _ _ (kA_cK M D H) h ci e4 inbk (0 : Fin 1) i (by norm_num) i.isLt)
    (fun i j => rd4 M.arg23.view _ _ (kA_cG M D H) h ci e4 inbv j i j.isLt i.isLt) P hP i j

/-- The branch's output on a chunk, stored. -/
theorem kA_pH (H : InA a b T D) (h : Fin 4) (ci : ℕ) (hci : ci < 8) {o0 o1 : ℕ} (e0 : o0 = 64 * ci) (e1 : o1 = 128 * h.val) (inb : ∀ a, (![o0, o1] : Fin 2 → ℕ) a + S64x128.size a ≤ S512x512.size a) (inbn : ∀ a, (![0, o1] : Fin 2 → ℕ) a + (![1, 128] : Fin 2 → ℕ) a ≤ S1x512.size a) (s : FVec Ideal S128x128 .f32) (hs : ∀ i j, s (ix2 j i) = a.S b h (8 * T + ci) i j) (P : FVec Ideal S64x128 .bf16)
    (hP : P = uHead (F := Ideal) (uOut (F := Ideal) (M.arg22.view.readCov (kernelRun0_A.sl.HS9_32 (F := Ideal) M.c M.arg2 M.harg2 M.arg3 M.harg3 M.arg4 M.harg4 M.arg5 M.harg5 M.arg6 M.harg6 M.arg7 M.harg7 M.arg13 M.arg16 M.arg17 M.arg18 M.arg19 D.x0 D.x1 D.x2 D.x3 D.x4 D.x5) (Rect.unit (s := S512x512) ![o0, o1] S64x128.size inb).toLoadRect) (M.arg21.view.readCov (kernelRun0_A.sl.HS8_32 (F := Ideal) M.c M.arg2 M.harg2 M.arg4 M.harg4 M.arg5 M.harg5 M.arg6 M.harg6 M.arg7 M.harg7 M.arg13 M.arg16 M.arg17 D.x0 D.x2 D.x3 D.x4 D.x5) (Rect.unit (s := S512x512) ![o0, o1] S64x128.size inb).toLoadRect) s) (View.readAt (Elt Ideal) M.arg8.view (Rect.unit (s := S1x512) ![0, o1] S1x128.size inbn).toLoadRect (M.harg8.unread D.x6)) (M.arg20.view.readCov (kernelRun0_A.sl.HS7_1 (F := Ideal) M.c M.arg4 M.harg4 M.arg5 M.harg5 M.arg6 M.harg6 M.arg13 D.x2 D.x3 D.x4) (Rect.unit (s := S512x512) ![o0, o1] S64x128.size inb).toLoadRect)) (x : S64x128.Idx) :
    P x = tile2 (fun h c t j => a.ohg b (8 * T + c) t h j) ((Rect.unit (s := S512x512) ![o0, o1] S64x128.size inb).emb x) :=
  tile2_piece _ h ci hci e0 e1 inb _ (unit_head a b h (8 * T + ci) _ _ s _ _ hs (fun t d => rd2 M.arg22.view _ _ (kA_cI M D H) h ci hci e0 e1 inb t d) (fun t d => rd2 M.arg21.view _ _ (kA_cQ M D H) h ci hci e0 e1 inb t d)
    (fun j => (load2 M.harg8 D.x6 inbn 0 j 0 (col h j) rfl (by show h.val * 128 + j.val = o1 + j.val; omega)).trans (H.tile.gn (col h j)))
    (fun t d => rd2 M.arg20.view _ _ (kA_cz M D H) h ci hci e0 e1 inb t d) P hP) x

theorem kA_cs : View.canon (kernelRun0_A.sl.HS2_1 (F := Ideal)) = kernelRun0_A.sl.v4860 (F := Ideal) := by
  unfold kernelRun0_A.sl.HS2_1
  exact canon_whole _ _ (by decide)

theorem kA_zero (y : S4x128x128.Idx) : kernelRun0_A.sl.v4860 (F := Ideal) y = 0 := by
  obtain ⟨h, i, j, rfl⟩ : ∃ h i j, y = ix3 h i j := ⟨_, _, _, eq_ix3 y⟩
  unfold kernelRun0_A.sl.v4860 kernelRun0_A.sl.v4857
  pointwise
  exact Ideal.ofBits_zero .f32

theorem kA_s0_0 (H : InA a b T D) (i j : Fin 128) : (kernelRun0_A.sl.v3791 (F := Ideal) M.c M.arg15) (ix2 j i) = a.S b 0 (8 * T + 0) i j := by
  rw [H.first]
  unfold kernelRun0_A.sl.v3791 kernelRun0_A.sl.v3790
  pointwise
  refine (back3 M.arg15.view _ _ kA_cs inb_S4x128x128_S1x128x128_0_0_0 0 j i 0 j i rfl (by omega) (by omega)).trans ?_
  exact kA_zero _

theorem kA_s0_1 (H : InA a b T D) (i j : Fin 128) : (kernelRun0_A.sl.v3809 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 0 (8 * T + 1) i j :=
  kA_step M D H 0 0 rfl inb_S4x8x8x128_S1x1x1x128_0_0_0_0 inb_S4x8x128x128_S1x1x128x128_0_0_0_0 _ (kA_s0_0 M D H) _ rfl i j

theorem kA_s0_2 (H : InA a b T D) (i j : Fin 128) : (kernelRun0_A.sl.v3937 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 0 (8 * T + 2) i j :=
  kA_step M D H 0 1 rfl inb_S4x8x8x128_S1x1x1x128_0_1_0_0 inb_S4x8x128x128_S1x1x128x128_0_1_0_0 _ (kA_s0_1 M D H) _ rfl i j

theorem kA_s0_3 (H : InA a b T D) (i j : Fin 128) : (kernelRun0_A.sl.v4065 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 0 (8 * T + 3) i j :=
  kA_step M D H 0 2 rfl inb_S4x8x8x128_S1x1x1x128_0_2_0_0 inb_S4x8x128x128_S1x1x128x128_0_2_0_0 _ (kA_s0_2 M D H) _ rfl i j

theorem kA_s0_4 (H : InA a b T D) (i j : Fin 128) : (kernelRun0_A.sl.v4193 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 0 (8 * T + 4) i j :=
  kA_step M D H 0 3 rfl inb_S4x8x8x128_S1x1x1x128_0_3_0_0 inb_S4x8x128x128_S1x1x128x128_0_3_0_0 _ (kA_s0_3 M D H) _ rfl i j

theorem kA_s0_5 (H : InA a b T D) (i j : Fin 128) : (kernelRun0_A.sl.v4321 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 0 (8 * T + 5) i j :=
  kA_step M D H 0 4 rfl inb_S4x8x8x128_S1x1x1x128_0_4_0_0 inb_S4x8x128x128_S1x1x128x128_0_4_0_0 _ (kA_s0_4 M D H) _ rfl i j

theorem kA_s0_6 (H : InA a b T D) (i j : Fin 128) : (kernelRun0_A.sl.v4449 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 0 (8 * T + 6) i j :=
  kA_step M D H 0 5 rfl inb_S4x8x8x128_S1x1x1x128_0_5_0_0 inb_S4x8x128x128_S1x1x128x128_0_5_0_0 _ (kA_s0_5 M D H) _ rfl i j

theorem kA_s0_7 (H : InA a b T D) (i j : Fin 128) : (kernelRun0_A.sl.v4577 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 0 (8 * T + 7) i j :=
  kA_step M D H 0 6 rfl inb_S4x8x8x128_S1x1x1x128_0_6_0_0 inb_S4x8x128x128_S1x1x128x128_0_6_0_0 _ (kA_s0_6 M D H) _ rfl i j

theorem kA_s0_8 (H : InA a b T D) (i j : Fin 128) : (kernelRun0_A.sl.v4705 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 0 (8 * T + 8) i j :=
  kA_step M D H 0 7 rfl inb_S4x8x8x128_S1x1x1x128_0_7_0_0 inb_S4x8x128x128_S1x1x128x128_0_7_0_0 _ (kA_s0_7 M D H) _ rfl i j

theorem kA_s1_0 (H : InA a b T D) (i j : Fin 128) : (kernelRun0_A.sl.v3793 (F := Ideal) M.c M.arg15) (ix2 j i) = a.S b 1 (8 * T + 0) i j := by
  rw [H.first]
  unfold kernelRun0_A.sl.v3793 kernelRun0_A.sl.v3792
  pointwise
  refine (back3 M.arg15.view _ _ kA_cs inb_S4x128x128_S1x128x128_1_0_0 0 j i 1 j i rfl (by omega) (by omega)).trans ?_
  exact kA_zero _

theorem kA_s1_1 (H : InA a b T D) (i j : Fin 128) : (kernelRun0_A.sl.v3841 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 1 (8 * T + 1) i j :=
  kA_step M D H 1 0 rfl inb_S4x8x8x128_S1x1x1x128_1_0_0_0 inb_S4x8x128x128_S1x1x128x128_1_0_0_0 _ (kA_s1_0 M D H) _ rfl i j

theorem kA_s1_2 (H : InA a b T D) (i j : Fin 128) : (kernelRun0_A.sl.v3969 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 1 (8 * T + 2) i j :=
  kA_step M D H 1 1 rfl inb_S4x8x8x128_S1x1x1x128_1_1_0_0 inb_S4x8x128x128_S1x1x128x128_1_1_0_0 _ (kA_s1_1 M D H) _ rfl i j

theorem kA_s1_3 (H : InA a b T D) (i j : Fin 128) : (kernelRun0_A.sl.v4097 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 1 (8 * T + 3) i j :=
  kA_step M D H 1 2 rfl inb_S4x8x8x128_S1x1x1x128_1_2_0_0 inb_S4x8x128x128_S1x1x128x128_1_2_0_0 _ (kA_s1_2 M D H) _ rfl i j

theorem kA_s1_4 (H : InA a b T D) (i j : Fin 128) : (kernelRun0_A.sl.v4225 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 1 (8 * T + 4) i j :=
  kA_step M D H 1 3 rfl inb_S4x8x8x128_S1x1x1x128_1_3_0_0 inb_S4x8x128x128_S1x1x128x128_1_3_0_0 _ (kA_s1_3 M D H) _ rfl i j

theorem kA_s1_5 (H : InA a b T D) (i j : Fin 128) : (kernelRun0_A.sl.v4353 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 1 (8 * T + 5) i j :=
  kA_step M D H 1 4 rfl inb_S4x8x8x128_S1x1x1x128_1_4_0_0 inb_S4x8x128x128_S1x1x128x128_1_4_0_0 _ (kA_s1_4 M D H) _ rfl i j

theorem kA_s1_6 (H : InA a b T D) (i j : Fin 128) : (kernelRun0_A.sl.v4481 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 1 (8 * T + 6) i j :=
  kA_step M D H 1 5 rfl inb_S4x8x8x128_S1x1x1x128_1_5_0_0 inb_S4x8x128x128_S1x1x128x128_1_5_0_0 _ (kA_s1_5 M D H) _ rfl i j

theorem kA_s1_7 (H : InA a b T D) (i j : Fin 128) : (kernelRun0_A.sl.v4609 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 1 (8 * T + 7) i j :=
  kA_step M D H 1 6 rfl inb_S4x8x8x128_S1x1x1x128_1_6_0_0 inb_S4x8x128x128_S1x1x128x128_1_6_0_0 _ (kA_s1_6 M D H) _ rfl i j

theorem kA_s1_8 (H : InA a b T D) (i j : Fin 128) : (kernelRun0_A.sl.v4737 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 1 (8 * T + 8) i j :=
  kA_step M D H 1 7 rfl inb_S4x8x8x128_S1x1x1x128_1_7_0_0 inb_S4x8x128x128_S1x1x128x128_1_7_0_0 _ (kA_s1_7 M D H) _ rfl i j

theorem kA_s2_0 (H : InA a b T D) (i j : Fin 128) : (kernelRun0_A.sl.v3795 (F := Ideal) M.c M.arg15) (ix2 j i) = a.S b 2 (8 * T + 0) i j := by
  rw [H.first]
  unfold kernelRun0_A.sl.v3795 kernelRun0_A.sl.v3794
  pointwise
  refine (back3 M.arg15.view _ _ kA_cs inb_S4x128x128_S1x128x128_2_0_0 0 j i 2 j i rfl (by omega) (by omega)).trans ?_
  exact kA_zero _

theorem kA_s2_1 (H : InA a b T D) (i j : Fin 128) : (kernelRun0_A.sl.v3873 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 2 (8 * T + 1) i j :=
  kA_step M D H 2 0 rfl inb_S4x8x8x128_S1x1x1x128_2_0_0_0 inb_S4x8x128x128_S1x1x128x128_2_0_0_0 _ (kA_s2_0 M D H) _ rfl i j

theorem kA_s2_2 (H : InA a b T D) (i j : Fin 128) : (kernelRun0_A.sl.v4001 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 2 (8 * T + 2) i j :=
  kA_step M D H 2 1 rfl inb_S4x8x8x128_S1x1x1x128_2_1_0_0 inb_S4x8x128x128_S1x1x128x128_2_1_0_0 _ (kA_s2_1 M D H) _ rfl i j

theorem kA_s2_3 (H : InA a b T D) (i j : Fin 128) : (kernelRun0_A.sl.v4129 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 2 (8 * T + 3) i j :=
  kA_step M D H 2 2 rfl inb_S4x8x8x128_S1x1x1x128_2_2_0_0 inb_S4x8x128x128_S1x1x128x128_2_2_0_0 _ (kA_s2_2 M D H) _ rfl i j

theorem kA_s2_4 (H : InA a b T D) (i j : Fin 128) : (kernelRun0_A.sl.v4257 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 2 (8 * T + 4) i j :=
  kA_step M D H 2 3 rfl inb_S4x8x8x128_S1x1x1x128_2_3_0_0 inb_S4x8x128x128_S1x1x128x128_2_3_0_0 _ (kA_s2_3 M D H) _ rfl i j

theorem kA_s2_5 (H : InA a b T D) (i j : Fin 128) : (kernelRun0_A.sl.v4385 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 2 (8 * T + 5) i j :=
  kA_step M D H 2 4 rfl inb_S4x8x8x128_S1x1x1x128_2_4_0_0 inb_S4x8x128x128_S1x1x128x128_2_4_0_0 _ (kA_s2_4 M D H) _ rfl i j

theorem kA_s2_6 (H : InA a b T D) (i j : Fin 128) : (kernelRun0_A.sl.v4513 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 2 (8 * T + 6) i j :=
  kA_step M D H 2 5 rfl inb_S4x8x8x128_S1x1x1x128_2_5_0_0 inb_S4x8x128x128_S1x1x128x128_2_5_0_0 _ (kA_s2_5 M D H) _ rfl i j

theorem kA_s2_7 (H : InA a b T D) (i j : Fin 128) : (kernelRun0_A.sl.v4641 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 2 (8 * T + 7) i j :=
  kA_step M D H 2 6 rfl inb_S4x8x8x128_S1x1x1x128_2_6_0_0 inb_S4x8x128x128_S1x1x128x128_2_6_0_0 _ (kA_s2_6 M D H) _ rfl i j

theorem kA_s2_8 (H : InA a b T D) (i j : Fin 128) : (kernelRun0_A.sl.v4769 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 2 (8 * T + 8) i j :=
  kA_step M D H 2 7 rfl inb_S4x8x8x128_S1x1x1x128_2_7_0_0 inb_S4x8x128x128_S1x1x128x128_2_7_0_0 _ (kA_s2_7 M D H) _ rfl i j

theorem kA_s3_0 (H : InA a b T D) (i j : Fin 128) : (kernelRun0_A.sl.v3797 (F := Ideal) M.c M.arg15) (ix2 j i) = a.S b 3 (8 * T + 0) i j := by
  rw [H.first]
  unfold kernelRun0_A.sl.v3797 kernelRun0_A.sl.v3796
  pointwise
  refine (back3 M.arg15.view _ _ kA_cs inb_S4x128x128_S1x128x128_3_0_0 0 j i 3 j i rfl (by omega) (by omega)).trans ?_
  exact kA_zero _

theorem kA_s3_1 (H : InA a b T D) (i j : Fin 128) : (kernelRun0_A.sl.v3905 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 3 (8 * T + 1) i j :=
  kA_step M D H 3 0 rfl inb_S4x8x8x128_S1x1x1x128_3_0_0_0 inb_S4x8x128x128_S1x1x128x128_3_0_0_0 _ (kA_s3_0 M D H) _ rfl i j

theorem kA_s3_2 (H : InA a b T D) (i j : Fin 128) : (kernelRun0_A.sl.v4033 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 3 (8 * T + 2) i j :=
  kA_step M D H 3 1 rfl inb_S4x8x8x128_S1x1x1x128_3_1_0_0 inb_S4x8x128x128_S1x1x128x128_3_1_0_0 _ (kA_s3_1 M D H) _ rfl i j

theorem kA_s3_3 (H : InA a b T D) (i j : Fin 128) : (kernelRun0_A.sl.v4161 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 3 (8 * T + 3) i j :=
  kA_step M D H 3 2 rfl inb_S4x8x8x128_S1x1x1x128_3_2_0_0 inb_S4x8x128x128_S1x1x128x128_3_2_0_0 _ (kA_s3_2 M D H) _ rfl i j

theorem kA_s3_4 (H : InA a b T D) (i j : Fin 128) : (kernelRun0_A.sl.v4289 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 3 (8 * T + 4) i j :=
  kA_step M D H 3 3 rfl inb_S4x8x8x128_S1x1x1x128_3_3_0_0 inb_S4x8x128x128_S1x1x128x128_3_3_0_0 _ (kA_s3_3 M D H) _ rfl i j

theorem kA_s3_5 (H : InA a b T D) (i j : Fin 128) : (kernelRun0_A.sl.v4417 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 3 (8 * T + 5) i j :=
  kA_step M D H 3 4 rfl inb_S4x8x8x128_S1x1x1x128_3_4_0_0 inb_S4x8x128x128_S1x1x128x128_3_4_0_0 _ (kA_s3_4 M D H) _ rfl i j

theorem kA_s3_6 (H : InA a b T D) (i j : Fin 128) : (kernelRun0_A.sl.v4545 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 3 (8 * T + 6) i j :=
  kA_step M D H 3 5 rfl inb_S4x8x8x128_S1x1x1x128_3_5_0_0 inb_S4x8x128x128_S1x1x128x128_3_5_0_0 _ (kA_s3_5 M D H) _ rfl i j

theorem kA_s3_7 (H : InA a b T D) (i j : Fin 128) : (kernelRun0_A.sl.v4673 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 3 (8 * T + 7) i j :=
  kA_step M D H 3 6 rfl inb_S4x8x8x128_S1x1x1x128_3_6_0_0 inb_S4x8x128x128_S1x1x128x128_3_6_0_0 _ (kA_s3_6 M D H) _ rfl i j

theorem kA_s3_8 (H : InA a b T D) (i j : Fin 128) : (kernelRun0_A.sl.v4801 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) (ix2 j i) = a.S b 3 (8 * T + 8) i j :=
  kA_step M D H 3 7 rfl inb_S4x8x8x128_S1x1x1x128_3_7_0_0 inb_S4x8x128x128_S1x1x128x128_3_7_0_0 _ (kA_s3_7 M D H) _ rfl i j

theorem kA_co (H : InA a b T D) : View.canon (kernelRun0_A.sl.HS12_32 (F := Ideal) M.c M.arg2 M.harg2 M.arg3 M.harg3 M.arg4 M.harg4 M.arg5 M.harg5 M.arg6 M.harg6 M.arg7 M.harg7 M.arg8 M.harg8 M.arg13 M.arg15 M.arg16 M.arg17 M.arg18 M.arg19 M.arg20 M.arg21 M.arg22 M.arg23 M.arg24 D.x0 D.x1 D.x2 D.x3 D.x4 D.x5 D.x6) = tile2 (fun h c t j => a.ohg b (8 * T + c) t h j) := by
  refine canon_is _ _ ?_ (View.cover_of_tiledL (s := S512x512) _ S64x128.size (by sl_kernel_rfl))
  unfold kernelRun0_A.sl.HS12_32
  exact ⟨kA_pH M D H 3 7 (by norm_num) rfl rfl inb_S512x512_S64x128_448_384 inb_S1x512_S1x128_0_384 _ (kA_s3_7 M D H) _ rfl,
    kA_pH M D H 2 7 (by norm_num) rfl rfl inb_S512x512_S64x128_448_256 inb_S1x512_S1x128_0_256 _ (kA_s2_7 M D H) _ rfl,
    kA_pH M D H 1 7 (by norm_num) rfl rfl inb_S512x512_S64x128_448_128 inb_S1x512_S1x128_0_128 _ (kA_s1_7 M D H) _ rfl,
    kA_pH M D H 0 7 (by norm_num) rfl rfl inb_S512x512_S64x128_448_0 inb_S1x512_S1x128_0_0 _ (kA_s0_7 M D H) _ rfl,
    kA_pH M D H 3 6 (by norm_num) rfl rfl inb_S512x512_S64x128_384_384 inb_S1x512_S1x128_0_384 _ (kA_s3_6 M D H) _ rfl,
    kA_pH M D H 2 6 (by norm_num) rfl rfl inb_S512x512_S64x128_384_256 inb_S1x512_S1x128_0_256 _ (kA_s2_6 M D H) _ rfl,
    kA_pH M D H 1 6 (by norm_num) rfl rfl inb_S512x512_S64x128_384_128 inb_S1x512_S1x128_0_128 _ (kA_s1_6 M D H) _ rfl,
    kA_pH M D H 0 6 (by norm_num) rfl rfl inb_S512x512_S64x128_384_0 inb_S1x512_S1x128_0_0 _ (kA_s0_6 M D H) _ rfl,
    kA_pH M D H 3 5 (by norm_num) rfl rfl inb_S512x512_S64x128_320_384 inb_S1x512_S1x128_0_384 _ (kA_s3_5 M D H) _ rfl,
    kA_pH M D H 2 5 (by norm_num) rfl rfl inb_S512x512_S64x128_320_256 inb_S1x512_S1x128_0_256 _ (kA_s2_5 M D H) _ rfl,
    kA_pH M D H 1 5 (by norm_num) rfl rfl inb_S512x512_S64x128_320_128 inb_S1x512_S1x128_0_128 _ (kA_s1_5 M D H) _ rfl,
    kA_pH M D H 0 5 (by norm_num) rfl rfl inb_S512x512_S64x128_320_0 inb_S1x512_S1x128_0_0 _ (kA_s0_5 M D H) _ rfl,
    kA_pH M D H 3 4 (by norm_num) rfl rfl inb_S512x512_S64x128_256_384 inb_S1x512_S1x128_0_384 _ (kA_s3_4 M D H) _ rfl,
    kA_pH M D H 2 4 (by norm_num) rfl rfl inb_S512x512_S64x128_256_256 inb_S1x512_S1x128_0_256 _ (kA_s2_4 M D H) _ rfl,
    kA_pH M D H 1 4 (by norm_num) rfl rfl inb_S512x512_S64x128_256_128 inb_S1x512_S1x128_0_128 _ (kA_s1_4 M D H) _ rfl,
    kA_pH M D H 0 4 (by norm_num) rfl rfl inb_S512x512_S64x128_256_0 inb_S1x512_S1x128_0_0 _ (kA_s0_4 M D H) _ rfl,
    kA_pH M D H 3 3 (by norm_num) rfl rfl inb_S512x512_S64x128_192_384 inb_S1x512_S1x128_0_384 _ (kA_s3_3 M D H) _ rfl,
    kA_pH M D H 2 3 (by norm_num) rfl rfl inb_S512x512_S64x128_192_256 inb_S1x512_S1x128_0_256 _ (kA_s2_3 M D H) _ rfl,
    kA_pH M D H 1 3 (by norm_num) rfl rfl inb_S512x512_S64x128_192_128 inb_S1x512_S1x128_0_128 _ (kA_s1_3 M D H) _ rfl,
    kA_pH M D H 0 3 (by norm_num) rfl rfl inb_S512x512_S64x128_192_0 inb_S1x512_S1x128_0_0 _ (kA_s0_3 M D H) _ rfl,
    kA_pH M D H 3 2 (by norm_num) rfl rfl inb_S512x512_S64x128_128_384 inb_S1x512_S1x128_0_384 _ (kA_s3_2 M D H) _ rfl,
    kA_pH M D H 2 2 (by norm_num) rfl rfl inb_S512x512_S64x128_128_256 inb_S1x512_S1x128_0_256 _ (kA_s2_2 M D H) _ rfl,
    kA_pH M D H 1 2 (by norm_num) rfl rfl inb_S512x512_S64x128_128_128 inb_S1x512_S1x128_0_128 _ (kA_s1_2 M D H) _ rfl,
    kA_pH M D H 0 2 (by norm_num) rfl rfl inb_S512x512_S64x128_128_0 inb_S1x512_S1x128_0_0 _ (kA_s0_2 M D H) _ rfl,
    kA_pH M D H 3 1 (by norm_num) rfl rfl inb_S512x512_S64x128_64_384 inb_S1x512_S1x128_0_384 _ (kA_s3_1 M D H) _ rfl,
    kA_pH M D H 2 1 (by norm_num) rfl rfl inb_S512x512_S64x128_64_256 inb_S1x512_S1x128_0_256 _ (kA_s2_1 M D H) _ rfl,
    kA_pH M D H 1 1 (by norm_num) rfl rfl inb_S512x512_S64x128_64_128 inb_S1x512_S1x128_0_128 _ (kA_s1_1 M D H) _ rfl,
    kA_pH M D H 0 1 (by norm_num) rfl rfl inb_S512x512_S64x128_64_0 inb_S1x512_S1x128_0_0 _ (kA_s0_1 M D H) _ rfl,
    kA_pH M D H 3 0 (by norm_num) rfl rfl inb_S512x512_S64x128_0_384 inb_S1x512_S1x128_0_384 _ (kA_s3_0 M D H) _ rfl,
    kA_pH M D H 2 0 (by norm_num) rfl rfl inb_S512x512_S64x128_0_256 inb_S1x512_S1x128_0_256 _ (kA_s2_0 M D H) _ rfl,
    kA_pH M D H 1 0 (by norm_num) rfl rfl inb_S512x512_S64x128_0_128 inb_S1x512_S1x128_0_128 _ (kA_s1_0 M D H) _ rfl,
    kA_pH M D H 0 0 (by norm_num) rfl rfl inb_S512x512_S64x128_0_0 inb_S1x512_S1x128_0_0 _ (kA_s0_0 M D H) _ rfl,
    trivial⟩

theorem kA_cy : View.canon (kernelRun0_A.sl.H10_1 (F := Ideal) M.c M.arg4 M.harg4 M.arg9 M.harg9 M.arg10 M.harg10 M.arg14 D.x2 D.x7 D.x8) = (kernelRun0_A.sl.v2633 (F := Ideal) M.c M.arg4 M.harg4 M.arg9 M.harg9 M.arg10 M.harg10 M.arg14 D.x2 D.x7 D.x8) := by
  unfold kernelRun0_A.sl.H10_1
  exact canon_whole _ _ (by decide)

/-- The rows the point leaves. -/
theorem kA_last (H : InA a b T D) (r : Fin 512) (d : Fin 1024) : k0_pay4 (F := Ideal) (kernelRun0_A.sl.v4834 (F := Ideal) M.c M.arg4 M.harg4 M.arg9 M.harg9 M.arg10 M.harg10 M.arg12 M.arg14 D.x2 D.x7 D.x8) (kernelRun0_A.sl.v4836 (F := Ideal) M.c M.arg2 M.harg2 M.arg3 M.harg3 M.arg4 M.harg4 M.arg5 M.harg5 M.arg6 M.harg6 M.arg7 M.harg7 M.arg8 M.harg8 M.arg13 M.arg15 M.arg16 M.arg17 M.arg18 M.arg19 M.arg20 M.arg21 M.arg22 M.arg23 M.arg24 M.arg25 D.x0 D.x1 D.x2 D.x3 D.x4 D.x5 D.x6) (kernelRun0_A.sl.v4837 (F := Ideal) M.c M.arg10 M.harg10 M.arg14 D.x8) (View.readAt (Elt Ideal) M.arg11.view (Rect.unit (s := S1x1024) ![0, 0] S1x1024.size inb_S1x1024_S1x1024_0_0).toLoadRect (M.harg11.unread D.x9)) (ix3 0 r d) = a.out b (trow T r) d := by
  have hT := H.lt
  have ht : (trow T r).val = 512 * T + r.val := by
    show ((8 * T + r.val / 64) * 64 + r.val % 64) % 8192 = _
    omega
  have h1 : (trow T r).val / 64 = 8 * T + r.val / 64 := by omega
  have h2 : (⟨(trow T r).val % 64, Nat.mod_lt _ (by norm_num)⟩ : Fin 64) = tm r := Fin.ext (by show (trow T r).val % 64 = r.val % 64; omega)
  refine last_at a b (trow T r) r _ _ _ _ (fun d => ?_) (fun x => ?_) (fun x d => ?_) (fun d => ?_) d
  · refine (back3 M.arg12.view _ _ (kA_cy M D) inb_S1x512x1024_S1x512x1024_0_0_0 0 r d 0 r d rfl (by omega) (by omega)).trans ?_
    exact kA_y M D H r d
  · refine (back2 M.arg25.view _ _ (kA_co M D H) inb_S512x512_S512x512_0_0 r x r x (by omega) (by omega)).trans ?_
    rw [h1, h2]
    rfl
  · refine (kA_o0 M D H x d).trans ?_
    simp only [Nat.zero_add]
  · exact (load2 M.harg11 D.x9 inb_S1x1024_S1x1024_0_0 0 d 0 d rfl (by omega)).trans (H.tile.fw d)

theorem kA_t0 (H : InA a b T D) (x : S1x128x128.Idx) : (kernelRun0_A.sl.v4824 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) x = carried a b T ((Rect.unit (s := S4x128x128) ![0, 0, 0] S1x128x128.size inb_S4x128x128_S1x128x128_0_0_0).emb x) := by
  refine carried_piece a b T 0 rfl _ _ (fun i j => ?_) x
  have e : (kernelRun0_A.sl.v4824 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) = shapeCast S1x128x128 (kernelRun0_A.sl.v4705 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) shapeCasts_S128x128_S1x128x128 := rfl
  rw [e]
  generalize hg : (kernelRun0_A.sl.v4705 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) = g
  pointwise
  rw [← hg]
  exact kA_s0_8 M D H i j

theorem kA_t1 (H : InA a b T D) (x : S1x128x128.Idx) : (k0_pay1 (F := Ideal) (kernelRun0_A.sl.v4737 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5)) x = carried a b T ((Rect.unit (s := S4x128x128) ![1, 0, 0] S1x128x128.size inb_S4x128x128_S1x128x128_1_0_0).emb x) := by
  refine carried_piece a b T 1 rfl _ _ (fun i j => ?_) x
  have e : (k0_pay1 (F := Ideal) (kernelRun0_A.sl.v4737 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5)) = shapeCast S1x128x128 (kernelRun0_A.sl.v4737 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) shapeCasts_S128x128_S1x128x128 := rfl
  rw [e]
  generalize hg : (kernelRun0_A.sl.v4737 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) = g
  pointwise
  rw [← hg]
  exact kA_s1_8 M D H i j

theorem kA_t2 (H : InA a b T D) (x : S1x128x128.Idx) : (k0_pay2 (F := Ideal) (kernelRun0_A.sl.v4769 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5)) x = carried a b T ((Rect.unit (s := S4x128x128) ![2, 0, 0] S1x128x128.size inb_S4x128x128_S1x128x128_2_0_0).emb x) := by
  refine carried_piece a b T 2 rfl _ _ (fun i j => ?_) x
  have e : (k0_pay2 (F := Ideal) (kernelRun0_A.sl.v4769 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5)) = shapeCast S1x128x128 (kernelRun0_A.sl.v4769 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) shapeCasts_S128x128_S1x128x128 := rfl
  rw [e]
  generalize hg : (kernelRun0_A.sl.v4769 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) = g
  pointwise
  rw [← hg]
  exact kA_s2_8 M D H i j

theorem kA_t3 (H : InA a b T D) (x : S1x128x128.Idx) : (k0_pay3 (F := Ideal) (kernelRun0_A.sl.v4801 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5)) x = carried a b T ((Rect.unit (s := S4x128x128) ![3, 0, 0] S1x128x128.size inb_S4x128x128_S1x128x128_3_0_0).emb x) := by
  refine carried_piece a b T 3 rfl _ _ (fun i j => ?_) x
  have e : (k0_pay3 (F := Ideal) (kernelRun0_A.sl.v4801 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5)) = shapeCast S1x128x128 (kernelRun0_A.sl.v4801 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) shapeCasts_S128x128_S1x128x128 := rfl
  rw [e]
  generalize hg : (kernelRun0_A.sl.v4801 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5) = g
  pointwise
  rw [← hg]
  exact kA_s3_8 M D H i j

end Cert.Hgrn
end
-- ==== Proof.BaseB.lean ====
/- The projections a tile makes. -/
module

public import proofs.«01_k».proof.Proof.Mem
public import proofs.«01_k».proof.Proof.Gen.KernelIdeal.Frame.RunB

@[expose] public section

set_option maxRecDepth 16384

noncomputable section

namespace Cert.Hgrn

open Idealize.ShloMosaic Idealize.SL.Sem Cert.KernelIdeal Cert.KernelIdeal.Gen

variable {a : Args} {b : Fin 2} {T : ℕ} (M : Mem) (D : Data)

/-- The tile's rows. -/
theorem kB_x (H : InB a b T D) (r : Fin 512) (d : Fin 1024) : (kernelRun0_B.sl.v26 (F := Ideal) M.c M.arg4 M.harg4 D.x2) (ix2 r d) = a.X b (trow T r) d :=
by
  unfold kernelRun0_B.sl.v26
  pointwise
  refine (load3 M.harg4 D.x2 inb_S1x512x1024_S1x512x1024_0_0_0 0 r d 0 r d rfl (by omega) (by omega)).trans ?_
  exact H.tile.rows r d

theorem kB_nw (H : InB a b T D) (d : Fin 1024) : (kernelRun0_B.sl.r (F := Ideal) M.c M.arg5 M.harg5 D.x3) (ix2 0 d) = a.NW d :=
(load2 M.harg5 D.x3 inb_S1x1024_S1x1024_0_0 0 d 0 d rfl (by omega)).trans (H.tile.nw d)

theorem kB_lb (H : InB a b T D) (i : Fin 2) (n : Fin 512) : (View.readAt (Elt Ideal) M.arg7.view (Rect.unit (s := S2x512) ![0, 0] S2x512.size inb_S2x512_S2x512_0_0).toLoadRect (M.harg7.unread D.x5)) (ix2 i n) = a.L i n :=
(load2 M.harg7 D.x5 inb_S2x512_S2x512_0_0 i n i n (by omega) (by omega)).trans (H.tile.lb i n)

theorem kB_w0 (H : InB a b T D) (x : Fin 1024) (n : Fin 512) : (View.readAt (Elt Ideal) M.arg13.view (Rect.unit (s := S1024x2048) ![0, 0] S1024x512.size inb_S1024x2048_S1024x512_0_0).toLoadRect (M.harg13.unread D.xs0)) (ix2 x n) = a.W x ⟨0 + n.val, by omega⟩ :=
(load2 M.harg13 D.xs0 inb_S1024x2048_S1024x512_0_0 x n x ⟨0 + n.val, by omega⟩ (by omega) rfl).trans (H.win x _)

theorem kB_w512 (H : InB a b T D) (x : Fin 1024) (n : Fin 512) : (View.readAt (Elt Ideal) M.arg13.view (Rect.unit (s := S1024x2048) ![0, 512] S1024x512.size inb_S1024x2048_S1024x512_0_512).toLoadRect (M.harg13.unread D.xs0)) (ix2 x n) = a.W x ⟨512 + n.val, by omega⟩ :=
(load2 M.harg13 D.xs0 inb_S1024x2048_S1024x512_0_512 x n x ⟨512 + n.val, by omega⟩ (by omega) rfl).trans (H.win x _)

theorem kB_w1024 (H : InB a b T D) (x : Fin 1024) (n : Fin 512) : (View.readAt (Elt Ideal) M.arg13.view (Rect.unit (s := S1024x2048) ![0, 1024] S1024x512.size inb_S1024x2048_S1024x512_0_1024).toLoadRect (M.harg13.unread D.xs0)) (ix2 x n) = a.W x ⟨1024 + n.val, by omega⟩ :=
(load2 M.harg13 D.xs0 inb_S1024x2048_S1024x512_0_1024 x n x ⟨1024 + n.val, by omega⟩ (by omega) rfl).trans (H.win x _)

theorem kB_w1536 (H : InB a b T D) (x : Fin 1024) (n : Fin 512) : (View.readAt (Elt Ideal) M.arg13.view (Rect.unit (s := S1024x2048) ![0, 1536] S1024x512.size inb_S1024x2048_S1024x512_0_1536).toLoadRect (M.harg13.unread D.xs0)) (ix2 x n) = a.W x ⟨1536 + n.val, by omega⟩ :=
(load2 M.harg13 D.xs0 inb_S1024x2048_S1024x512_0_1536 x n x ⟨1536 + n.val, by omega⟩ (by omega) rfl).trans (H.win x _)

theorem kB_o0 (H : InB a b T D) (x : Fin 512) (d : Fin 1024) : (View.readAt (Elt Ideal) M.arg14.view (Rect.unit (s := S1024x1024) ![0, 0] S512x1024.size inb_S1024x1024_S512x1024_0_0).toLoadRect (M.harg14.unread D.xs1)) (ix2 x d) = a.WO ⟨0 + x.val, by omega⟩ d :=
(load2 M.harg14 D.xs1 inb_S1024x1024_S512x1024_0_0 x d ⟨0 + x.val, by omega⟩ d rfl (by omega)).trans (H.wout _ d)

theorem kB_o512 (H : InB a b T D) (x : Fin 512) (d : Fin 1024) : (View.readAt (Elt Ideal) M.arg14.view (Rect.unit (s := S1024x1024) ![512, 0] S512x1024.size inb_S1024x1024_S512x1024_512_0).toLoadRect (M.harg14.unread D.xs1)) (ix2 x d) = a.WO ⟨512 + x.val, by omega⟩ d :=
(load2 M.harg14 D.xs1 inb_S1024x1024_S512x1024_512_0 x d ⟨512 + x.val, by omega⟩ d rfl (by omega)).trans (H.wout _ d)

theorem kB_p0 (H : InB a b T D) (r n : Fin 512) : (sP (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 0] S1024x512.size inb_S1024x2048_S1024x512_0_0).toLoadRect (M.harg13.unread D.xs0))) (ix2 r n) = a.p b (trow T r) ⟨0 + n.val, by omega⟩ :=
sP_at a b (trow T r) r _ _ _ (fun d => kB_x M D H r d) (fun d => kB_nw M D H d) _ n (fun x => kB_w0 M D H x n)

theorem kB_p1024 (H : InB a b T D) (r n : Fin 512) : (sP (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 1024] S1024x512.size inb_S1024x2048_S1024x512_0_1024).toLoadRect (M.harg13.unread D.xs0))) (ix2 r n) = a.p b (trow T r) ⟨1024 + n.val, by omega⟩ :=
sP_at a b (trow T r) r _ _ _ (fun d => kB_x M D H r d) (fun d => kB_nw M D H d) _ n (fun x => kB_w1024 M D H x n)

theorem kB_p1536 (H : InB a b T D) (r n : Fin 512) : (sP (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 1536] S1024x512.size inb_S1024x2048_S1024x512_0_1536).toLoadRect (M.harg13.unread D.xs0))) (ix2 r n) = a.p b (trow T r) ⟨1536 + n.val, by omega⟩ :=
sP_at a b (trow T r) r _ _ _ (fun d => kB_x M D H r d) (fun d => kB_nw M D H d) _ n (fun x => kB_w1536 M D H x n)

/-- The gates. -/
theorem kB_f (H : InB a b T D) (r n : Fin 512) : (sF (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) (ix2 r n) = (a.f b (trow T r) n : EReal) :=
sF_at a b (trow T r) r _ _ _ _ (fun d => kB_x M D H r d) (fun d => kB_nw M D H d) (fun i n => kB_lb M D H i n) n (fun x => kB_w512 M D H x n)

/-- The queries. -/
theorem kB_q (H : InB a b T D) (r n : Fin 512) : (kernelRun0_B.sl.v111 (F := Ideal) M.c M.arg4 M.harg4 M.arg5 M.harg5 M.arg13 M.harg13 D.x2 D.x3 D.xs0) (ix2 r n) = a.Q b (hd n) (8 * T + r.val / 64) (tm r) (dm n) :=
by
  have e : (kernelRun0_B.sl.v111 (F := Ideal) M.c M.arg4 M.harg4 M.arg5 M.harg5 M.arg13 M.harg13 D.x2 D.x3 D.xs0) = sSilu (sP (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 0] S1024x512.size inb_S1024x2048_S1024x512_0_0).toLoadRect (M.harg13.unread D.xs0))) := rfl
  rw [e, sSilu_at, kB_p0 M D H]
  unfold Args.Q trow
  simp only [col_hd, Nat.zero_add]

/-- The keys. -/
theorem kB_k (H : InB a b T D) (r n : Fin 512) : (kernelRun0_B.sl.v99 (F := Ideal) M.c M.arg4 M.harg4 M.arg5 M.harg5 M.arg7 M.harg7 M.arg13 M.harg13 D.x2 D.x3 D.x5 D.xs0) (ix2 r n) = a.K b (hd n) (8 * T + r.val / 64) (tm r) (dm n) :=
by
  have e : (kernelRun0_B.sl.v99 (F := Ideal) M.c M.arg4 M.harg4 M.arg5 M.harg5 M.arg7 M.harg7 M.arg13 M.harg13 D.x2 D.x3 D.x5 D.xs0) = sK (sF (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) := rfl
  rw [e, sK_at r _ n _ (kB_f M D H r n)]
  unfold Args.K trow
  simp only [col_hd]

/-- The values. -/
theorem kB_v (H : InB a b T D) (r n : Fin 512) : (kernelRun0_B.sl.v2637 (F := Ideal) M.c M.arg4 M.harg4 M.arg5 M.harg5 M.arg13 M.harg13 D.x2 D.x3 D.xs0) (ix2 r n) = a.V b (hd n) (8 * T + r.val / 64) (tm r) (dm n) :=
by
  have e : (kernelRun0_B.sl.v2637 (F := Ideal) M.c M.arg4 M.harg4 M.arg5 M.harg5 M.arg13 M.harg13 D.x2 D.x3 D.xs0) = sV (sP (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 1024] S1024x512.size inb_S1024x2048_S1024x512_0_1024).toLoadRect (M.harg13.unread D.xs0))) := rfl
  rw [e, sV_at, kB_p1024 M D H]
  unfold Args.V trow
  simp only [col_hd]

/-- The gate of the branch's output. -/
def zzB (a : Args) (b : Fin 2) (c : ℕ) (h : Fin 4) (t : Fin 64) (j : Fin 128) : EReal := silu (a.p b (row c t) ⟨1536 + (col h j).val, by have := (col h j).isLt; omega⟩)

theorem kB_z (H : InB a b T D) (r n : Fin 512) : (kernelRun0_B.sl.v2623 (F := Ideal) M.c M.arg4 M.harg4 M.arg5 M.harg5 M.arg13 M.harg13 D.x2 D.x3 D.xs0) (ix2 r n) = zzB a b (8 * T + r.val / 64) (hd n) (tm r) (dm n) :=
by
  have e : (kernelRun0_B.sl.v2623 (F := Ideal) M.c M.arg4 M.harg4 M.arg5 M.harg5 M.arg13 M.harg13 D.x2 D.x3 D.xs0) = sSilu (sP (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 1536] S1024x512.size inb_S1024x2048_S1024x512_0_1536).toLoadRect (M.harg13.unread D.xs0))) := rfl
  rw [e, sSilu_at, kB_p1536 M D H]
  unfold zzB trow
  simp only [col_hd]

/-- The row and what the other branch adds to it. -/
theorem kB_y (H : InB a b T D) (r : Fin 512) (d : Fin 1024) : (kernelRun0_B.sl.v2633 (F := Ideal) M.c M.arg4 M.harg4 M.arg9 M.harg9 M.arg14 M.harg14 D.x2 D.x7 D.xs1) (ix3 0 r d) = a.X b (trow T r) d + ∑ x : Fin 512, a.OAT b (trow T r) x * a.WO ⟨512 + x.val, by omega⟩ d :=
by
  have e : (kernelRun0_B.sl.v2633 (F := Ideal) M.c M.arg4 M.harg4 M.arg9 M.harg9 M.arg14 M.harg14 D.x2 D.x7 D.xs1) = sRes (kernelRun0_B.sl.v26 (F := Ideal) M.c M.arg4 M.harg4 D.x2) (kernelRun0_B.sl.v2627 (F := Ideal) M.c M.arg9 M.harg9 D.x7) (View.readAt (Elt Ideal) M.arg14.view (Rect.unit (s := S1024x1024) ![512, 0] S512x1024.size inb_S1024x1024_S512x1024_512_0).toLoadRect (M.harg14.unread D.xs1)) := rfl
  rw [e, sRes_at, kB_x M D H]
  congr 1
  refine Finset.sum_congr rfl fun x _ => ?_
  rw [kB_o512 M D H]
  congr 1
  unfold kernelRun0_B.sl.v2627
  pointwise
  exact (load3 M.harg9 D.x7 inb_S1x512x512_S1x512x512_0_0_0 0 r x 0 r x rfl (by omega) (by omega)).trans (H.tile.oat r x)

theorem kB_cq (H : InB a b T D) : View.canon (kernelRun0_B.sl.HS3_1 (F := Ideal) M.c M.arg4 M.harg4 M.arg5 M.harg5 M.arg13 M.harg13 D.x2 D.x3 D.xs0) = tile2 (fun h c t d => a.Q b h (8 * T + c) t d) :=
by
  unfold kernelRun0_B.sl.HS3_1
  exact (canon_whole _ _ (by decide)).trans (tile2_ext _ _ (fun r n => kB_q M D H r n))

theorem kB_ck (H : InB a b T D) : View.canon (kernelRun0_B.sl.HS5_1 (F := Ideal) M.c M.arg4 M.harg4 M.arg5 M.harg5 M.arg7 M.harg7 M.arg13 M.harg13 D.x2 D.x3 D.x5 D.xs0) = tile2 (fun h c t d => a.K b h (8 * T + c) t d) :=
by
  unfold kernelRun0_B.sl.HS5_1
  exact (canon_whole _ _ (by decide)).trans (tile2_ext _ _ (fun r n => kB_k M D H r n))

theorem kB_cv (H : InB a b T D) : View.canon (kernelRun0_B.sl.HS6_1 (F := Ideal) M.c M.arg4 M.harg4 M.arg5 M.harg5 M.arg13 M.harg13 D.x2 D.x3 D.xs0) = tile2 (fun h c t d => a.V b h (8 * T + c) t d) :=
by
  unfold kernelRun0_B.sl.HS6_1
  exact (canon_whole _ _ (by decide)).trans (tile2_ext _ _ (fun r n => kB_v M D H r n))

theorem kB_cz (H : InB a b T D) : View.canon (kernelRun0_B.sl.HS7_1 (F := Ideal) M.c M.arg4 M.harg4 M.arg5 M.harg5 M.arg13 M.harg13 D.x2 D.x3 D.xs0) = tile2 (fun h c t d => zzB a b (8 * T + c) h t d) :=
by
  unfold kernelRun0_B.sl.HS7_1
  exact (canon_whole _ _ (by decide)).trans (tile2_ext _ _ (fun r n => kB_z M D H r n))

theorem kB_hi (H : InB a b T D) (r n : Fin 512) : (sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) (ix2 r n) = ((a.G b (hd n) (8 * T + r.val / 64) (tm r) (dm n) * bits : ℝ) : EReal) :=
by
  refine (sHi_at r _ _ _ _ n _ (a.f_spec b (trow T r) n).1 (kB_f M D H r n)).trans ?_
  unfold Args.G trow
  simp only [col_hd]

theorem kB_lo (H : InB a b T D) (r n : Fin 512) : (sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) (ix2 r n) = 0 :=
sLo_at r _ _ _ _ n _ (a.f_spec b (trow T r) n).1 (kB_f M D H r n)

theorem kB_g0 (H : InB a b T D) (r : Fin 512) (d : Fin 128) : (k0_pay20 (F := Ideal) (kernelRun0_B.sl.v20 (F := Ideal) M.c M.arg7 M.harg7 D.x5) (kernelRun0_B.sl.v24 (F := Ideal) M.c M.arg7 M.harg7 D.x5) (kernelRun0_B.sl.v26 (F := Ideal) M.c M.arg4 M.harg4 D.x2) (kernelRun0_B.sl.r (F := Ideal) M.c M.arg5 M.harg5 D.x3) (kernelRun0_B.sl.v36 (F := Ideal) M.c M.arg4 M.harg4 D.x2) (View.readAt (Elt Ideal) M.arg13.view (Rect.unit (s := S1024x2048) ![0, 512] S1024x512.size inb_S1024x2048_S1024x512_0_512).toLoadRect (M.harg13.unread D.xs0))) (ix2 r d) = ((a.G b 0 (8 * T + r.val / 64) (tm r) d * bits : ℝ) : EReal) :=
by
  have e : (k0_pay20 (F := Ideal) (kernelRun0_B.sl.v20 (F := Ideal) M.c M.arg7 M.harg7 D.x5) (kernelRun0_B.sl.v24 (F := Ideal) M.c M.arg7 M.harg7 D.x5) (kernelRun0_B.sl.v26 (F := Ideal) M.c M.arg4 M.harg4 D.x2) (kernelRun0_B.sl.r (F := Ideal) M.c M.arg5 M.harg5 D.x3) (kernelRun0_B.sl.v36 (F := Ideal) M.c M.arg4 M.harg4 D.x2) (View.readAt (Elt Ideal) M.arg13.view (Rect.unit (s := S1024x2048) ![0, 512] S1024x512.size inb_S1024x2048_S1024x512_0_512).toLoadRect (M.harg13.unread D.xs0))) = (shapeCast S512x128 (extractStridedSlice S512x128 ![0, 0] (sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) slices_S512x512_o0_0_S512x128) shapeCasts_S512x128_S512x128) := rfl
  rw [e]
  generalize hg : sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0)) = g
  pointwise
  rw [← hg]
  refine (kB_hi M D H r ⟨d.val, by omega⟩).trans ?_
  have e1 : hd ⟨d.val, by omega⟩ = 0 := Fin.ext (by show (d.val) / 128 = 0; omega)
  have e2 : dm ⟨d.val, by omega⟩ = d := Fin.ext (by show (d.val) % 128 = d.val; omega)
  rw [e1, e2]

theorem kB_g1 (H : InB a b T D) (r : Fin 512) (d : Fin 128) : (k0_pay21 (F := Ideal) (kernelRun0_B.sl.v20 (F := Ideal) M.c M.arg7 M.harg7 D.x5) (kernelRun0_B.sl.v24 (F := Ideal) M.c M.arg7 M.harg7 D.x5) (kernelRun0_B.sl.v26 (F := Ideal) M.c M.arg4 M.harg4 D.x2) (kernelRun0_B.sl.r (F := Ideal) M.c M.arg5 M.harg5 D.x3) (kernelRun0_B.sl.v36 (F := Ideal) M.c M.arg4 M.harg4 D.x2) (View.readAt (Elt Ideal) M.arg13.view (Rect.unit (s := S1024x2048) ![0, 512] S1024x512.size inb_S1024x2048_S1024x512_0_512).toLoadRect (M.harg13.unread D.xs0))) (ix2 r d) = 0 :=
by
  have e : (k0_pay21 (F := Ideal) (kernelRun0_B.sl.v20 (F := Ideal) M.c M.arg7 M.harg7 D.x5) (kernelRun0_B.sl.v24 (F := Ideal) M.c M.arg7 M.harg7 D.x5) (kernelRun0_B.sl.v26 (F := Ideal) M.c M.arg4 M.harg4 D.x2) (kernelRun0_B.sl.r (F := Ideal) M.c M.arg5 M.harg5 D.x3) (kernelRun0_B.sl.v36 (F := Ideal) M.c M.arg4 M.harg4 D.x2) (View.readAt (Elt Ideal) M.arg13.view (Rect.unit (s := S1024x2048) ![0, 512] S1024x512.size inb_S1024x2048_S1024x512_0_512).toLoadRect (M.harg13.unread D.xs0))) = (shapeCast S512x128 (extractStridedSlice S512x128 ![0, 0] (sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) slices_S512x512_o0_0_S512x128) shapeCasts_S512x128_S512x128) := rfl
  rw [e]
  generalize hg : sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0)) = g
  pointwise
  rw [← hg]
  exact kB_lo M D H r ⟨d.val, by omega⟩

theorem kB_g2 (H : InB a b T D) (r : Fin 512) (d : Fin 128) : (k0_pay22 (F := Ideal) (kernelRun0_B.sl.v20 (F := Ideal) M.c M.arg7 M.harg7 D.x5) (kernelRun0_B.sl.v24 (F := Ideal) M.c M.arg7 M.harg7 D.x5) (kernelRun0_B.sl.v26 (F := Ideal) M.c M.arg4 M.harg4 D.x2) (kernelRun0_B.sl.r (F := Ideal) M.c M.arg5 M.harg5 D.x3) (kernelRun0_B.sl.v36 (F := Ideal) M.c M.arg4 M.harg4 D.x2) (View.readAt (Elt Ideal) M.arg13.view (Rect.unit (s := S1024x2048) ![0, 512] S1024x512.size inb_S1024x2048_S1024x512_0_512).toLoadRect (M.harg13.unread D.xs0))) (ix2 r d) = ((a.G b 1 (8 * T + r.val / 64) (tm r) d * bits : ℝ) : EReal) :=
by
  have e : (k0_pay22 (F := Ideal) (kernelRun0_B.sl.v20 (F := Ideal) M.c M.arg7 M.harg7 D.x5) (kernelRun0_B.sl.v24 (F := Ideal) M.c M.arg7 M.harg7 D.x5) (kernelRun0_B.sl.v26 (F := Ideal) M.c M.arg4 M.harg4 D.x2) (kernelRun0_B.sl.r (F := Ideal) M.c M.arg5 M.harg5 D.x3) (kernelRun0_B.sl.v36 (F := Ideal) M.c M.arg4 M.harg4 D.x2) (View.readAt (Elt Ideal) M.arg13.view (Rect.unit (s := S1024x2048) ![0, 512] S1024x512.size inb_S1024x2048_S1024x512_0_512).toLoadRect (M.harg13.unread D.xs0))) = (shapeCast S512x128 (extractStridedSlice S512x128 ![0, 128] (sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) slices_S512x512_o0_128_S512x128) shapeCasts_S512x128_S512x128) := rfl
  rw [e]
  generalize hg : sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0)) = g
  pointwise
  rw [← hg]
  refine (kB_hi M D H r ⟨128 + d.val, by omega⟩).trans ?_
  have e1 : hd ⟨128 + d.val, by omega⟩ = 1 := Fin.ext (by show (128 + d.val) / 128 = 1; omega)
  have e2 : dm ⟨128 + d.val, by omega⟩ = d := Fin.ext (by show (128 + d.val) % 128 = d.val; omega)
  rw [e1, e2]

theorem kB_g3 (H : InB a b T D) (r : Fin 512) (d : Fin 128) : (k0_pay23 (F := Ideal) (kernelRun0_B.sl.v20 (F := Ideal) M.c M.arg7 M.harg7 D.x5) (kernelRun0_B.sl.v24 (F := Ideal) M.c M.arg7 M.harg7 D.x5) (kernelRun0_B.sl.v26 (F := Ideal) M.c M.arg4 M.harg4 D.x2) (kernelRun0_B.sl.r (F := Ideal) M.c M.arg5 M.harg5 D.x3) (kernelRun0_B.sl.v36 (F := Ideal) M.c M.arg4 M.harg4 D.x2) (View.readAt (Elt Ideal) M.arg13.view (Rect.unit (s := S1024x2048) ![0, 512] S1024x512.size inb_S1024x2048_S1024x512_0_512).toLoadRect (M.harg13.unread D.xs0))) (ix2 r d) = 0 :=
by
  have e : (k0_pay23 (F := Ideal) (kernelRun0_B.sl.v20 (F := Ideal) M.c M.arg7 M.harg7 D.x5) (kernelRun0_B.sl.v24 (F := Ideal) M.c M.arg7 M.harg7 D.x5) (kernelRun0_B.sl.v26 (F := Ideal) M.c M.arg4 M.harg4 D.x2) (kernelRun0_B.sl.r (F := Ideal) M.c M.arg5 M.harg5 D.x3) (kernelRun0_B.sl.v36 (F := Ideal) M.c M.arg4 M.harg4 D.x2) (View.readAt (Elt Ideal) M.arg13.view (Rect.unit (s := S1024x2048) ![0, 512] S1024x512.size inb_S1024x2048_S1024x512_0_512).toLoadRect (M.harg13.unread D.xs0))) = (shapeCast S512x128 (extractStridedSlice S512x128 ![0, 128] (sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) slices_S512x512_o0_128_S512x128) shapeCasts_S512x128_S512x128) := rfl
  rw [e]
  generalize hg : sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0)) = g
  pointwise
  rw [← hg]
  exact kB_lo M D H r ⟨128 + d.val, by omega⟩

theorem kB_g4 (H : InB a b T D) (r : Fin 512) (d : Fin 128) : (kernelRun0_B.sl.v81 (F := Ideal) M.c M.arg4 M.harg4 M.arg5 M.harg5 M.arg7 M.harg7 M.arg13 M.harg13 D.x2 D.x3 D.x5 D.xs0) (ix2 r d) = ((a.G b 2 (8 * T + r.val / 64) (tm r) d * bits : ℝ) : EReal) :=
by
  have e : (kernelRun0_B.sl.v81 (F := Ideal) M.c M.arg4 M.harg4 M.arg5 M.harg5 M.arg7 M.harg7 M.arg13 M.harg13 D.x2 D.x3 D.x5 D.xs0) = (shapeCast S512x128 (extractStridedSlice S512x128 ![0, 256] (sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) slices_S512x512_o0_256_S512x128) shapeCasts_S512x128_S512x128) := rfl
  rw [e]
  generalize hg : sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0)) = g
  pointwise
  rw [← hg]
  refine (kB_hi M D H r ⟨256 + d.val, by omega⟩).trans ?_
  have e1 : hd ⟨256 + d.val, by omega⟩ = 2 := Fin.ext (by show (256 + d.val) / 128 = 2; omega)
  have e2 : dm ⟨256 + d.val, by omega⟩ = d := Fin.ext (by show (256 + d.val) % 128 = d.val; omega)
  rw [e1, e2]

theorem kB_g5 (H : InB a b T D) (r : Fin 512) (d : Fin 128) : (kernelRun0_B.sl.v85 (F := Ideal) M.c M.arg4 M.harg4 M.arg5 M.harg5 M.arg7 M.harg7 M.arg13 M.harg13 D.x2 D.x3 D.x5 D.xs0) (ix2 r d) = 0 :=
by
  have e : (kernelRun0_B.sl.v85 (F := Ideal) M.c M.arg4 M.harg4 M.arg5 M.harg5 M.arg7 M.harg7 M.arg13 M.harg13 D.x2 D.x3 D.x5 D.xs0) = (shapeCast S512x128 (extractStridedSlice S512x128 ![0, 256] (sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) slices_S512x512_o0_256_S512x128) shapeCasts_S512x128_S512x128) := rfl
  rw [e]
  generalize hg : sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0)) = g
  pointwise
  rw [← hg]
  exact kB_lo M D H r ⟨256 + d.val, by omega⟩

theorem kB_g6 (H : InB a b T D) (r : Fin 512) (d : Fin 128) : (kernelRun0_B.sl.v89 (F := Ideal) M.c M.arg4 M.harg4 M.arg5 M.harg5 M.arg7 M.harg7 M.arg13 M.harg13 D.x2 D.x3 D.x5 D.xs0) (ix2 r d) = ((a.G b 3 (8 * T + r.val / 64) (tm r) d * bits : ℝ) : EReal) :=
by
  have e : (kernelRun0_B.sl.v89 (F := Ideal) M.c M.arg4 M.harg4 M.arg5 M.harg5 M.arg7 M.harg7 M.arg13 M.harg13 D.x2 D.x3 D.x5 D.xs0) = (shapeCast S512x128 (extractStridedSlice S512x128 ![0, 384] (sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) slices_S512x512_o0_384_S512x128) shapeCasts_S512x128_S512x128) := rfl
  rw [e]
  generalize hg : sHi (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0)) = g
  pointwise
  rw [← hg]
  refine (kB_hi M D H r ⟨384 + d.val, by omega⟩).trans ?_
  have e1 : hd ⟨384 + d.val, by omega⟩ = 3 := Fin.ext (by show (384 + d.val) / 128 = 3; omega)
  have e2 : dm ⟨384 + d.val, by omega⟩ = d := Fin.ext (by show (384 + d.val) % 128 = d.val; omega)
  rw [e1, e2]

theorem kB_g7 (H : InB a b T D) (r : Fin 512) (d : Fin 128) : (kernelRun0_B.sl.v93 (F := Ideal) M.c M.arg4 M.harg4 M.arg5 M.harg5 M.arg7 M.harg7 M.arg13 M.harg13 D.x2 D.x3 D.x5 D.xs0) (ix2 r d) = 0 :=
by
  have e : (kernelRun0_B.sl.v93 (F := Ideal) M.c M.arg4 M.harg4 M.arg5 M.harg5 M.arg7 M.harg7 M.arg13 M.harg13 D.x2 D.x3 D.x5 D.xs0) = (shapeCast S512x128 (extractStridedSlice S512x128 ![0, 384] (sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0))) slices_S512x512_o0_384_S512x128) shapeCasts_S512x128_S512x128) := rfl
  rw [e]
  generalize hg : sLo (View.readAt (Elt Ideal) M.arg7.view (Rect.unit (s := S2x512) ![0, 0] S2x512.size inb_S2x512_S2x512_0_0).toLoadRect (M.harg7.unread D.x5)) (kernelRun0_B.sl.v26 (F := Ideal) M.c M.arg4 M.harg4 D.x2) (kernelRun0_B.sl.r (F := Ideal) M.c M.arg5 M.harg5 D.x3) (View.readAt (Elt Ideal) M.arg13.view (Rect.unit (s := S1024x2048) ![0, 512] S1024x512.size inb_S1024x2048_S1024x512_0_512).toLoadRect (M.harg13.unread D.xs0)) = g
  pointwise
  rw [← hg]
  exact kB_lo M D H r ⟨384 + d.val, by omega⟩

/-- The gates' logarithms. -/
theorem kB_cg (H : InB a b T D) : View.canon (kernelRun0_B.sl.HS4_8 (F := Ideal) M.c M.arg4 M.harg4 M.arg5 M.harg5 M.arg7 M.harg7 M.arg13 M.harg13 D.x2 D.x3 D.x5 D.xs0) = gates a b T :=
by
  refine canon_is _ _ ?_ (View.cover_of_tiledL (s := S512x1024) _ S512x128.size (by sl_kernel_rfl))
  unfold kernelRun0_B.sl.HS4_8
  exact ⟨gates_odd a b T 3 (o := 896) rfl inb_S512x1024_S512x128_0_896 _ (kB_g7 M D H), gates_even a b T 3 (o := 768) rfl inb_S512x1024_S512x128_0_768 _ (kB_g6 M D H), gates_odd a b T 2 (o := 640) rfl inb_S512x1024_S512x128_0_640 _ (kB_g5 M D H), gates_even a b T 2 (o := 512) rfl inb_S512x1024_S512x128_0_512 _ (kB_g4 M D H), gates_odd a b T 1 (o := 384) rfl inb_S512x1024_S512x128_0_384 _ (kB_g3 M D H), gates_even a b T 1 (o := 256) rfl inb_S512x1024_S512x128_0_256 _ (kB_g2 M D H), gates_odd a b T 0 (o := 128) rfl inb_S512x1024_S512x128_0_128 _ (kB_g1 M D H), gates_even a b T 0 (o := 0) rfl inb_S512x1024_S512x128_0_0 _ (kB_g0 M D H), trivial⟩

theorem kB_coef (H : InB a b T D) : IsCoef (kernelRun0_B.sl.r_6 (F := Ideal) M.c M.arg2 M.harg2 D.x0) :=
by
  have e : (kernelRun0_B.sl.r_6 (F := Ideal) M.c M.arg2 M.harg2 D.x0) = D.x0 := funext fun y => by
    obtain ⟨i, j, rfl⟩ : ∃ i j, y = ix2 i j := ⟨_, _, eq_ix2 y⟩
    exact load2 M.harg2 D.x0 inb_S128x128_S128x128_0_0 i j i j (by omega) (by omega)
  rw [e]
  exact H.tile.coef

theorem kB_lev (H : InB a b T D) (t s : Fin 64) : (kernelRun0_B.sl.r_8 (F := Ideal) M.c M.arg3 M.harg3 D.x1) (ix2 t s) = BitVec.ofNat 32 (level t s) :=
(load2 M.harg3 D.x1 inb_S64x64_S64x64_0_0 t s t s (by omega) (by omega)).trans (H.tile.lev t s)

end Cert.Hgrn
end
-- ==== Proof.UnitsB.lean ====
/- The chunks of a tile, head by head. -/
module

public import proofs.«01_k».proof.Proof.BaseB

@[expose] public section

set_option maxRecDepth 16384

noncomputable section

namespace Cert.Hgrn

open Idealize.ShloMosaic Idealize.SL.Sem Cert.KernelIdeal Cert.KernelIdeal.Gen

variable {a : Args} {b : Fin 2} {T : ℕ} (M : Mem) (D : Data)

/-- A chunk's own part, stored. -/
theorem kB_pI (H : InB a b T D) (h : Fin 4) (ci : ℕ) (hci : ci < 8) {o0 o1 o2 : ℕ} (e0 : o0 = 64 * ci) (e1 : o1 = 128 * h.val) (e2 : o2 = 256 * h.val) (inb : ∀ a, (![o0, o1] : Fin 2 → ℕ) a + S64x128.size a ≤ S512x512.size a) (inbg : ∀ a, (![o0, o2] : Fin 2 → ℕ) a + S64x256.size a ≤ S512x1024.size a) (P : FVec Ideal S64x128 .f32)
    (hP : P = uIntra (F := Ideal) (kernelRun0_B.sl.r_8 (F := Ideal) M.c M.arg3 M.harg3 D.x1) (M.arg16.view.readCov (kernelRun0_B.sl.HS3_1 (F := Ideal) M.c M.arg4 M.harg4 M.arg5 M.harg5 M.arg13 M.harg13 D.x2 D.x3 D.xs0) (Rect.unit (s := S512x512) ![o0, o1] S64x128.size inb).toLoadRect) (M.arg18.view.readCov (kernelRun0_B.sl.HS5_1 (F := Ideal) M.c M.arg4 M.harg4 M.arg5 M.harg5 M.arg7 M.harg7 M.arg13 M.harg13 D.x2 D.x3 D.x5 D.xs0) (Rect.unit (s := S512x512) ![o0, o1] S64x128.size inb).toLoadRect) (M.arg19.view.readCov (kernelRun0_B.sl.HS6_1 (F := Ideal) M.c M.arg4 M.harg4 M.arg5 M.harg5 M.arg13 M.harg13 D.x2 D.x3 D.xs0) (Rect.unit (s := S512x512) ![o0, o1] S64x128.size inb).toLoadRect) (uSums (F := Ideal) (kernelRun0_B.sl.r_6 (F := Ideal) M.c M.arg2 M.harg2 D.x0) (M.arg17.view.readCov (kernelRun0_B.sl.HS4_8 (F := Ideal) M.c M.arg4 M.harg4 M.arg5 M.harg5 M.arg7 M.harg7 M.arg13 M.harg13 D.x2 D.x3 D.x5 D.xs0) (Rect.unit (s := S512x1024) ![o0, o2] S64x256.size inbg).toLoadRect))) (x : S64x128.Idx) : P x = tile2 (fun h c t j => intra (a.Q b h (8 * T + c)) (a.K b h (8 * T + c)) (a.V b h (8 * T + c)) (a.G b h (8 * T + c)) t j) ((Rect.unit (s := S512x512) ![o0, o1] S64x128.size inb).emb x) :=
  tile2_piece _ h ci hci e0 e1 inb _ (unit_intra _ _ _ _ _ _ a b h (8 * T + ci) (kB_coef M D H) (kB_lev M D H) (rd_gates M.arg17.view _ a b T (kB_cg M D H) h ci hci e0 e2 inbg) (fun t d => rd2 M.arg16.view _ _ (kB_cq M D H) h ci hci e0 e1 inb t d) (fun t d => rd2 M.arg18.view _ _ (kB_ck M D H) h ci hci e0 e1 inb t d) (fun t d => rd2 M.arg19.view _ _ (kB_cv M D H) h ci hci e0 e1 inb t d) P hP) x

/-- A chunk's queries, decayed, stored. -/
theorem kB_pQ (H : InB a b T D) (h : Fin 4) (ci : ℕ) (hci : ci < 8) {o0 o1 o2 : ℕ} (e0 : o0 = 64 * ci) (e1 : o1 = 128 * h.val) (e2 : o2 = 256 * h.val) (inb : ∀ a, (![o0, o1] : Fin 2 → ℕ) a + S64x128.size a ≤ S512x512.size a) (inbg : ∀ a, (![o0, o2] : Fin 2 → ℕ) a + S64x256.size a ≤ S512x1024.size a) (P : FVec Ideal S64x128 .bf16)
    (hP : P = uQuery (F := Ideal) (M.arg16.view.readCov (kernelRun0_B.sl.HS3_1 (F := Ideal) M.c M.arg4 M.harg4 M.arg5 M.harg5 M.arg13 M.harg13 D.x2 D.x3 D.xs0) (Rect.unit (s := S512x512) ![o0, o1] S64x128.size inb).toLoadRect) (uSums (F := Ideal) (kernelRun0_B.sl.r_6 (F := Ideal) M.c M.arg2 M.harg2 D.x0) (M.arg17.view.readCov (kernelRun0_B.sl.HS4_8 (F := Ideal) M.c M.arg4 M.harg4 M.arg5 M.harg5 M.arg7 M.harg7 M.arg13 M.harg13 D.x2 D.x3 D.x5 D.xs0) (Rect.unit (s := S512x1024) ![o0, o2] S64x256.size inbg).toLoadRect))) (x : S64x128.Idx) : P x = tile2 (fun h c t d => a.Q b h (8 * T + c) t d * ((Real.exp (cum (fun r => a.G b h (8 * T + c) r d) t) : ℝ) : EReal)) ((Rect.unit (s := S512x512) ![o0, o1] S64x128.size inb).emb x) :=
  tile2_piece _ h ci hci e0 e1 inb _ (unit_query _ _ _ a b h (8 * T + ci) (kB_coef M D H) (rd_gates M.arg17.view _ a b T (kB_cg M D H) h ci hci e0 e2 inbg) (fun t d => rd2 M.arg16.view _ _ (kB_cq M D H) h ci hci e0 e1 inb t d) P hP) x

/-- What a chunk adds to the state, stored. -/
theorem kB_pG (H : InB a b T D) (h : Fin 4) (ci : ℕ) (hci : ci < 8) {o0 o1 o2 o4 : ℕ} (e0 : o0 = 64 * ci) (e1 : o1 = 128 * h.val) (e2 : o2 = 256 * h.val) (e4 : o4 = h.val) (inb : ∀ a, (![o0, o1] : Fin 2 → ℕ) a + S64x128.size a ≤ S512x512.size a) (inbg : ∀ a, (![o0, o2] : Fin 2 → ℕ) a + S64x256.size a ≤ S512x1024.size a)
    (inb4 : ∀ a, (![o4, ci, 0, 0] : Fin 4 → ℕ) a + (![1, 1, 128, 128] : Fin 4 → ℕ) a ≤ S4x8x128x128.size a) (P : FVec Ideal S1x1x128x128 .f32)
    (hP : P = uGain (F := Ideal) (M.arg18.view.readCov (kernelRun0_B.sl.HS5_1 (F := Ideal) M.c M.arg4 M.harg4 M.arg5 M.harg5 M.arg7 M.harg7 M.arg13 M.harg13 D.x2 D.x3 D.x5 D.xs0) (Rect.unit (s := S512x512) ![o0, o1] S64x128.size inb).toLoadRect) (M.arg19.view.readCov (kernelRun0_B.sl.HS6_1 (F := Ideal) M.c M.arg4 M.harg4 M.arg5 M.harg5 M.arg13 M.harg13 D.x2 D.x3 D.xs0) (Rect.unit (s := S512x512) ![o0, o1] S64x128.size inb).toLoadRect) (uSums (F := Ideal) (kernelRun0_B.sl.r_6 (F := Ideal) M.c M.arg2 M.harg2 D.x0) (M.arg17.view.readCov (kernelRun0_B.sl.HS4_8 (F := Ideal) M.c M.arg4 M.harg4 M.arg5 M.harg5 M.arg7 M.harg7 M.arg13 M.harg13 D.x2 D.x3 D.x5 D.xs0) (Rect.unit (s := S512x1024) ![o0, o2] S64x256.size inbg).toLoadRect))) (x : S1x1x128x128.Idx) : P x = tile4 (n1 := 8) (fun h c j i => gain (a.K b h (8 * T + c)) (a.V b h (8 * T + c)) (a.G b h (8 * T + c)) i j) ((Rect.unit (s := S4x8x128x128) ![o4, ci, 0, 0] S1x1x128x128.size inb4).emb x) :=
  tile4_piece _ h ci e4 inb4 _ (unit_gain _ _ _ _ a b h (8 * T + ci) (kB_coef M D H) (rd_gates M.arg17.view _ a b T (kB_cg M D H) h ci hci e0 e2 inbg) (fun t d => rd2 M.arg18.view _ _ (kB_ck M D H) h ci hci e0 e1 inb t d) (fun t d => rd2 M.arg19.view _ _ (kB_cv M D H) h ci hci e0 e1 inb t d) P hP) x

/-- How a chunk decays the state, stored. -/
theorem kB_pK (H : InB a b T D) (h : Fin 4) (ci : ℕ) (hci : ci < 8) {o0 o2 o4 : ℕ} (e0 : o0 = 64 * ci) (e2 : o2 = 256 * h.val) (e4 : o4 = h.val) (inbg : ∀ a, (![o0, o2] : Fin 2 → ℕ) a + S64x256.size a ≤ S512x1024.size a)
    (inb4 : ∀ a, (![o4, ci, 0, 0] : Fin 4 → ℕ) a + (![1, 1, 8, 128] : Fin 4 → ℕ) a ≤ S4x8x8x128.size a) (P : FVec Ideal S1x1x8x128 .f32)
    (hP : P = uKeep (F := Ideal) (uSums (F := Ideal) (kernelRun0_B.sl.r_6 (F := Ideal) M.c M.arg2 M.harg2 D.x0) (M.arg17.view.readCov (kernelRun0_B.sl.HS4_8 (F := Ideal) M.c M.arg4 M.harg4 M.arg5 M.harg5 M.arg7 M.harg7 M.arg13 M.harg13 D.x2 D.x3 D.x5 D.xs0) (Rect.unit (s := S512x1024) ![o0, o2] S64x256.size inbg).toLoadRect))) (x : S1x1x8x128.Idx) : P x = tile4 (n1 := 8) (fun h c r d => keep (a.G b h (8 * T + c)) d) ((Rect.unit (s := S4x8x8x128) ![o4, ci, 0, 0] S1x1x8x128.size inb4).emb x) :=
  tile4_piece _ h ci e4 inb4 _ (unit_keep _ _ a b h (8 * T + ci) (kB_coef M D H) (rd_gates M.arg17.view _ a b T (kB_cg M D H) h ci hci e0 e2 inbg) P hP) x

theorem kB_cQ (H : InB a b T D) : View.canon (kernelRun0_B.sl.HS8_32 (F := Ideal) M.c M.arg2 M.harg2 M.arg4 M.harg4 M.arg5 M.harg5 M.arg7 M.harg7 M.arg13 M.harg13 M.arg16 M.arg17 D.x0 D.x2 D.x3 D.x5 D.xs0) = tile2 (fun h c t d => a.Q b h (8 * T + c) t d * ((Real.exp (cum (fun r => a.G b h (8 * T + c) r d) t) : ℝ) : EReal)) := by
  refine canon_is _ _ ?_ (View.cover_of_tiledL (s := S512x512) _ S64x128.size (by sl_kernel_rfl))
  unfold kernelRun0_B.sl.HS8_32
  exact ⟨kB_pQ M D H 3 7 (by norm_num) rfl rfl rfl inb_S512x512_S64x128_448_384 inb_S512x1024_S64x256_448_768 _ rfl,
    kB_pQ M D H 3 6 (by norm_num) rfl rfl rfl inb_S512x512_S64x128_384_384 inb_S512x1024_S64x256_384_768 _ rfl,
    kB_pQ M D H 3 5 (by norm_num) rfl rfl rfl inb_S512x512_S64x128_320_384 inb_S512x1024_S64x256_320_768 _ rfl,
    kB_pQ M D H 3 4 (by norm_num) rfl rfl rfl inb_S512x512_S64x128_256_384 inb_S512x1024_S64x256_256_768 _ rfl,
    kB_pQ M D H 3 3 (by norm_num) rfl rfl rfl inb_S512x512_S64x128_192_384 inb_S512x1024_S64x256_192_768 _ rfl,
    kB_pQ M D H 3 2 (by norm_num) rfl rfl rfl inb_S512x512_S64x128_128_384 inb_S512x1024_S64x256_128_768 _ rfl,
    kB_pQ M D H 3 1 (by norm_num) rfl rfl rfl inb_S512x512_S64x128_64_384 inb_S512x1024_S64x256_64_768 _ rfl,
    kB_pQ M D H 3 0 (by norm_num) rfl rfl rfl inb_S512x512_S64x128_0_384 inb_S512x1024_S64x256_0_768 _ rfl,
    kB_pQ M D H 2 7 (by norm_num) rfl rfl rfl inb_S512x512_S64x128_448_256 inb_S512x1024_S64x256_448_512 _ rfl,
    kB_pQ M D H 2 6 (by norm_num) rfl rfl rfl inb_S512x512_S64x128_384_256 inb_S512x1024_S64x256_384_512 _ rfl,
    kB_pQ M D H 2 5 (by norm_num) rfl rfl rfl inb_S512x512_S64x128_320_256 inb_S512x1024_S64x256_320_512 _ rfl,
    kB_pQ M D H 2 4 (by norm_num) rfl rfl rfl inb_S512x512_S64x128_256_256 inb_S512x1024_S64x256_256_512 _ rfl,
    kB_pQ M D H 2 3 (by norm_num) rfl rfl rfl inb_S512x512_S64x128_192_256 inb_S512x1024_S64x256_192_512 _ rfl,
    kB_pQ M D H 2 2 (by norm_num) rfl rfl rfl inb_S512x512_S64x128_128_256 inb_S512x1024_S64x256_128_512 _ rfl,
    kB_pQ M D H 2 1 (by norm_num) rfl rfl rfl inb_S512x512_S64x128_64_256 inb_S512x1024_S64x256_64_512 _ rfl,
    kB_pQ M D H 2 0 (by norm_num) rfl rfl rfl inb_S512x512_S64x128_0_256 inb_S512x1024_S64x256_0_512 _ rfl,
    kB_pQ M D H 1 7 (by norm_num) rfl rfl rfl inb_S512x512_S64x128_448_128 inb_S512x1024_S64x256_448_256 _ rfl,
    kB_pQ M D H 1 6 (by norm_num) rfl rfl rfl inb_S512x512_S64x128_384_128 inb_S512x1024_S64x256_384_256 _ rfl,
    kB_pQ M D H 1 5 (by norm_num) rfl rfl rfl inb_S512x512_S64x128_320_128 inb_S512x1024_S64x256_320_256 _ rfl,
    kB_pQ M D H 1 4 (by norm_num) rfl rfl rfl inb_S512x512_S64x128_256_128 inb_S512x1024_S64x256_256_256 _ rfl,
    kB_pQ M D H 1 3 (by norm_num) rfl rfl rfl inb_S512x512_S64x128_192_128 inb_S512x1024_S64x256_192_256 _ rfl,
    kB_pQ M D H 1 2 (by norm_num) rfl rfl rfl inb_S512x512_S64x128_128_128 inb_S512x1024_S64x256_128_256 _ rfl,
    kB_pQ M D H 1 1 (by norm_num) rfl rfl rfl inb_S512x512_S64x128_64_128 inb_S512x1024_S64x256_64_256 _ rfl,
    kB_pQ M D H 1 0 (by norm_num) rfl rfl rfl inb_S512x512_S64x128_0_128 inb_S512x1024_S64x256_0_256 _ rfl,
    kB_pQ M D H 0 7 (by norm_num) rfl rfl rfl inb_S512x512_S64x128_448_0 inb_S512x1024_S64x256_448_0 _ rfl,
    kB_pQ M D H 0 6 (by norm_num) rfl rfl rfl inb_S512x512_S64x128_384_0 inb_S512x1024_S64x256_384_0 _ rfl,
    kB_pQ M D H 0 5 (by norm_num) rfl rfl rfl inb_S512x512_S64x128_320_0 inb_S512x1024_S64x256_320_0 _ rfl,
    kB_pQ M D H 0 4 (by norm_num) rfl rfl rfl inb_S512x512_S64x128_256_0 inb_S512x1024_S64x256_256_0 _ rfl,
    kB_pQ M D H 0 3 (by norm_num) rfl rfl rfl inb_S512x512_S64x128_192_0 inb_S512x1024_S64x256_192_0 _ rfl,
    kB_pQ M D H 0 2 (by norm_num) rfl rfl rfl inb_S512x512_S64x128_128_0 inb_S512x1024_S64x256_128_0 _ rfl,
    kB_pQ M D H 0 1 (by norm_num) rfl rfl rfl inb_S512x512_S64x128_64_0 inb_S512x1024_S64x256_64_0 _ rfl,
    kB_pQ M D H 0 0 (by norm_num) rfl rfl rfl inb_S512x512_S64x128_0_0 inb_S512x1024_S64x256_0_0 _ rfl,
    trivial⟩

theorem kB_cI (H : InB a b T D) : View.canon (kernelRun0_B.sl.HS9_32 (F := Ideal) M.c M.arg2 M.harg2 M.arg3 M.harg3 M.arg4 M.harg4 M.arg5 M.harg5 M.arg7 M.harg7 M.arg13 M.harg13 M.arg16 M.arg17 M.arg18 M.arg19 D.x0 D.x1 D.x2 D.x3 D.x5 D.xs0) = tile2 (fun h c t j => intra (a.Q b h (8 * T + c)) (a.K b h (8 * T + c)) (a.V b h (8 * T + c)) (a.G b h (8 * T + c)) t j) := by
  refine canon_is _ _ ?_ (View.cover_of_tiledL (s := S512x512) _ S64x128.size (by sl_kernel_rfl))
  unfold kernelRun0_B.sl.HS9_32
  exact ⟨kB_pI M D H 3 7 (by norm_num) rfl rfl rfl inb_S512x512_S64x128_448_384 inb_S512x1024_S64x256_448_768 _ rfl,
    kB_pI M D H 3 6 (by norm_num) rfl rfl rfl inb_S512x512_S64x128_384_384 inb_S512x1024_S64x256_384_768 _ rfl,
    kB_pI M D H 3 5 (by norm_num) rfl rfl rfl inb_S512x512_S64x128_320_384 inb_S512x1024_S64x256_320_768 _ rfl,
    kB_pI M D H 3 4 (by norm_num) rfl rfl rfl inb_S512x512_S64x128_256_384 inb_S512x1024_S64x256_256_768 _ rfl,
    kB_pI M D H 3 3 (by norm_num) rfl rfl rfl inb_S512x512_S64x128_192_384 inb_S512x1024_S64x256_192_768 _ rfl,
    kB_pI M D H 3 2 (by norm_num) rfl rfl rfl inb_S512x512_S64x128_128_384 inb_S512x1024_S64x256_128_768 _ rfl,
    kB_pI M D H 3 1 (by norm_num) rfl rfl rfl inb_S512x512_S64x128_64_384 inb_S512x1024_S64x256_64_768 _ rfl,
    kB_pI M D H 3 0 (by norm_num) rfl rfl rfl inb_S512x512_S64x128_0_384 inb_S512x1024_S64x256_0_768 _ rfl,
    kB_pI M D H 2 7 (by norm_num) rfl rfl rfl inb_S512x512_S64x128_448_256 inb_S512x1024_S64x256_448_512 _ rfl,
    kB_pI M D H 2 6 (by norm_num) rfl rfl rfl inb_S512x512_S64x128_384_256 inb_S512x1024_S64x256_384_512 _ rfl,
    kB_pI M D H 2 5 (by norm_num) rfl rfl rfl inb_S512x512_S64x128_320_256 inb_S512x1024_S64x256_320_512 _ rfl,
    kB_pI M D H 2 4 (by norm_num) rfl rfl rfl inb_S512x512_S64x128_256_256 inb_S512x1024_S64x256_256_512 _ rfl,
    kB_pI M D H 2 3 (by norm_num) rfl rfl rfl inb_S512x512_S64x128_192_256 inb_S512x1024_S64x256_192_512 _ rfl,
    kB_pI M D H 2 2 (by norm_num) rfl rfl rfl inb_S512x512_S64x128_128_256 inb_S512x1024_S64x256_128_512 _ rfl,
    kB_pI M D H 2 1 (by norm_num) rfl rfl rfl inb_S512x512_S64x128_64_256 inb_S512x1024_S64x256_64_512 _ rfl,
    kB_pI M D H 2 0 (by norm_num) rfl rfl rfl inb_S512x512_S64x128_0_256 inb_S512x1024_S64x256_0_512 _ rfl,
    kB_pI M D H 1 7 (by norm_num) rfl rfl rfl inb_S512x512_S64x128_448_128 inb_S512x1024_S64x256_448_256 _ rfl,
    kB_pI M D H 1 6 (by norm_num) rfl rfl rfl inb_S512x512_S64x128_384_128 inb_S512x1024_S64x256_384_256 _ rfl,
    kB_pI M D H 1 5 (by norm_num) rfl rfl rfl inb_S512x512_S64x128_320_128 inb_S512x1024_S64x256_320_256 _ rfl,
    kB_pI M D H 1 4 (by norm_num) rfl rfl rfl inb_S512x512_S64x128_256_128 inb_S512x1024_S64x256_256_256 _ rfl,
    kB_pI M D H 1 3 (by norm_num) rfl rfl rfl inb_S512x512_S64x128_192_128 inb_S512x1024_S64x256_192_256 _ rfl,
    kB_pI M D H 1 2 (by norm_num) rfl rfl rfl inb_S512x512_S64x128_128_128 inb_S512x1024_S64x256_128_256 _ rfl,
    kB_pI M D H 1 1 (by norm_num) rfl rfl rfl inb_S512x512_S64x128_64_128 inb_S512x1024_S64x256_64_256 _ rfl,
    kB_pI M D H 1 0 (by norm_num) rfl rfl rfl inb_S512x512_S64x128_0_128 inb_S512x1024_S64x256_0_256 _ rfl,
    kB_pI M D H 0 7 (by norm_num) rfl rfl rfl inb_S512x512_S64x128_448_0 inb_S512x1024_S64x256_448_0 _ rfl,
    kB_pI M D H 0 6 (by norm_num) rfl rfl rfl inb_S512x512_S64x128_384_0 inb_S512x1024_S64x256_384_0 _ rfl,
    kB_pI M D H 0 5 (by norm_num) rfl rfl rfl inb_S512x512_S64x128_320_0 inb_S512x1024_S64x256_320_0 _ rfl,
    kB_pI M D H 0 4 (by norm_num) rfl rfl rfl inb_S512x512_S64x128_256_0 inb_S512x1024_S64x256_256_0 _ rfl,
    kB_pI M D H 0 3 (by norm_num) rfl rfl rfl inb_S512x512_S64x128_192_0 inb_S512x1024_S64x256_192_0 _ rfl,
    kB_pI M D H 0 2 (by norm_num) rfl rfl rfl inb_S512x512_S64x128_128_0 inb_S512x1024_S64x256_128_0 _ rfl,
    kB_pI M D H 0 1 (by norm_num) rfl rfl rfl inb_S512x512_S64x128_64_0 inb_S512x1024_S64x256_64_0 _ rfl,
    kB_pI M D H 0 0 (by norm_num) rfl rfl rfl inb_S512x512_S64x128_0_0 inb_S512x1024_S64x256_0_0 _ rfl,
    trivial⟩

theorem kB_cG (H : InB a b T D) : View.canon (kernelRun0_B.sl.HS10_32 (F := Ideal) M.c M.arg2 M.harg2 M.arg4 M.harg4 M.arg5 M.harg5 M.arg7 M.harg7 M.arg13 M.harg13 M.arg17 M.arg18 M.arg19 D.x0 D.x2 D.x3 D.x5 D.xs0) = tile4 (n1 := 8) (fun h c j i => gain (a.K b h (8 * T + c)) (a.V b h (8 * T + c)) (a.G b h (8 * T + c)) i j) := by
  refine canon_is _ _ ?_ (View.cover_of_tiledL (s := S4x8x128x128) _ S1x1x128x128.size (by sl_kernel_rfl))
  unfold kernelRun0_B.sl.HS10_32
  exact ⟨kB_pG M D H 3 7 (by norm_num) rfl rfl rfl rfl inb_S512x512_S64x128_448_384 inb_S512x1024_S64x256_448_768 inb_S4x8x128x128_S1x1x128x128_3_7_0_0 _ rfl,
    kB_pG M D H 3 6 (by norm_num) rfl rfl rfl rfl inb_S512x512_S64x128_384_384 inb_S512x1024_S64x256_384_768 inb_S4x8x128x128_S1x1x128x128_3_6_0_0 _ rfl,
    kB_pG M D H 3 5 (by norm_num) rfl rfl rfl rfl inb_S512x512_S64x128_320_384 inb_S512x1024_S64x256_320_768 inb_S4x8x128x128_S1x1x128x128_3_5_0_0 _ rfl,
    kB_pG M D H 3 4 (by norm_num) rfl rfl rfl rfl inb_S512x512_S64x128_256_384 inb_S512x1024_S64x256_256_768 inb_S4x8x128x128_S1x1x128x128_3_4_0_0 _ rfl,
    kB_pG M D H 3 3 (by norm_num) rfl rfl rfl rfl inb_S512x512_S64x128_192_384 inb_S512x1024_S64x256_192_768 inb_S4x8x128x128_S1x1x128x128_3_3_0_0 _ rfl,
    kB_pG M D H 3 2 (by norm_num) rfl rfl rfl rfl inb_S512x512_S64x128_128_384 inb_S512x1024_S64x256_128_768 inb_S4x8x128x128_S1x1x128x128_3_2_0_0 _ rfl,
    kB_pG M D H 3 1 (by norm_num) rfl rfl rfl rfl inb_S512x512_S64x128_64_384 inb_S512x1024_S64x256_64_768 inb_S4x8x128x128_S1x1x128x128_3_1_0_0 _ rfl,
    kB_pG M D H 3 0 (by norm_num) rfl rfl rfl rfl inb_S512x512_S64x128_0_384 inb_S512x1024_S64x256_0_768 inb_S4x8x128x128_S1x1x128x128_3_0_0_0 _ rfl,
    kB_pG M D H 2 7 (by norm_num) rfl rfl rfl rfl inb_S512x512_S64x128_448_256 inb_S512x1024_S64x256_448_512 inb_S4x8x128x128_S1x1x128x128_2_7_0_0 _ rfl,
    kB_pG M D H 2 6 (by norm_num) rfl rfl rfl rfl inb_S512x512_S64x128_384_256 inb_S512x1024_S64x256_384_512 inb_S4x8x128x128_S1x1x128x128_2_6_0_0 _ rfl,
    kB_pG M D H 2 5 (by norm_num) rfl rfl rfl rfl inb_S512x512_S64x128_320_256 inb_S512x1024_S64x256_320_512 inb_S4x8x128x128_S1x1x128x128_2_5_0_0 _ rfl,
    kB_pG M D H 2 4 (by norm_num) rfl rfl rfl rfl inb_S512x512_S64x128_256_256 inb_S512x1024_S64x256_256_512 inb_S4x8x128x128_S1x1x128x128_2_4_0_0 _ rfl,
    kB_pG M D H 2 3 (by norm_num) rfl rfl rfl rfl inb_S512x512_S64x128_192_256 inb_S512x1024_S64x256_192_512 inb_S4x8x128x128_S1x1x128x128_2_3_0_0 _ rfl,
    kB_pG M D H 2 2 (by norm_num) rfl rfl rfl rfl inb_S512x512_S64x128_128_256 inb_S512x1024_S64x256_128_512 inb_S4x8x128x128_S1x1x128x128_2_2_0_0 _ rfl,
    kB_pG M D H 2 1 (by norm_num) rfl rfl rfl rfl inb_S512x512_S64x128_64_256 inb_S512x1024_S64x256_64_512 inb_S4x8x128x128_S1x1x128x128_2_1_0_0 _ rfl,
    kB_pG M D H 2 0 (by norm_num) rfl rfl rfl rfl inb_S512x512_S64x128_0_256 inb_S512x1024_S64x256_0_512 inb_S4x8x128x128_S1x1x128x128_2_0_0_0 _ rfl,
    kB_pG M D H 1 7 (by norm_num) rfl rfl rfl rfl inb_S512x512_S64x128_448_128 inb_S512x1024_S64x256_448_256 inb_S4x8x128x128_S1x1x128x128_1_7_0_0 _ rfl,
    kB_pG M D H 1 6 (by norm_num) rfl rfl rfl rfl inb_S512x512_S64x128_384_128 inb_S512x1024_S64x256_384_256 inb_S4x8x128x128_S1x1x128x128_1_6_0_0 _ rfl,
    kB_pG M D H 1 5 (by norm_num) rfl rfl rfl rfl inb_S512x512_S64x128_320_128 inb_S512x1024_S64x256_320_256 inb_S4x8x128x128_S1x1x128x128_1_5_0_0 _ rfl,
    kB_pG M D H 1 4 (by norm_num) rfl rfl rfl rfl inb_S512x512_S64x128_256_128 inb_S512x1024_S64x256_256_256 inb_S4x8x128x128_S1x1x128x128_1_4_0_0 _ rfl,
    kB_pG M D H 1 3 (by norm_num) rfl rfl rfl rfl inb_S512x512_S64x128_192_128 inb_S512x1024_S64x256_192_256 inb_S4x8x128x128_S1x1x128x128_1_3_0_0 _ rfl,
    kB_pG M D H 1 2 (by norm_num) rfl rfl rfl rfl inb_S512x512_S64x128_128_128 inb_S512x1024_S64x256_128_256 inb_S4x8x128x128_S1x1x128x128_1_2_0_0 _ rfl,
    kB_pG M D H 1 1 (by norm_num) rfl rfl rfl rfl inb_S512x512_S64x128_64_128 inb_S512x1024_S64x256_64_256 inb_S4x8x128x128_S1x1x128x128_1_1_0_0 _ rfl,
    kB_pG M D H 1 0 (by norm_num) rfl rfl rfl rfl inb_S512x512_S64x128_0_128 inb_S512x1024_S64x256_0_256 inb_S4x8x128x128_S1x1x128x128_1_0_0_0 _ rfl,
    kB_pG M D H 0 7 (by norm_num) rfl rfl rfl rfl inb_S512x512_S64x128_448_0 inb_S512x1024_S64x256_448_0 inb_S4x8x128x128_S1x1x128x128_0_7_0_0 _ rfl,
    kB_pG M D H 0 6 (by norm_num) rfl rfl rfl rfl inb_S512x512_S64x128_384_0 inb_S512x1024_S64x256_384_0 inb_S4x8x128x128_S1x1x128x128_0_6_0_0 _ rfl,
    kB_pG M D H 0 5 (by norm_num) rfl rfl rfl rfl inb_S512x512_S64x128_320_0 inb_S512x1024_S64x256_320_0 inb_S4x8x128x128_S1x1x128x128_0_5_0_0 _ rfl,
    kB_pG M D H 0 4 (by norm_num) rfl rfl rfl rfl inb_S512x512_S64x128_256_0 inb_S512x1024_S64x256_256_0 inb_S4x8x128x128_S1x1x128x128_0_4_0_0 _ rfl,
    kB_pG M D H 0 3 (by norm_num) rfl rfl rfl rfl inb_S512x512_S64x128_192_0 inb_S512x1024_S64x256_192_0 inb_S4x8x128x128_S1x1x128x128_0_3_0_0 _ rfl,
    kB_pG M D H 0 2 (by norm_num) rfl rfl rfl rfl inb_S512x512_S64x128_128_0 inb_S512x1024_S64x256_128_0 inb_S4x8x128x128_S1x1x128x128_0_2_0_0 _ rfl,
    kB_pG M D H 0 1 (by norm_num) rfl rfl rfl rfl inb_S512x512_S64x128_64_0 inb_S512x1024_S64x256_64_0 inb_S4x8x128x128_S1x1x128x128_0_1_0_0 _ rfl,
    kB_pG M D H 0 0 (by norm_num) rfl rfl rfl rfl inb_S512x512_S64x128_0_0 inb_S512x1024_S64x256_0_0 inb_S4x8x128x128_S1x1x128x128_0_0_0_0 _ rfl,
    trivial⟩

theorem kB_cK (H : InB a b T D) : View.canon (kernelRun0_B.sl.HS11_32 (F := Ideal) M.c M.arg2 M.harg2 M.arg4 M.harg4 M.arg5 M.harg5 M.arg7 M.harg7 M.arg13 M.harg13 M.arg17 D.x0 D.x2 D.x3 D.x5 D.xs0) = tile4 (n1 := 8) (fun h c r d => keep (a.G b h (8 * T + c)) d) := by
  refine canon_is _ _ ?_ (View.cover_of_tiledL (s := S4x8x8x128) _ S1x1x8x128.size (by sl_kernel_rfl))
  unfold kernelRun0_B.sl.HS11_32
  exact ⟨kB_pK M D H 3 7 (by norm_num) rfl rfl rfl inb_S512x1024_S64x256_448_768 inb_S4x8x8x128_S1x1x8x128_3_7_0_0 _ rfl,
    kB_pK M D H 3 6 (by norm_num) rfl rfl rfl inb_S512x1024_S64x256_384_768 inb_S4x8x8x128_S1x1x8x128_3_6_0_0 _ rfl,
    kB_pK M D H 3 5 (by norm_num) rfl rfl rfl inb_S512x1024_S64x256_320_768 inb_S4x8x8x128_S1x1x8x128_3_5_0_0 _ rfl,
    kB_pK M D H 3 4 (by norm_num) rfl rfl rfl inb_S512x1024_S64x256_256_768 inb_S4x8x8x128_S1x1x8x128_3_4_0_0 _ rfl,
    kB_pK M D H 3 3 (by norm_num) rfl rfl rfl inb_S512x1024_S64x256_192_768 inb_S4x8x8x128_S1x1x8x128_3_3_0_0 _ rfl,
    kB_pK M D H 3 2 (by norm_num) rfl rfl rfl inb_S512x1024_S64x256_128_768 inb_S4x8x8x128_S1x1x8x128_3_2_0_0 _ rfl,
    kB_pK M D H 3 1 (by norm_num) rfl rfl rfl inb_S512x1024_S64x256_64_768 inb_S4x8x8x128_S1x1x8x128_3_1_0_0 _ rfl,
    kB_pK M D H 3 0 (by norm_num) rfl rfl rfl inb_S512x1024_S64x256_0_768 inb_S4x8x8x128_S1x1x8x128_3_0_0_0 _ rfl,
    kB_pK M D H 2 7 (by norm_num) rfl rfl rfl inb_S512x1024_S64x256_448_512 inb_S4x8x8x128_S1x1x8x128_2_7_0_0 _ rfl,
    kB_pK M D H 2 6 (by norm_num) rfl rfl rfl inb_S512x1024_S64x256_384_512 inb_S4x8x8x128_S1x1x8x128_2_6_0_0 _ rfl,
    kB_pK M D H 2 5 (by norm_num) rfl rfl rfl inb_S512x1024_S64x256_320_512 inb_S4x8x8x128_S1x1x8x128_2_5_0_0 _ rfl,
    kB_pK M D H 2 4 (by norm_num) rfl rfl rfl inb_S512x1024_S64x256_256_512 inb_S4x8x8x128_S1x1x8x128_2_4_0_0 _ rfl,
    kB_pK M D H 2 3 (by norm_num) rfl rfl rfl inb_S512x1024_S64x256_192_512 inb_S4x8x8x128_S1x1x8x128_2_3_0_0 _ rfl,
    kB_pK M D H 2 2 (by norm_num) rfl rfl rfl inb_S512x1024_S64x256_128_512 inb_S4x8x8x128_S1x1x8x128_2_2_0_0 _ rfl,
    kB_pK M D H 2 1 (by norm_num) rfl rfl rfl inb_S512x1024_S64x256_64_512 inb_S4x8x8x128_S1x1x8x128_2_1_0_0 _ rfl,
    kB_pK M D H 2 0 (by norm_num) rfl rfl rfl inb_S512x1024_S64x256_0_512 inb_S4x8x8x128_S1x1x8x128_2_0_0_0 _ rfl,
    kB_pK M D H 1 7 (by norm_num) rfl rfl rfl inb_S512x1024_S64x256_448_256 inb_S4x8x8x128_S1x1x8x128_1_7_0_0 _ rfl,
    kB_pK M D H 1 6 (by norm_num) rfl rfl rfl inb_S512x1024_S64x256_384_256 inb_S4x8x8x128_S1x1x8x128_1_6_0_0 _ rfl,
    kB_pK M D H 1 5 (by norm_num) rfl rfl rfl inb_S512x1024_S64x256_320_256 inb_S4x8x8x128_S1x1x8x128_1_5_0_0 _ rfl,
    kB_pK M D H 1 4 (by norm_num) rfl rfl rfl inb_S512x1024_S64x256_256_256 inb_S4x8x8x128_S1x1x8x128_1_4_0_0 _ rfl,
    kB_pK M D H 1 3 (by norm_num) rfl rfl rfl inb_S512x1024_S64x256_192_256 inb_S4x8x8x128_S1x1x8x128_1_3_0_0 _ rfl,
    kB_pK M D H 1 2 (by norm_num) rfl rfl rfl inb_S512x1024_S64x256_128_256 inb_S4x8x8x128_S1x1x8x128_1_2_0_0 _ rfl,
    kB_pK M D H 1 1 (by norm_num) rfl rfl rfl inb_S512x1024_S64x256_64_256 inb_S4x8x8x128_S1x1x8x128_1_1_0_0 _ rfl,
    kB_pK M D H 1 0 (by norm_num) rfl rfl rfl inb_S512x1024_S64x256_0_256 inb_S4x8x8x128_S1x1x8x128_1_0_0_0 _ rfl,
    kB_pK M D H 0 7 (by norm_num) rfl rfl rfl inb_S512x1024_S64x256_448_0 inb_S4x8x8x128_S1x1x8x128_0_7_0_0 _ rfl,
    kB_pK M D H 0 6 (by norm_num) rfl rfl rfl inb_S512x1024_S64x256_384_0 inb_S4x8x8x128_S1x1x8x128_0_6_0_0 _ rfl,
    kB_pK M D H 0 5 (by norm_num) rfl rfl rfl inb_S512x1024_S64x256_320_0 inb_S4x8x8x128_S1x1x8x128_0_5_0_0 _ rfl,
    kB_pK M D H 0 4 (by norm_num) rfl rfl rfl inb_S512x1024_S64x256_256_0 inb_S4x8x8x128_S1x1x8x128_0_4_0_0 _ rfl,
    kB_pK M D H 0 3 (by norm_num) rfl rfl rfl inb_S512x1024_S64x256_192_0 inb_S4x8x8x128_S1x1x8x128_0_3_0_0 _ rfl,
    kB_pK M D H 0 2 (by norm_num) rfl rfl rfl inb_S512x1024_S64x256_128_0 inb_S4x8x8x128_S1x1x8x128_0_2_0_0 _ rfl,
    kB_pK M D H 0 1 (by norm_num) rfl rfl rfl inb_S512x1024_S64x256_64_0 inb_S4x8x8x128_S1x1x8x128_0_1_0_0 _ rfl,
    kB_pK M D H 0 0 (by norm_num) rfl rfl rfl inb_S512x1024_S64x256_0_0 inb_S4x8x8x128_S1x1x8x128_0_0_0_0 _ rfl,
    trivial⟩

end Cert.Hgrn
end
-- ==== Proof.HeadsB.lean ====
/- The state from chunk to chunk, the branch's output and what the point leaves. -/
module

public import proofs.«01_k».proof.Proof.UnitsB

@[expose] public section

set_option maxRecDepth 16384

noncomputable section

namespace Cert.Hgrn

open Idealize.ShloMosaic Idealize.SL.Sem Cert.KernelIdeal Cert.KernelIdeal.Gen

variable {a : Args} {b : Fin 2} {T : ℕ} (M : Mem) (D : Data)

/-- The state after a chunk, from the state before it. -/
theorem kB_step (H : InB a b T D) (h : Fin 4) (ci : ℕ) {o4 : ℕ} (e4 : o4 = h.val) (inbk : ∀ a, (![o4, ci, 0, 0] : Fin 4 → ℕ) a + (![1, 1, 1, 128] : Fin 4 → ℕ) a ≤ S4x8x8x128.size a) (inbv : ∀ a, (![o4, ci, 0, 0] : Fin 4 → ℕ) a + (![1, 1, 128, 128] : Fin 4 → ℕ) a ≤ S4x8x128x128.size a) (s : FVec Ideal S128x128 .f32) (hs : ∀ i j, s (ix2 j i) = a.S b h (8 * T + ci) i j) (P : FVec Ideal S128x128 .f32)
    (hP : P = uStep (F := Ideal) s (M.arg24.view.readCov (kernelRun0_B.sl.HS11_32 (F := Ideal) M.c M.arg2 M.harg2 M.arg4 M.harg4 M.arg5 M.harg5 M.arg7 M.harg7 M.arg13 M.harg13 M.arg17 D.x0 D.x2 D.x3 D.x5 D.xs0) (Rect.unit (s := S4x8x8x128) ![o4, ci, 0, 0] S1x1x1x128.size inbk).toLoadRect) (M.arg23.view.readCov (kernelRun0_B.sl.HS10_32 (F := Ideal) M.c M.arg2 M.harg2 M.arg4 M.harg4 M.arg5 M.harg5 M.arg7 M.harg7 M.arg13 M.harg13 M.arg17 M.arg18 M.arg19 D.x0 D.x2 D.x3 D.x5 D.xs0) (Rect.unit (s := S4x8x128x128) ![o4, ci, 0, 0] S1x1x128x128.size inbv).toLoadRect)) (i j : Fin 128) : P (ix2 j i) = a.S b h (8 * T + (ci + 1)) i j :=
  unit_step a b h (8 * T + ci) s _ _ hs
    (fun i => rd4 M.arg24.view _ _ (kB_cK M D H) h ci e4 inbk (0 : Fin 1) i (by norm_num) i.isLt)
    (fun i j => rd4 M.arg23.view _ _ (kB_cG M D H) h ci e4 inbv j i j.isLt i.isLt) P hP i j

/-- The branch's output on a chunk, stored. -/
theorem kB_pH (H : InB a b T D) (h : Fin 4) (ci : ℕ) (hci : ci < 8) {o0 o1 : ℕ} (e0 : o0 = 64 * ci) (e1 : o1 = 128 * h.val) (inb : ∀ a, (![o0, o1] : Fin 2 → ℕ) a + S64x128.size a ≤ S512x512.size a) (inbn : ∀ a, (![0, o1] : Fin 2 → ℕ) a + (![1, 128] : Fin 2 → ℕ) a ≤ S1x512.size a) (s : FVec Ideal S128x128 .f32) (hs : ∀ i j, s (ix2 j i) = a.S b h (8 * T + ci) i j) (P : FVec Ideal S64x128 .bf16)
    (hP : P = uHead (F := Ideal) (uOut (F := Ideal) (M.arg22.view.readCov (kernelRun0_B.sl.HS9_32 (F := Ideal) M.c M.arg2 M.harg2 M.arg3 M.harg3 M.arg4 M.harg4 M.arg5 M.harg5 M.arg7 M.harg7 M.arg13 M.harg13 M.arg16 M.arg17 M.arg18 M.arg19 D.x0 D.x1 D.x2 D.x3 D.x5 D.xs0) (Rect.unit (s := S512x512) ![o0, o1] S64x128.size inb).toLoadRect) (M.arg21.view.readCov (kernelRun0_B.sl.HS8_32 (F := Ideal) M.c M.arg2 M.harg2 M.arg4 M.harg4 M.arg5 M.harg5 M.arg7 M.harg7 M.arg13 M.harg13 M.arg16 M.arg17 D.x0 D.x2 D.x3 D.x5 D.xs0) (Rect.unit (s := S512x512) ![o0, o1] S64x128.size inb).toLoadRect) s) (View.readAt (Elt Ideal) M.arg8.view (Rect.unit (s := S1x512) ![0, o1] S1x128.size inbn).toLoadRect (M.harg8.unread D.x6)) (M.arg20.view.readCov (kernelRun0_B.sl.HS7_1 (F := Ideal) M.c M.arg4 M.harg4 M.arg5 M.harg5 M.arg13 M.harg13 D.x2 D.x3 D.xs0) (Rect.unit (s := S512x512) ![o0, o1] S64x128.size inb).toLoadRect)) (x : S64x128.Idx) :
    P x = tile2 (fun h c t j => a.ohg b (8 * T + c) t h j) ((Rect.unit (s := S512x512) ![o0, o1] S64x128.size inb).emb x) :=
  tile2_piece _ h ci hci e0 e1 inb _ (unit_head a b h (8 * T + ci) _ _ s _ _ hs (fun t d => rd2 M.arg22.view _ _ (kB_cI M D H) h ci hci e0 e1 inb t d) (fun t d => rd2 M.arg21.view _ _ (kB_cQ M D H) h ci hci e0 e1 inb t d)
    (fun j => (load2 M.harg8 D.x6 inbn 0 j 0 (col h j) rfl (by show h.val * 128 + j.val = o1 + j.val; omega)).trans (H.tile.gn (col h j)))
    (fun t d => rd2 M.arg20.view _ _ (kB_cz M D H) h ci hci e0 e1 inb t d) P hP) x

theorem kB_s0_0 (H : InB a b T D) (i j : Fin 128) : (kernelRun0_B.sl.v3791 (F := Ideal) M.c M.arg15 M.harg15 D.xs2) (ix2 j i) = a.S b 0 (8 * T + 0) i j := by
  unfold kernelRun0_B.sl.v3791
  pointwise
  refine (load3 M.harg15 D.xs2 inb_S4x128x128_S1x128x128_0_0_0 0 j i 0 j i rfl (by omega) (by omega)).trans ?_
  exact H.st 0 i j

theorem kB_s0_1 (H : InB a b T D) (i j : Fin 128) : (kernelRun0_B.sl.v3809 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 0 (8 * T + 1) i j :=
  kB_step M D H 0 0 rfl inb_S4x8x8x128_S1x1x1x128_0_0_0_0 inb_S4x8x128x128_S1x1x128x128_0_0_0_0 _ (kB_s0_0 M D H) _ rfl i j

theorem kB_s0_2 (H : InB a b T D) (i j : Fin 128) : (kernelRun0_B.sl.v3937 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 0 (8 * T + 2) i j :=
  kB_step M D H 0 1 rfl inb_S4x8x8x128_S1x1x1x128_0_1_0_0 inb_S4x8x128x128_S1x1x128x128_0_1_0_0 _ (kB_s0_1 M D H) _ rfl i j

theorem kB_s0_3 (H : InB a b T D) (i j : Fin 128) : (kernelRun0_B.sl.v4065 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 0 (8 * T + 3) i j :=
  kB_step M D H 0 2 rfl inb_S4x8x8x128_S1x1x1x128_0_2_0_0 inb_S4x8x128x128_S1x1x128x128_0_2_0_0 _ (kB_s0_2 M D H) _ rfl i j

theorem kB_s0_4 (H : InB a b T D) (i j : Fin 128) : (kernelRun0_B.sl.v4193 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 0 (8 * T + 4) i j :=
  kB_step M D H 0 3 rfl inb_S4x8x8x128_S1x1x1x128_0_3_0_0 inb_S4x8x128x128_S1x1x128x128_0_3_0_0 _ (kB_s0_3 M D H) _ rfl i j

theorem kB_s0_5 (H : InB a b T D) (i j : Fin 128) : (kernelRun0_B.sl.v4321 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 0 (8 * T + 5) i j :=
  kB_step M D H 0 4 rfl inb_S4x8x8x128_S1x1x1x128_0_4_0_0 inb_S4x8x128x128_S1x1x128x128_0_4_0_0 _ (kB_s0_4 M D H) _ rfl i j

theorem kB_s0_6 (H : InB a b T D) (i j : Fin 128) : (kernelRun0_B.sl.v4449 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 0 (8 * T + 6) i j :=
  kB_step M D H 0 5 rfl inb_S4x8x8x128_S1x1x1x128_0_5_0_0 inb_S4x8x128x128_S1x1x128x128_0_5_0_0 _ (kB_s0_5 M D H) _ rfl i j

theorem kB_s0_7 (H : InB a b T D) (i j : Fin 128) : (kernelRun0_B.sl.v4577 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 0 (8 * T + 7) i j :=
  kB_step M D H 0 6 rfl inb_S4x8x8x128_S1x1x1x128_0_6_0_0 inb_S4x8x128x128_S1x1x128x128_0_6_0_0 _ (kB_s0_6 M D H) _ rfl i j

theorem kB_s0_8 (H : InB a b T D) (i j : Fin 128) : (kernelRun0_B.sl.v4705 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 0 (8 * T + 8) i j :=
  kB_step M D H 0 7 rfl inb_S4x8x8x128_S1x1x1x128_0_7_0_0 inb_S4x8x128x128_S1x1x128x128_0_7_0_0 _ (kB_s0_7 M D H) _ rfl i j

theorem kB_s1_0 (H : InB a b T D) (i j : Fin 128) : (kernelRun0_B.sl.v3793 (F := Ideal) M.c M.arg15 M.harg15 D.xs2) (ix2 j i) = a.S b 1 (8 * T + 0) i j := by
  unfold kernelRun0_B.sl.v3793
  pointwise
  refine (load3 M.harg15 D.xs2 inb_S4x128x128_S1x128x128_1_0_0 0 j i 1 j i rfl (by omega) (by omega)).trans ?_
  exact H.st 1 i j

theorem kB_s1_1 (H : InB a b T D) (i j : Fin 128) : (kernelRun0_B.sl.v3841 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 1 (8 * T + 1) i j :=
  kB_step M D H 1 0 rfl inb_S4x8x8x128_S1x1x1x128_1_0_0_0 inb_S4x8x128x128_S1x1x128x128_1_0_0_0 _ (kB_s1_0 M D H) _ rfl i j

theorem kB_s1_2 (H : InB a b T D) (i j : Fin 128) : (kernelRun0_B.sl.v3969 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 1 (8 * T + 2) i j :=
  kB_step M D H 1 1 rfl inb_S4x8x8x128_S1x1x1x128_1_1_0_0 inb_S4x8x128x128_S1x1x128x128_1_1_0_0 _ (kB_s1_1 M D H) _ rfl i j

theorem kB_s1_3 (H : InB a b T D) (i j : Fin 128) : (kernelRun0_B.sl.v4097 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 1 (8 * T + 3) i j :=
  kB_step M D H 1 2 rfl inb_S4x8x8x128_S1x1x1x128_1_2_0_0 inb_S4x8x128x128_S1x1x128x128_1_2_0_0 _ (kB_s1_2 M D H) _ rfl i j

theorem kB_s1_4 (H : InB a b T D) (i j : Fin 128) : (kernelRun0_B.sl.v4225 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 1 (8 * T + 4) i j :=
  kB_step M D H 1 3 rfl inb_S4x8x8x128_S1x1x1x128_1_3_0_0 inb_S4x8x128x128_S1x1x128x128_1_3_0_0 _ (kB_s1_3 M D H) _ rfl i j

theorem kB_s1_5 (H : InB a b T D) (i j : Fin 128) : (kernelRun0_B.sl.v4353 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 1 (8 * T + 5) i j :=
  kB_step M D H 1 4 rfl inb_S4x8x8x128_S1x1x1x128_1_4_0_0 inb_S4x8x128x128_S1x1x128x128_1_4_0_0 _ (kB_s1_4 M D H) _ rfl i j

theorem kB_s1_6 (H : InB a b T D) (i j : Fin 128) : (kernelRun0_B.sl.v4481 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 1 (8 * T + 6) i j :=
  kB_step M D H 1 5 rfl inb_S4x8x8x128_S1x1x1x128_1_5_0_0 inb_S4x8x128x128_S1x1x128x128_1_5_0_0 _ (kB_s1_5 M D H) _ rfl i j

theorem kB_s1_7 (H : InB a b T D) (i j : Fin 128) : (kernelRun0_B.sl.v4609 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 1 (8 * T + 7) i j :=
  kB_step M D H 1 6 rfl inb_S4x8x8x128_S1x1x1x128_1_6_0_0 inb_S4x8x128x128_S1x1x128x128_1_6_0_0 _ (kB_s1_6 M D H) _ rfl i j

theorem kB_s1_8 (H : InB a b T D) (i j : Fin 128) : (kernelRun0_B.sl.v4737 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 1 (8 * T + 8) i j :=
  kB_step M D H 1 7 rfl inb_S4x8x8x128_S1x1x1x128_1_7_0_0 inb_S4x8x128x128_S1x1x128x128_1_7_0_0 _ (kB_s1_7 M D H) _ rfl i j

theorem kB_s2_0 (H : InB a b T D) (i j : Fin 128) : (kernelRun0_B.sl.v3795 (F := Ideal) M.c M.arg15 M.harg15 D.xs2) (ix2 j i) = a.S b 2 (8 * T + 0) i j := by
  unfold kernelRun0_B.sl.v3795
  pointwise
  refine (load3 M.harg15 D.xs2 inb_S4x128x128_S1x128x128_2_0_0 0 j i 2 j i rfl (by omega) (by omega)).trans ?_
  exact H.st 2 i j

theorem kB_s2_1 (H : InB a b T D) (i j : Fin 128) : (kernelRun0_B.sl.v3873 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 2 (8 * T + 1) i j :=
  kB_step M D H 2 0 rfl inb_S4x8x8x128_S1x1x1x128_2_0_0_0 inb_S4x8x128x128_S1x1x128x128_2_0_0_0 _ (kB_s2_0 M D H) _ rfl i j

theorem kB_s2_2 (H : InB a b T D) (i j : Fin 128) : (kernelRun0_B.sl.v4001 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 2 (8 * T + 2) i j :=
  kB_step M D H 2 1 rfl inb_S4x8x8x128_S1x1x1x128_2_1_0_0 inb_S4x8x128x128_S1x1x128x128_2_1_0_0 _ (kB_s2_1 M D H) _ rfl i j

theorem kB_s2_3 (H : InB a b T D) (i j : Fin 128) : (kernelRun0_B.sl.v4129 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 2 (8 * T + 3) i j :=
  kB_step M D H 2 2 rfl inb_S4x8x8x128_S1x1x1x128_2_2_0_0 inb_S4x8x128x128_S1x1x128x128_2_2_0_0 _ (kB_s2_2 M D H) _ rfl i j

theorem kB_s2_4 (H : InB a b T D) (i j : Fin 128) : (kernelRun0_B.sl.v4257 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 2 (8 * T + 4) i j :=
  kB_step M D H 2 3 rfl inb_S4x8x8x128_S1x1x1x128_2_3_0_0 inb_S4x8x128x128_S1x1x128x128_2_3_0_0 _ (kB_s2_3 M D H) _ rfl i j

theorem kB_s2_5 (H : InB a b T D) (i j : Fin 128) : (kernelRun0_B.sl.v4385 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 2 (8 * T + 5) i j :=
  kB_step M D H 2 4 rfl inb_S4x8x8x128_S1x1x1x128_2_4_0_0 inb_S4x8x128x128_S1x1x128x128_2_4_0_0 _ (kB_s2_4 M D H) _ rfl i j

theorem kB_s2_6 (H : InB a b T D) (i j : Fin 128) : (kernelRun0_B.sl.v4513 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 2 (8 * T + 6) i j :=
  kB_step M D H 2 5 rfl inb_S4x8x8x128_S1x1x1x128_2_5_0_0 inb_S4x8x128x128_S1x1x128x128_2_5_0_0 _ (kB_s2_5 M D H) _ rfl i j

theorem kB_s2_7 (H : InB a b T D) (i j : Fin 128) : (kernelRun0_B.sl.v4641 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 2 (8 * T + 7) i j :=
  kB_step M D H 2 6 rfl inb_S4x8x8x128_S1x1x1x128_2_6_0_0 inb_S4x8x128x128_S1x1x128x128_2_6_0_0 _ (kB_s2_6 M D H) _ rfl i j

theorem kB_s2_8 (H : InB a b T D) (i j : Fin 128) : (kernelRun0_B.sl.v4769 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 2 (8 * T + 8) i j :=
  kB_step M D H 2 7 rfl inb_S4x8x8x128_S1x1x1x128_2_7_0_0 inb_S4x8x128x128_S1x1x128x128_2_7_0_0 _ (kB_s2_7 M D H) _ rfl i j

theorem kB_s3_0 (H : InB a b T D) (i j : Fin 128) : (kernelRun0_B.sl.v3797 (F := Ideal) M.c M.arg15 M.harg15 D.xs2) (ix2 j i) = a.S b 3 (8 * T + 0) i j := by
  unfold kernelRun0_B.sl.v3797
  pointwise
  refine (load3 M.harg15 D.xs2 inb_S4x128x128_S1x128x128_3_0_0 0 j i 3 j i rfl (by omega) (by omega)).trans ?_
  exact H.st 3 i j

theorem kB_s3_1 (H : InB a b T D) (i j : Fin 128) : (kernelRun0_B.sl.v3905 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 3 (8 * T + 1) i j :=
  kB_step M D H 3 0 rfl inb_S4x8x8x128_S1x1x1x128_3_0_0_0 inb_S4x8x128x128_S1x1x128x128_3_0_0_0 _ (kB_s3_0 M D H) _ rfl i j

theorem kB_s3_2 (H : InB a b T D) (i j : Fin 128) : (kernelRun0_B.sl.v4033 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 3 (8 * T + 2) i j :=
  kB_step M D H 3 1 rfl inb_S4x8x8x128_S1x1x1x128_3_1_0_0 inb_S4x8x128x128_S1x1x128x128_3_1_0_0 _ (kB_s3_1 M D H) _ rfl i j

theorem kB_s3_3 (H : InB a b T D) (i j : Fin 128) : (kernelRun0_B.sl.v4161 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 3 (8 * T + 3) i j :=
  kB_step M D H 3 2 rfl inb_S4x8x8x128_S1x1x1x128_3_2_0_0 inb_S4x8x128x128_S1x1x128x128_3_2_0_0 _ (kB_s3_2 M D H) _ rfl i j

theorem kB_s3_4 (H : InB a b T D) (i j : Fin 128) : (kernelRun0_B.sl.v4289 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 3 (8 * T + 4) i j :=
  kB_step M D H 3 3 rfl inb_S4x8x8x128_S1x1x1x128_3_3_0_0 inb_S4x8x128x128_S1x1x128x128_3_3_0_0 _ (kB_s3_3 M D H) _ rfl i j

theorem kB_s3_5 (H : InB a b T D) (i j : Fin 128) : (kernelRun0_B.sl.v4417 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 3 (8 * T + 5) i j :=
  kB_step M D H 3 4 rfl inb_S4x8x8x128_S1x1x1x128_3_4_0_0 inb_S4x8x128x128_S1x1x128x128_3_4_0_0 _ (kB_s3_4 M D H) _ rfl i j

theorem kB_s3_6 (H : InB a b T D) (i j : Fin 128) : (kernelRun0_B.sl.v4545 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 3 (8 * T + 6) i j :=
  kB_step M D H 3 5 rfl inb_S4x8x8x128_S1x1x1x128_3_5_0_0 inb_S4x8x128x128_S1x1x128x128_3_5_0_0 _ (kB_s3_5 M D H) _ rfl i j

theorem kB_s3_7 (H : InB a b T D) (i j : Fin 128) : (kernelRun0_B.sl.v4673 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 3 (8 * T + 7) i j :=
  kB_step M D H 3 6 rfl inb_S4x8x8x128_S1x1x1x128_3_6_0_0 inb_S4x8x128x128_S1x1x128x128_3_6_0_0 _ (kB_s3_6 M D H) _ rfl i j

theorem kB_s3_8 (H : InB a b T D) (i j : Fin 128) : (kernelRun0_B.sl.v4801 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) (ix2 j i) = a.S b 3 (8 * T + 8) i j :=
  kB_step M D H 3 7 rfl inb_S4x8x8x128_S1x1x1x128_3_7_0_0 inb_S4x8x128x128_S1x1x128x128_3_7_0_0 _ (kB_s3_7 M D H) _ rfl i j

theorem kB_co (H : InB a b T D) : View.canon (kernelRun0_B.sl.HS12_32 (F := Ideal) M.c M.arg2 M.harg2 M.arg3 M.harg3 M.arg4 M.harg4 M.arg5 M.harg5 M.arg7 M.harg7 M.arg8 M.harg8 M.arg13 M.harg13 M.arg15 M.harg15 M.arg16 M.arg17 M.arg18 M.arg19 M.arg20 M.arg21 M.arg22 M.arg23 M.arg24 D.x0 D.x1 D.x2 D.x3 D.x5 D.x6 D.xs0 D.xs2) = tile2 (fun h c t j => a.ohg b (8 * T + c) t h j) := by
  refine canon_is _ _ ?_ (View.cover_of_tiledL (s := S512x512) _ S64x128.size (by sl_kernel_rfl))
  unfold kernelRun0_B.sl.HS12_32
  exact ⟨kB_pH M D H 3 7 (by norm_num) rfl rfl inb_S512x512_S64x128_448_384 inb_S1x512_S1x128_0_384 _ (kB_s3_7 M D H) _ rfl,
    kB_pH M D H 2 7 (by norm_num) rfl rfl inb_S512x512_S64x128_448_256 inb_S1x512_S1x128_0_256 _ (kB_s2_7 M D H) _ rfl,
    kB_pH M D H 1 7 (by norm_num) rfl rfl inb_S512x512_S64x128_448_128 inb_S1x512_S1x128_0_128 _ (kB_s1_7 M D H) _ rfl,
    kB_pH M D H 0 7 (by norm_num) rfl rfl inb_S512x512_S64x128_448_0 inb_S1x512_S1x128_0_0 _ (kB_s0_7 M D H) _ rfl,
    kB_pH M D H 3 6 (by norm_num) rfl rfl inb_S512x512_S64x128_384_384 inb_S1x512_S1x128_0_384 _ (kB_s3_6 M D H) _ rfl,
    kB_pH M D H 2 6 (by norm_num) rfl rfl inb_S512x512_S64x128_384_256 inb_S1x512_S1x128_0_256 _ (kB_s2_6 M D H) _ rfl,
    kB_pH M D H 1 6 (by norm_num) rfl rfl inb_S512x512_S64x128_384_128 inb_S1x512_S1x128_0_128 _ (kB_s1_6 M D H) _ rfl,
    kB_pH M D H 0 6 (by norm_num) rfl rfl inb_S512x512_S64x128_384_0 inb_S1x512_S1x128_0_0 _ (kB_s0_6 M D H) _ rfl,
    kB_pH M D H 3 5 (by norm_num) rfl rfl inb_S512x512_S64x128_320_384 inb_S1x512_S1x128_0_384 _ (kB_s3_5 M D H) _ rfl,
    kB_pH M D H 2 5 (by norm_num) rfl rfl inb_S512x512_S64x128_320_256 inb_S1x512_S1x128_0_256 _ (kB_s2_5 M D H) _ rfl,
    kB_pH M D H 1 5 (by norm_num) rfl rfl inb_S512x512_S64x128_320_128 inb_S1x512_S1x128_0_128 _ (kB_s1_5 M D H) _ rfl,
    kB_pH M D H 0 5 (by norm_num) rfl rfl inb_S512x512_S64x128_320_0 inb_S1x512_S1x128_0_0 _ (kB_s0_5 M D H) _ rfl,
    kB_pH M D H 3 4 (by norm_num) rfl rfl inb_S512x512_S64x128_256_384 inb_S1x512_S1x128_0_384 _ (kB_s3_4 M D H) _ rfl,
    kB_pH M D H 2 4 (by norm_num) rfl rfl inb_S512x512_S64x128_256_256 inb_S1x512_S1x128_0_256 _ (kB_s2_4 M D H) _ rfl,
    kB_pH M D H 1 4 (by norm_num) rfl rfl inb_S512x512_S64x128_256_128 inb_S1x512_S1x128_0_128 _ (kB_s1_4 M D H) _ rfl,
    kB_pH M D H 0 4 (by norm_num) rfl rfl inb_S512x512_S64x128_256_0 inb_S1x512_S1x128_0_0 _ (kB_s0_4 M D H) _ rfl,
    kB_pH M D H 3 3 (by norm_num) rfl rfl inb_S512x512_S64x128_192_384 inb_S1x512_S1x128_0_384 _ (kB_s3_3 M D H) _ rfl,
    kB_pH M D H 2 3 (by norm_num) rfl rfl inb_S512x512_S64x128_192_256 inb_S1x512_S1x128_0_256 _ (kB_s2_3 M D H) _ rfl,
    kB_pH M D H 1 3 (by norm_num) rfl rfl inb_S512x512_S64x128_192_128 inb_S1x512_S1x128_0_128 _ (kB_s1_3 M D H) _ rfl,
    kB_pH M D H 0 3 (by norm_num) rfl rfl inb_S512x512_S64x128_192_0 inb_S1x512_S1x128_0_0 _ (kB_s0_3 M D H) _ rfl,
    kB_pH M D H 3 2 (by norm_num) rfl rfl inb_S512x512_S64x128_128_384 inb_S1x512_S1x128_0_384 _ (kB_s3_2 M D H) _ rfl,
    kB_pH M D H 2 2 (by norm_num) rfl rfl inb_S512x512_S64x128_128_256 inb_S1x512_S1x128_0_256 _ (kB_s2_2 M D H) _ rfl,
    kB_pH M D H 1 2 (by norm_num) rfl rfl inb_S512x512_S64x128_128_128 inb_S1x512_S1x128_0_128 _ (kB_s1_2 M D H) _ rfl,
    kB_pH M D H 0 2 (by norm_num) rfl rfl inb_S512x512_S64x128_128_0 inb_S1x512_S1x128_0_0 _ (kB_s0_2 M D H) _ rfl,
    kB_pH M D H 3 1 (by norm_num) rfl rfl inb_S512x512_S64x128_64_384 inb_S1x512_S1x128_0_384 _ (kB_s3_1 M D H) _ rfl,
    kB_pH M D H 2 1 (by norm_num) rfl rfl inb_S512x512_S64x128_64_256 inb_S1x512_S1x128_0_256 _ (kB_s2_1 M D H) _ rfl,
    kB_pH M D H 1 1 (by norm_num) rfl rfl inb_S512x512_S64x128_64_128 inb_S1x512_S1x128_0_128 _ (kB_s1_1 M D H) _ rfl,
    kB_pH M D H 0 1 (by norm_num) rfl rfl inb_S512x512_S64x128_64_0 inb_S1x512_S1x128_0_0 _ (kB_s0_1 M D H) _ rfl,
    kB_pH M D H 3 0 (by norm_num) rfl rfl inb_S512x512_S64x128_0_384 inb_S1x512_S1x128_0_384 _ (kB_s3_0 M D H) _ rfl,
    kB_pH M D H 2 0 (by norm_num) rfl rfl inb_S512x512_S64x128_0_256 inb_S1x512_S1x128_0_256 _ (kB_s2_0 M D H) _ rfl,
    kB_pH M D H 1 0 (by norm_num) rfl rfl inb_S512x512_S64x128_0_128 inb_S1x512_S1x128_0_128 _ (kB_s1_0 M D H) _ rfl,
    kB_pH M D H 0 0 (by norm_num) rfl rfl inb_S512x512_S64x128_0_0 inb_S1x512_S1x128_0_0 _ (kB_s0_0 M D H) _ rfl,
    trivial⟩

theorem kB_cy : View.canon (kernelRun0_B.sl.H10_1 (F := Ideal) M.c M.arg4 M.harg4 M.arg9 M.harg9 M.arg14 M.harg14 D.x2 D.x7 D.xs1) = (kernelRun0_B.sl.v2633 (F := Ideal) M.c M.arg4 M.harg4 M.arg9 M.harg9 M.arg14 M.harg14 D.x2 D.x7 D.xs1) := by
  unfold kernelRun0_B.sl.H10_1
  exact canon_whole _ _ (by decide)

/-- The rows the point leaves. -/
theorem kB_last (H : InB a b T D) (r : Fin 512) (d : Fin 1024) : k0_pay4 (F := Ideal) (kernelRun0_B.sl.v4834 (F := Ideal) M.c M.arg4 M.harg4 M.arg9 M.harg9 M.arg12 M.arg14 M.harg14 D.x2 D.x7 D.xs1) (kernelRun0_B.sl.v4836 (F := Ideal) M.c M.arg2 M.harg2 M.arg3 M.harg3 M.arg4 M.harg4 M.arg5 M.harg5 M.arg7 M.harg7 M.arg8 M.harg8 M.arg13 M.harg13 M.arg15 M.harg15 M.arg16 M.arg17 M.arg18 M.arg19 M.arg20 M.arg21 M.arg22 M.arg23 M.arg24 M.arg25 D.x0 D.x1 D.x2 D.x3 D.x5 D.x6 D.xs0 D.xs2) (View.readAt (Elt Ideal) M.arg14.view (Rect.unit (s := S1024x1024) ![0, 0] S512x1024.size inb_S1024x1024_S512x1024_0_0).toLoadRect (M.harg14.unread D.xs1)) (View.readAt (Elt Ideal) M.arg11.view (Rect.unit (s := S1x1024) ![0, 0] S1x1024.size inb_S1x1024_S1x1024_0_0).toLoadRect (M.harg11.unread D.x9)) (ix3 0 r d) = a.out b (trow T r) d := by
  have hT := H.lt
  have ht : (trow T r).val = 512 * T + r.val := by
    show ((8 * T + r.val / 64) * 64 + r.val % 64) % 8192 = _
    omega
  have h1 : (trow T r).val / 64 = 8 * T + r.val / 64 := by omega
  have h2 : (⟨(trow T r).val % 64, Nat.mod_lt _ (by norm_num)⟩ : Fin 64) = tm r := Fin.ext (by show (trow T r).val % 64 = r.val % 64; omega)
  refine last_at a b (trow T r) r _ _ _ _ (fun d => ?_) (fun x => ?_) (fun x d => ?_) (fun d => ?_) d
  · refine (back3 M.arg12.view _ _ (kB_cy M D) inb_S1x512x1024_S1x512x1024_0_0_0 0 r d 0 r d rfl (by omega) (by omega)).trans ?_
    exact kB_y M D H r d
  · refine (back2 M.arg25.view _ _ (kB_co M D H) inb_S512x512_S512x512_0_0 r x r x (by omega) (by omega)).trans ?_
    rw [h1, h2]
    rfl
  · refine (kB_o0 M D H x d).trans ?_
    simp only [Nat.zero_add]
  · exact (load2 M.harg11 D.x9 inb_S1x1024_S1x1024_0_0 0 d 0 d rfl (by omega)).trans (H.tile.fw d)

theorem kB_t0 (H : InB a b T D) (x : S1x128x128.Idx) : (kernelRun0_B.sl.v4824 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) x = carried a b T ((Rect.unit (s := S4x128x128) ![0, 0, 0] S1x128x128.size inb_S4x128x128_S1x128x128_0_0_0).emb x) := by
  refine carried_piece a b T 0 rfl _ _ (fun i j => ?_) x
  have e : (kernelRun0_B.sl.v4824 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) = shapeCast S1x128x128 (kernelRun0_B.sl.v4705 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) shapeCasts_S128x128_S1x128x128 := rfl
  rw [e]
  generalize hg : (kernelRun0_B.sl.v4705 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) = g
  pointwise
  rw [← hg]
  exact kB_s0_8 M D H i j

theorem kB_t1 (H : InB a b T D) (x : S1x128x128.Idx) : (k0_pay1 (F := Ideal) (kernelRun0_B.sl.v4737 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2)) x = carried a b T ((Rect.unit (s := S4x128x128) ![1, 0, 0] S1x128x128.size inb_S4x128x128_S1x128x128_1_0_0).emb x) := by
  refine carried_piece a b T 1 rfl _ _ (fun i j => ?_) x
  have e : (k0_pay1 (F := Ideal) (kernelRun0_B.sl.v4737 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2)) = shapeCast S1x128x128 (kernelRun0_B.sl.v4737 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) shapeCasts_S128x128_S1x128x128 := rfl
  rw [e]
  generalize hg : (kernelRun0_B.sl.v4737 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) = g
  pointwise
  rw [← hg]
  exact kB_s1_8 M D H i j

theorem kB_t2 (H : InB a b T D) (x : S1x128x128.Idx) : (k0_pay2 (F := Ideal) (kernelRun0_B.sl.v4769 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2)) x = carried a b T ((Rect.unit (s := S4x128x128) ![2, 0, 0] S1x128x128.size inb_S4x128x128_S1x128x128_2_0_0).emb x) := by
  refine carried_piece a b T 2 rfl _ _ (fun i j => ?_) x
  have e : (k0_pay2 (F := Ideal) (kernelRun0_B.sl.v4769 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2)) = shapeCast S1x128x128 (kernelRun0_B.sl.v4769 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) shapeCasts_S128x128_S1x128x128 := rfl
  rw [e]
  generalize hg : (kernelRun0_B.sl.v4769 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) = g
  pointwise
  rw [← hg]
  exact kB_s2_8 M D H i j

theorem kB_t3 (H : InB a b T D) (x : S1x128x128.Idx) : (k0_pay3 (F := Ideal) (kernelRun0_B.sl.v4801 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2)) x = carried a b T ((Rect.unit (s := S4x128x128) ![3, 0, 0] S1x128x128.size inb_S4x128x128_S1x128x128_3_0_0).emb x) := by
  refine carried_piece a b T 3 rfl _ _ (fun i j => ?_) x
  have e : (k0_pay3 (F := Ideal) (kernelRun0_B.sl.v4801 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2)) = shapeCast S1x128x128 (kernelRun0_B.sl.v4801 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) shapeCasts_S128x128_S1x128x128 := rfl
  rw [e]
  generalize hg : (kernelRun0_B.sl.v4801 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2) = g
  pointwise
  rw [← hg]
  exact kB_s3_8 M D H i j

end Cert.Hgrn
end
-- ==== Proof.Outs.lean ====
/- What a point leaves: its rows, the weights and the state. -/
module

public import proofs.«01_k».proof.Proof.HeadsA
public import proofs.«01_k».proof.Proof.HeadsB
public import proofs.«01_k».proof.Proof.Gen.KernelIdeal.Frame

@[expose] public section

set_option maxRecDepth 16384

noncomputable section

namespace Cert.Hgrn

open Idealize.ShloMosaic Idealize.SL.Sem Cert.KernelIdeal Cert.KernelIdeal.Gen

variable {a : Args} {b : Fin 2} {T : ℕ} (M : Mem) (D : Data)

theorem kA_out (H : InA a b T D) (i : grid0.Coords) (hc : cond0_0 i) (r : Fin 512) (d : Fin 1024) : (out0_A_10 (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9) (ix3 0 r d) = a.out b (trow T r) d := by
  unfold out0_A_10
  rw [View.read_writes_junk_eq_canon]
  have e : (kernelRun0_A (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9).1 = ⟨Rect.unit (s := S1x512x1024) ![0, 0, 0] S1x512x1024.size inb_S1x512x1024_S1x512x1024_0_0_0, k0_pay4 (F := Ideal) (kernelRun0_A.sl.v4834 (F := Ideal) M.c M.arg4 M.harg4 M.arg9 M.harg9 M.arg10 M.harg10 M.arg12 M.arg14 D.x2 D.x7 D.x8) (kernelRun0_A.sl.v4836 (F := Ideal) M.c M.arg2 M.harg2 M.arg3 M.harg3 M.arg4 M.harg4 M.arg5 M.harg5 M.arg6 M.harg6 M.arg7 M.harg7 M.arg8 M.harg8 M.arg13 M.arg15 M.arg16 M.arg17 M.arg18 M.arg19 M.arg20 M.arg21 M.arg22 M.arg23 M.arg24 M.arg25 D.x0 D.x1 D.x2 D.x3 D.x4 D.x5 D.x6) (kernelRun0_A.sl.v4837 (F := Ideal) M.c M.arg10 M.harg10 M.arg14 D.x8) (View.readAt (Elt Ideal) M.arg11.view (Rect.unit (s := S1x1024) ![0, 0] S1x1024.size inb_S1x1024_S1x1024_0_0).toLoadRect (M.harg11.unread D.x9))⟩ :: (kernelRun0_A.sl.H10_1 (F := Ideal) M.c M.arg4 M.harg4 M.arg9 M.harg9 M.arg10 M.harg10 M.arg14 D.x2 D.x7 D.x8) := rfl
  rw [e, View.canon_cons_unit_lit _ _ _ (by decide)]
  exact kA_last M D H r d

/-- The pieces of the state. -/
def kA_SL : List (View.Piece (Elt Ideal) S4x128x128 .f32) :=
  [⟨Rect.unit (s := S4x128x128) ![3, 0, 0] S1x128x128.size inb_S4x128x128_S1x128x128_3_0_0, (k0_pay3 (F := Ideal) (kernelRun0_A.sl.v4801 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5))⟩,
    ⟨Rect.unit (s := S4x128x128) ![2, 0, 0] S1x128x128.size inb_S4x128x128_S1x128x128_2_0_0, (k0_pay2 (F := Ideal) (kernelRun0_A.sl.v4769 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5))⟩,
    ⟨Rect.unit (s := S4x128x128) ![1, 0, 0] S1x128x128.size inb_S4x128x128_S1x128x128_1_0_0, (k0_pay1 (F := Ideal) (kernelRun0_A.sl.v4737 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5))⟩,
    ⟨Rect.unit (s := S4x128x128) ![0, 0, 0] S1x128x128.size inb_S4x128x128_S1x128x128_0_0_0, (kernelRun0_A.sl.v4824 (F := Ideal) M.c M.arg2 M.harg2 M.arg4 M.harg4 M.arg5 M.harg5 M.arg6 M.harg6 M.arg7 M.harg7 M.arg13 M.arg15 M.arg17 M.arg18 M.arg19 M.arg23 M.arg24 D.x0 D.x2 D.x3 D.x4 D.x5)⟩]

theorem kA_sout (H : InA a b T D) (i : grid0.Coords) (hc : cond0_0 i) : (sout0_A_2 (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9) = carried a b T := by
  unfold sout0_A_2
  rw [View.read_writes_junk_eq_canon]
  have e : (kernelRun0_A (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9).2.2.2.1 = kA_SL M D ++ kernelRun0_A.sl.HS2_1 (F := Ideal) := rfl
  rw [e]
  have hp : View.PiecesOf (carried a b T) (kA_SL M D) := by
    unfold kA_SL
    exact ⟨kA_t3 M D H, kA_t2 M D H, kA_t1 M D H, kA_t0 M D H, trivial⟩
  exact funext fun y => View.canon_append_of_piecesOf _ _ _ hp y (View.cover_of_tiledL (s := S4x128x128) _ S1x128x128.size (by sl_kernel_rfl) y)

theorem kA_wout0 (H : InA a b T D) (i : grid0.Coords) (hc : cond0_0 i) (x : Fin 1024) (j : Fin 2048) : (sout0_A_0 (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9) (ix2 x j) = a.W x ⟨j.val, by omega⟩ := by
  unfold sout0_A_0
  rw [View.read_writes_junk_eq_canon]
  have e : (kernelRun0_A (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9).2.1 = (kernelRun0_A.sl.HS0_1 (F := Ideal) M.c M.arg6 M.harg6 D.x4) := rfl
  rw [e, kA_cwin M D]
  exact kA_win M D H x j

theorem kA_wout1 (H : InA a b T D) (i : grid0.Coords) (hc : cond0_0 i) (x : Fin 1024) (j : Fin 1024) : (sout0_A_1 (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9) (ix2 x j) = a.WO x j := by
  unfold sout0_A_1
  rw [View.read_writes_junk_eq_canon]
  have e : (kernelRun0_A (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9).2.2.1 = (kernelRun0_A.sl.HS1_1 (F := Ideal) M.c M.arg10 M.harg10 D.x8) := rfl
  rw [e, kA_cwout M D]
  exact kA_wout M D H x j

theorem kB_out (H : InB a b T D) (i : grid0.Coords) (hc : ¬cond0_0 i) (r : Fin 512) (d : Fin 1024) : (out0_B_10 (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9 D.xs0 D.xs1 D.xs2) (ix3 0 r d) = a.out b (trow T r) d := by
  unfold out0_B_10
  rw [View.read_writes_junk_eq_canon]
  have e : (kernelRun0_B (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9 D.xs0 D.xs1 D.xs2).1 = ⟨Rect.unit (s := S1x512x1024) ![0, 0, 0] S1x512x1024.size inb_S1x512x1024_S1x512x1024_0_0_0, k0_pay4 (F := Ideal) (kernelRun0_B.sl.v4834 (F := Ideal) M.c M.arg4 M.harg4 M.arg9 M.harg9 M.arg12 M.arg14 M.harg14 D.x2 D.x7 D.xs1) (kernelRun0_B.sl.v4836 (F := Ideal) M.c M.arg2 M.harg2 M.arg3 M.harg3 M.arg4 M.harg4 M.arg5 M.harg5 M.arg7 M.harg7 M.arg8 M.harg8 M.arg13 M.harg13 M.arg15 M.harg15 M.arg16 M.arg17 M.arg18 M.arg19 M.arg20 M.arg21 M.arg22 M.arg23 M.arg24 M.arg25 D.x0 D.x1 D.x2 D.x3 D.x5 D.x6 D.xs0 D.xs2) (View.readAt (Elt Ideal) M.arg14.view (Rect.unit (s := S1024x1024) ![0, 0] S512x1024.size inb_S1024x1024_S512x1024_0_0).toLoadRect (M.harg14.unread D.xs1)) (View.readAt (Elt Ideal) M.arg11.view (Rect.unit (s := S1x1024) ![0, 0] S1x1024.size inb_S1x1024_S1x1024_0_0).toLoadRect (M.harg11.unread D.x9))⟩ :: (kernelRun0_B.sl.H10_1 (F := Ideal) M.c M.arg4 M.harg4 M.arg9 M.harg9 M.arg14 M.harg14 D.x2 D.x7 D.xs1) := rfl
  rw [e, View.canon_cons_unit_lit _ _ _ (by decide)]
  exact kB_last M D H r d

/-- The pieces of the state. -/
def kB_SL : List (View.Piece (Elt Ideal) S4x128x128 .f32) :=
  [⟨Rect.unit (s := S4x128x128) ![3, 0, 0] S1x128x128.size inb_S4x128x128_S1x128x128_3_0_0, (k0_pay3 (F := Ideal) (kernelRun0_B.sl.v4801 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2))⟩,
    ⟨Rect.unit (s := S4x128x128) ![2, 0, 0] S1x128x128.size inb_S4x128x128_S1x128x128_2_0_0, (k0_pay2 (F := Ideal) (kernelRun0_B.sl.v4769 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2))⟩,
    ⟨Rect.unit (s := S4x128x128) ![1, 0, 0] S1x128x128.size inb_S4x128x128_S1x128x128_1_0_0, (k0_pay1 (F := Ideal) (kernelRun0_B.sl.v4737 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2))⟩,
    ⟨Rect.unit (s := S4x128x128) ![0, 0, 0] S1x128x128.size inb_S4x128x128_S1x128x128_0_0_0, (kernelRun0_B.sl.v4824 (F := Ideal) M.c M.arg2 M.harg2 M.arg4 M.harg4 M.arg5 M.harg5 M.arg7 M.harg7 M.arg13 M.harg13 M.arg15 M.harg15 M.arg17 M.arg18 M.arg19 M.arg23 M.arg24 D.x0 D.x2 D.x3 D.x5 D.xs0 D.xs2)⟩]

theorem kB_sout (H : InB a b T D) (i : grid0.Coords) (hc : ¬cond0_0 i) : (sout0_B_2 (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9 D.xs0 D.xs1 D.xs2) = carried a b T := by
  unfold sout0_B_2
  rw [View.read_writes_junk_eq_canon]
  have e : (kernelRun0_B (F := Ideal) M.c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 hc D.x0 D.x1 D.x2 D.x3 D.x4 D.x5 D.x6 D.x7 D.x8 D.x9 D.xs0 D.xs1 D.xs2).2.2.2.1 = kB_SL M D ++ [] := rfl
  rw [e]
  have hp : View.PiecesOf (carried a b T) (kB_SL M D) := by
    unfold kB_SL
    exact ⟨kB_t3 M D H, kB_t2 M D H, kB_t1 M D H, kB_t0 M D H, trivial⟩
  exact funext fun y => View.canon_append_of_piecesOf _ _ _ hp y (View.cover_of_tiledL (s := S4x128x128) _ S1x128x128.size (by sl_kernel_rfl) y)

end Cert.Hgrn
end
-- ==== Proof.RefProj.lean ====
/- The reference's values before its loop, read at an index: the projections, the gates' lower bound, their logarithms and
   the chunked arrays. -/
module

public import proofs.«01_k».proof.Proof.Spec
public import proofs.«01_k».proof.Proof.Gen.ReferenceIdeal.Step
public import Idealize.ShloMosaic.Lib.Pointwise

@[expose] public section

set_option maxRecDepth 16384

noncomputable section

namespace Cert.Hgrn

open Idealize.ShloMosaic Cert.ReferenceIdeal Cert.ReferenceIdeal.Gen Cert.ReferenceIdeal.Step

/-- The call's arguments as functions of their coordinates. -/
def argsOf (X : (⟨S2x8192x1024, .f32⟩ : BufTy).Contents (Elt Ideal)) (NW : (⟨S1x1024, .f32⟩ : BufTy).Contents (Elt Ideal))
    (W : (⟨S1x1024x4096, .f32⟩ : BufTy).Contents (Elt Ideal)) (L : (⟨S2x512, .f32⟩ : BufTy).Contents (Elt Ideal))
    (GN : (⟨S1x512, .f32⟩ : BufTy).Contents (Elt Ideal)) (OAT : (⟨S2x8192x512, .bf16⟩ : BufTy).Contents (Elt Ideal))
    (WO : (⟨S1x1024x1024, .f32⟩ : BufTy).Contents (Elt Ideal)) (FW : (⟨S1024, .f32⟩ : BufTy).Contents (Elt Ideal)) : Args where
  X := fun b t x => X (ix3 b t x)
  NW := fun x => NW (ix2 0 x)
  W := fun x j => W (ix3 0 x j)
  L := fun r n => L (ix2 r n)
  GN := fun n => GN (ix2 0 n)
  OAT := fun b t n => OAT (ix3 b t n)
  WO := fun x d => WO (ix3 0 x d)
  FW := fun d => FW (ix1 d)

variable (X : (⟨S2x8192x1024, .f32⟩ : BufTy).Contents (Elt Ideal)) (NW : (⟨S1x1024, .f32⟩ : BufTy).Contents (Elt Ideal))
    (W : (⟨S1x1024x4096, .f32⟩ : BufTy).Contents (Elt Ideal)) (L : (⟨S2x512, .f32⟩ : BufTy).Contents (Elt Ideal))
    (GN : (⟨S1x512, .f32⟩ : BufTy).Contents (Elt Ideal)) (OAT : (⟨S2x8192x512, .bf16⟩ : BufTy).Contents (Elt Ideal))
    (WO : (⟨S1x1024x1024, .f32⟩ : BufTy).Contents (Elt Ideal)) (FW : (⟨S1024, .f32⟩ : BufTy).Contents (Elt Ideal))

local notation "𝔞" => argsOf X NW W L GN OAT WO FW

/-- The queries' projection. -/
theorem ref_pq (b : Fin 2) (t : Fin 8192) (d : Fin 512) :
    A_main_v28 X NW W L (ix3 b t d) = (𝔞).p b t ⟨d.val, by omega⟩ := by
  unfold A_main_v28 A_main_v27 A_main_v26 A_main_v25 A_main_v24 A_main_v23 A_main_v22 A_main_v21 A_main_v20 A_main_v19 A_main_v17 A_main_v15 A_main_v14 A_main_v13 A_main_v12 K_main_v16 K_main_v18 K_main_cst_3 K_main_cst_4 K_main_cst_2
  pointwise
  rfl

/-- The gates' projection. -/
theorem ref_pf (b : Fin 2) (t : Fin 8192) (d : Fin 512) :
    A_main_v45 X NW W L (ix3 b t d) = (𝔞).p b t ⟨512 + d.val, by omega⟩ := by
  unfold A_main_v45 A_main_v44 A_main_v43 A_main_v42 A_main_v41 A_main_v40 A_main_v39 A_main_v38 A_main_v37 A_main_v36 A_main_v34 A_main_v32 A_main_v31 A_main_v30 A_main_v29 K_main_v33 K_main_v35 K_main_cst_5 K_main_cst_6 K_main_cst_7
  pointwise
  rfl

/-- The values' projection. -/
theorem ref_pi (b : Fin 2) (t : Fin 8192) (d : Fin 512) :
    A_main_v62 X NW W L (ix3 b t d) = (𝔞).p b t ⟨1024 + d.val, by omega⟩ := by
  unfold A_main_v62 A_main_v61 A_main_v60 A_main_v59 A_main_v58 A_main_v57 A_main_v56 A_main_v55 A_main_v54 A_main_v53 A_main_v51 A_main_v49 A_main_v48 A_main_v47 A_main_v46 K_main_v50 K_main_v52 K_main_cst_8 K_main_cst_9 K_main_cst_10
  pointwise
  rfl

/-- The first row of the softmax over the layers. -/
theorem ref_soft (d : Fin 512) : A_main_v10 X NW W L (ix2 0 d)
    = Ideal.div (Ideal.exp (L (ix2 0 d) - (𝔞).lmax d)) (Ideal.exp (L (ix2 0 d) - (𝔞).lmax d) + Ideal.exp (L (ix2 1 d) - (𝔞).lmax d)) := by
  unfold A_main_v10 A_main_v9 A_main_v8 A_main_v7 A_main_v6 A_main_v5 A_main_v4 A_main_v3 A_main_v2 A_main_v0 K_main_v1 K_main_cst K_main_cst_0 K_main_cst_1
  pointwise
  have hb : Ideal.ofBits FTy.f32 4286578688#32 = (⊥ : EReal) := by
    simp [Ideal.ofBits, Ideal.ieee]
  have hm : Finset.fold max (⊥ : EReal) (fun x : Fin 2 => L (ix2 x d)) Finset.univ = (𝔞).lmax d := by
    rw [show (Finset.univ : Finset (Fin 2)) = {0, 1} from rfl, Finset.fold_insert (by decide), Finset.fold_singleton, max_bot_right]
    rfl
  rw [hb, hm, max_bot_left, Fin.sum_univ_two]

/-- A chunk's row, written as the reference does. -/
theorem row_eq (c : Fin 128) (t : Fin 64) (h : c.val * 64 + t.val < 8192) : (⟨c.val * 64 + t.val, h⟩ : Fin 8192) = row c.val t :=
  Fin.ext (Nat.mod_eq_of_lt h).symm

/-- The gates' lower bound. -/
theorem ref_lb (d : Fin 512) : A_main_v65 X NW W L (ix1 d) = (𝔞).lb d := by
  unfold A_main_v65 A_main_call1_v2 A_main_v64 A_main_v63 A_main_v11 K_main_call1_v4 K_main_call1_v1 K_main_call1_v0 K_main_call1_v3 K_main_cst_11 K_main_cst_12
  pointwise
  have h := cumsum_first reduceWindows_S2x512_S2x512_w2s1p1_0_w1s1p0_0 (A_main_v10 X NW W L) d
  have h0 : (K_main_call0_call0_v0 (F := Ideal)) (Shape.Idx.first h_S_) = (0 : EReal) := by
    unfold K_main_call0_call0_v0 K_main_call0_call0_cst
    pointwise
  have h2 : Host.reduceWindowAdd (F := Ideal) (φ := .f32) (u := S_) ![2, 1] ![1, 1] ![1, 0] ![0, 0] (A_main_v10 X NW W L) (K_main_call0_call0_v0 (F := Ideal))
          reduceWindows_S2x512_S2x512_w2s1p1_0_w1s1p0_0 h_S_ (ix2 0 d) = A_main_v10 X NW W L (ix2 0 d) := by
    rw [← h, ← h0]
    rfl
  rw [h2, ref_soft X NW W L GN OAT WO FW d]
  rfl

/-- The sum of two logarithms written out, without its test for a number that is not itself. -/
theorem ref_lse (x y : EReal) : (if x - y ≠ x - y then x + y else max x y + Ideal.log1p (Ideal.exp (-(FloatOps.absf (F := Ideal) (φ := .f32) (x - y))))) = lse x y := by
  rw [if_neg (fun h => h rfl)]
  rfl

/-- The logarithm of a gate. -/
theorem ref_lg (b : Fin 2) (t : Fin 8192) (h : Fin 4) (d : Fin 128) :
    A_main_v103 X NW W L (ix4 b t h d) = ((Real.log ((𝔞).f b t (col h d)) : ℝ) : EReal) := by
  unfold A_main_v103 A_main_v102 A_main_v101 A_main_v100 A_main_v99 A_main_v98 A_main_v97 A_main_v96 A_main_v95 A_main_v94 A_main_v93 A_main_v92 A_main_v91 A_main_v90 A_main_v89 A_main_v88 A_main_v87
  unfold A_main_v86 A_main_v85 A_main_v84 A_main_v83 A_main_v82 A_main_v81 A_main_v80 A_main_v78 A_main_v77 A_main_v75 A_main_v73 A_main_v72 A_main_v71 A_main_v70 A_main_v68 A_main_v66 K_main_v74 K_main_v76 K_main_v79 K_main_cst_13
  pointwise
  rw [← ((𝔞).f_spec b t (col h d)).2.2.2]
  rw [if_neg (fun h => h rfl), if_neg (fun h => h rfl)]
  rw [ref_lb X NW W L GN OAT WO FW, ref_pf X NW W L GN OAT WO FW]
  unfold logGate lse eabs
  rw [show (-(𝔞).p b t ⟨512 + (col h d).val, by have := (col h d).isLt; omega⟩ : EReal) - 0 = -(𝔞).p b t ⟨512 + (col h d).val, by have := (col h d).isLt; omega⟩ from sub_zero _]
  rfl

/-- The queries of a chunk. -/
theorem ref_Q (c : Fin 128) (b : Fin 2) (h : Fin 4) (t : Fin 64) (d : Fin 128) :
    A_main_v117 X NW W L (ix5 c b h t d) = (𝔞).Q b h c.val t d := by
  unfold A_main_v117 A_main_v116 A_main_v106 A_main_call2_v5 A_main_call2_v3 A_main_call2_v1 A_main_call2_v0 A_main_v67 K_main_call2_v4 K_main_call2_v2 K_main_call2_cst K_main_call2_cst_0
  pointwise
  rw [ref_pq X NW W L GN OAT WO FW, row_eq]
  rfl

/-- The keys of a chunk. -/
theorem ref_K (c : Fin 128) (b : Fin 2) (h : Fin 4) (t : Fin 64) (d : Fin 128) :
    A_main_v119 X NW W L (ix5 c b h t d) = (𝔞).K b h c.val t d := by
  unfold A_main_v119 A_main_v118 A_main_v105 A_main_v104
  pointwise
  rw [ref_lg X NW W L GN OAT WO FW, row_eq, Ideal.exp_coe, Real.exp_log ((𝔞).f_spec b (row c.val t) (col h d)).1]
  show -((((𝔞).f b (row c.val t) (col h d) : ℝ) : EReal) - 1) = ((1 - (𝔞).f b (row c.val t) (col h d) : ℝ) : EReal)
  rw [← EReal.coe_one, ← EReal.coe_sub, ← EReal.coe_neg, neg_sub]

/-- The values of a chunk. -/
theorem ref_V (c : Fin 128) (b : Fin 2) (h : Fin 4) (t : Fin 64) (d : Fin 128) :
    A_main_v121 X NW W L (ix5 c b h t d) = (𝔞).V b h c.val t d := by
  unfold A_main_v121 A_main_v120 A_main_v69
  pointwise
  rw [ref_pi X NW W L GN OAT WO FW, row_eq]
  rfl

/-- The logarithms of a chunk. -/
theorem ref_G (c : Fin 128) (b : Fin 2) (h : Fin 4) (t : Fin 64) (d : Fin 128) :
    A_main_v123 X NW W L (ix5 c b h t d) = (((𝔞).G b h c.val t d : ℝ) : EReal) := by
  unfold A_main_v123 A_main_v122
  pointwise
  rw [ref_lg X NW W L GN OAT WO FW, row_eq]
  rfl

end Cert.Hgrn
end
-- ==== Proof.RefTrip.lean ====
/- One trip of the reference's loop read at an index: the state a chunk leaves and the rows it gives. -/
module

public import proofs.«01_k».proof.Proof.RefProj
public import proofs.«01_k».proof.Proof.Window
public import Idealize.ShloMosaic.Lib.Pointwise

@[expose] public section

set_option maxRecDepth 16384

noncomputable section

namespace Cert.Hgrn

open Idealize.ShloMosaic Cert.ReferenceIdeal Cert.ReferenceIdeal.Gen Cert.ReferenceIdeal.Step

/-- A small number, as a word, is itself. -/
theorem word_toInt (j : ℕ) (hj : j < 128) : (BitVec.ofNat 32 j).toInt = (j : ℤ) := by
  rw [BitVec.toInt_eq_toNat_of_lt (by rw [BitVec.toNat_ofNat]; omega), BitVec.toNat_ofNat, Nat.mod_eq_of_lt (by omega)]

/-- A sum of reals, as extended reals. -/
theorem coe_sum64 {n : ℕ} (g : Fin n → ℝ) : ((∑ i, g i : ℝ) : EReal) = ∑ i, (g i : EReal) := by
  induction n with
  | zero => rfl
  | succ n ih => rw [Fin.sum_univ_succ, Fin.sum_univ_succ, EReal.coe_add, ih]

/-- The clamped starts of a chunk's window. -/
theorem starts_at (start : Fin 5 → ℤ) (j : Fin 128) (h0 : start 0 = (j.val : ℤ)) (h' : start 1 = 0 ∧ start 2 = 0 ∧ start 3 = 0 ∧ start 4 = 0) (hr : S1x2x4x64x128.rank = S128x2x4x64x128.rank) (a : Fin 5) :
    Host.clampedStart S128x2x4x64x128 S1x2x4x64x128 hr start a = if a = 0 then j.val else 0 := by
  have hj := j.isLt
  fin_cases a
  · exact Host.clampedStart_of_le (s := S128x2x4x64x128) (t := S1x2x4x64x128) hr start (0 : Fin 5) j.val h0 (by show j.val + 1 ≤ 128; omega)
  · exact Host.clampedStart_of_le (s := S128x2x4x64x128) (t := S1x2x4x64x128) hr start (1 : Fin 5) 0 h'.1 (by show 0 + 2 ≤ 2; omega)
  · exact Host.clampedStart_of_le (s := S128x2x4x64x128) (t := S1x2x4x64x128) hr start (2 : Fin 5) 0 h'.2.1 (by show 0 + 4 ≤ 4; omega)
  · exact Host.clampedStart_of_le (s := S128x2x4x64x128) (t := S1x2x4x64x128) hr start (3 : Fin 5) 0 h'.2.2.1 (by show 0 + 64 ≤ 64; omega)
  · exact Host.clampedStart_of_le (s := S128x2x4x64x128) (t := S1x2x4x64x128) hr start (4 : Fin 5) 0 h'.2.2.2 (by show 0 + 128 ≤ 128; omega)

/-- Reading the chunk `j`. -/
theorem slice_at (x : S128x2x4x64x128.Idx → EReal) (start : Fin 5 → ℤ) (j : Fin 128) (h0 : start 0 = (j.val : ℤ)) (h' : start 1 = 0 ∧ start 2 = 0 ∧ start 3 = 0 ∧ start 4 = 0)
    (hf : S128x2x4x64x128.Slices (fun _ => 0) S1x2x4x64x128) (b : Fin 2) (h : Fin 4) (t : Fin 64) (d : Fin 128) :
    Host.dynamicSlice S1x2x4x64x128 x start hf (ix5 0 b h t d) = x (ix5 j b h t d) := by
  rw [Host.dynamicSlice_apply]
  refine congrArg x (funext fun a => Fin.ext ?_)
  show Host.clampedStart S128x2x4x64x128 S1x2x4x64x128 _ start a + _ = _
  rw [starts_at start j h0 h' _ a]
  fin_cases a
  · show j.val + 0 = j.val; omega
  · show 0 + b.val = b.val; omega
  · show 0 + h.val = h.val; omega
  · show 0 + t.val = t.val; omega
  · show 0 + d.val = d.val; omega

/-- Writing the chunk `j`. -/
theorem update_at (x : S128x2x4x64x128.Idx → EReal) (u : S1x2x4x64x128.Idx → EReal) (start : Fin 5 → ℤ) (j : Fin 128) (h0 : start 0 = (j.val : ℤ)) (h' : start 1 = 0 ∧ start 2 = 0 ∧ start 3 = 0 ∧ start 4 = 0)
    (hf : S128x2x4x64x128.Slices (fun _ => 0) S1x2x4x64x128) (c : Fin 128) (b : Fin 2) (h : Fin 4) (t : Fin 64) (d : Fin 128) :
    Host.dynamicUpdateSlice x u start hf (ix5 c b h t d) = if c = j then u (ix5 0 b h t d) else x (ix5 c b h t d) := by
  have hb := b.isLt; have hh := h.isLt; have ht := t.isLt; have hd := d.isLt
  rw [Host.dynamicUpdateSlice_apply]
  by_cases hc : c = j
  · rw [if_pos hc, dif_pos ?_]
    · refine congrArg u (funext fun a => Fin.ext ?_)
      show _ - Host.clampedStart S128x2x4x64x128 S1x2x4x64x128 _ start a = _
      rw [starts_at start j h0 h' _ a]
      fin_cases a
      · show c.val - j.val = 0; rw [hc]; omega
      · show b.val - 0 = b.val; omega
      · show h.val - 0 = h.val; omega
      · show t.val - 0 = t.val; omega
      · show d.val - 0 = d.val; omega
    · intro a
      rw [starts_at start j h0 h' _ a]
      fin_cases a
      · show j.val ≤ c.val ∧ c.val < j.val + 1; rw [hc]; omega
      · show 0 ≤ b.val ∧ b.val < 0 + 2; omega
      · show 0 ≤ h.val ∧ h.val < 0 + 4; omega
      · show 0 ≤ t.val ∧ t.val < 0 + 64; omega
      · show 0 ≤ d.val ∧ d.val < 0 + 128; omega
  · rw [if_neg hc, dif_neg ?_]
    intro hin
    have h1 := hin (0 : Fin 5)
    rw [starts_at start j h0 h' _ (0 : Fin 5)] at h1
    have h2 : j.val ≤ c.val ∧ c.val < j.val + 1 := h1
    exact hc (Fin.ext (by omega))

variable (s : State Ideal) (j : Fin 128) (b : Fin 2) (h : Fin 4)

theorem trip_q (t : Fin 64) (d : Fin 128) : b5 j.val s (ix4 b h t d) = s.main_v125_0 (ix5 j b h t d) := by
  unfold b5
  pointwise
  unfold b4
  exact slice_at _ _ j (word_toInt j.val j.isLt) ⟨rfl, rfl, rfl, rfl⟩ _ b h t d
theorem trip_k (t : Fin 64) (d : Fin 128) : b11 j.val s (ix4 b h t d) = s.main_v125_1 (ix5 j b h t d) := by
  unfold b11
  pointwise
  unfold b10
  exact slice_at _ _ j (word_toInt j.val j.isLt) ⟨rfl, rfl, rfl, rfl⟩ _ b h t d
theorem trip_v (t : Fin 64) (d : Fin 128) : b17 j.val s (ix4 b h t d) = s.main_v125_2 (ix5 j b h t d) := by
  unfold b17
  pointwise
  unfold b16
  exact slice_at _ _ j (word_toInt j.val j.isLt) ⟨rfl, rfl, rfl, rfl⟩ _ b h t d
theorem trip_g (t : Fin 64) (d : Fin 128) : b23 j.val s (ix4 b h t d) = s.main_v125_3 (ix5 j b h t d) := by
  unfold b23
  pointwise
  unfold b22
  exact slice_at _ _ j (word_toInt j.val j.isLt) ⟨rfl, rfl, rfl, rfl⟩ _ b h t d

/-- The sums of a chunk's logarithms. -/
theorem trip_cum (g : Fin 64 → Fin 128 → ℝ) (hg : ∀ t d, s.main_v125_3 (ix5 j b h t d) = (g t d : EReal)) (t : Fin 64) (d : Fin 128) :
    b26 j.val s (ix4 b h t d) = ((cum (fun r => g r d) t : ℝ) : EReal) := by
  have hz : (b25 j.val s) (Shape.Idx.first h_S_) = (0 : EReal) := by
    unfold b25 b24
    pointwise
  have e := cumsum_third reduceWindows_S2x4x64x128_S2x4x64x128_w1s1p0_0_w1s1p0_0_w64s1p63_0_w1s1p0_0 (b23 j.val s) b h t d
  rw [← hz] at e
  refine (show b26 j.val s (ix4 b h t d) = _ from e).trans ?_
  rw [hz]
  unfold cum
  rw [coe_sum64]
  refine Finset.sum_congr rfl fun r _ => ?_
  rw [trip_g, hg]
  split <;> rfl

variable (g : Fin 64 → Fin 128 → ℝ) (hg : ∀ t d, s.main_v125_3 (ix5 j b h t d) = (g t d : EReal))
variable (q k v : Fin 64 → Fin 128 → EReal) (σ : Fin 128 → Fin 128 → EReal)
variable (hq : ∀ t d, s.main_v125_0 (ix5 j b h t d) = q t d) (hk : ∀ t d, s.main_v125_1 (ix5 j b h t d) = k t d)
  (hv : ∀ t d, s.main_v125_2 (ix5 j b h t d) = v t d) (hσ : ∀ i d, s.main_v125_6 (ix4 b h i d) = σ i d)

include hg hq hσ in
/-- What the state gives a row. -/
theorem trip_inter (t : Fin 64) (d : Fin 128) : b29 j.val s (ix4 b h t d) = inter q g σ t d := by
  unfold b29 b28 b27
  pointwise
  unfold inter
  refine Finset.sum_congr rfl fun i _ => ?_
  rw [trip_cum s j b h g hg, trip_q, hq, hσ, Ideal.exp_coe]

/-- The mask of the rows not after a row. -/
theorem trip_mask (t r : Fin 64) (d : Fin 128) : b37 j.val s (ix5 b h t r d) = (if r ≤ t then 1#1 else 0#1) := by
  unfold b37 K_main_v114 K_main_v113 K_main_v111 K_main_v112 K_main_v108 K_main_v110 K_main_v107 K_main_v109
  pointwise
  have ht := t.isLt; have hr := r.isLt
  have a1 : (BitVec.ofNat 32 t.val).toInt = (t.val : ℤ) := word_toInt _ (by omega)
  have a2 : (BitVec.ofNat 32 r.val).toInt = (r.val : ℤ) := word_toInt _ (by omega)
  show BitVec.ofBool ((BitVec.ofNat 32 r.val).sle (BitVec.ofNat 32 t.val)) = _
  by_cases h : r ≤ t
  · rw [if_pos h, show (BitVec.ofNat 32 r.val).sle (BitVec.ofNat 32 t.val) = true from by
      rw [BitVec.sle_iff_toInt_le, a1, a2]; exact Int.ofNat_le.mpr h]
    rfl
  · rw [if_neg h, show (BitVec.ofNat 32 r.val).sle (BitVec.ofNat 32 t.val) = false from by
      rw [Bool.eq_false_iff, ne_eq, BitVec.sle_iff_toInt_le, a1, a2]; exact fun q => h (Int.ofNat_le.mp q)]
    rfl

include hg hq hk in
/-- The scores of a chunk. -/
theorem trip_score (t r : Fin 64) : b48 j.val s (ix4 b h t r) = score q k g t r := by
  unfold b48 b47 b46 b45 b44 b43 b42 b41 b40 b39 b38 b36 b35 b34 b33 b32 b31 b30
  pointwise
  have hb : Ideal.ofBits FTy.f32 4286578688#32 = (⊥ : EReal) := by
    simp [Ideal.ofBits, Ideal.ieee]
  unfold score
  refine Finset.sum_congr rfl fun d _ => ?_
  rw [trip_mask, trip_cum s j b h g hg, trip_cum s j b h g hg, trip_q, hq, trip_k, hk, hb]
  by_cases hr : r ≤ t
  · rw [if_pos hr, if_pos hr, EReal.coe_sub]
    rfl
  · rw [if_neg hr, if_neg hr]
    rfl

include hg hq hk hv in
/-- What a chunk's own rows give a row. -/
theorem trip_intra (t : Fin 64) (d : Fin 128) : b49 j.val s (ix4 b h t d) = intra q k v g t d := by
  unfold b49
  pointwise
  unfold intra
  refine Finset.sum_congr rfl fun r _ => ?_
  rw [trip_score s j b h g hg q k hq hk, trip_v, hv]

include hg hk hv hσ in
/-- The state a chunk leaves. -/
theorem trip_next (i d : Fin 128) : b61 j.val s (ix4 b h i d) = keep g i * σ i d + gain k v g i d := by
  unfold b61 b60 b59 b58 b57 b56 b55 b54 b53 b52 b51 b50
  pointwise
  unfold keep gain
  rw [trip_cum s j b h g hg, hσ, Ideal.exp_coe]
  refine congrArg _ (Finset.sum_congr rfl fun t _ => ?_)
  rw [trip_cum s j b h g hg, trip_k, hk, trip_v, hv, ← EReal.coe_sub, Ideal.exp_coe]

/-- What a trip writes, and what it keeps. -/
theorem trip_out (c : Fin 128) (t : Fin 64) (d : Fin 128) : b68 j.val s (ix5 c b h t d)
    = if c = j then b62 j.val s (ix4 b h t d) else s.main_v125_7 (ix5 c b h t d) := by
  unfold b68 b63
  refine (update_at _ _ _ j (word_toInt j.val j.isLt) ⟨rfl, rfl, rfl, rfl⟩ _ c b h t d).trans ?_
  pointwise

end Cert.Hgrn
end
-- ==== Proof.RefRun.lean ====
/- The reference's run as states: what its loop's buffers hold before each trip. -/
module

public import proofs.«01_k».proof.Proof.Gen.ReferenceIdeal.Run
public import proofs.«01_k».proof.Proof.Gen.ReferenceIdeal.Step

@[expose] public section

noncomputable section

namespace Cert.Hgrn

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The loop's buffers before trip `j`: the state `s`, the trip's number and the causal mask. -/
def AtTrip (V : Valuation τ sig (Elt F)) (s : Step.State F) (j : ℕ) : Prop :=
  (V (Proc.devRef .tc main_v125_0) = s.main_v125_0 ∧ V (Proc.devRef .tc main_v125_1) = s.main_v125_1
    ∧ V (Proc.devRef .tc main_v125_2) = s.main_v125_2 ∧ V (Proc.devRef .tc main_v125_3) = s.main_v125_3)
  ∧ (V (Proc.devRef .tc main_v125_6) = s.main_v125_6 ∧ V (Proc.devRef .tc main_v125_7) = s.main_v125_7)
  ∧ V (Proc.devRef .tc main_v125_5) = constantI S_ 32 (BitVec.ofNat 32 j)
  ∧ V (Proc.devRef .tc main_v125_4) = Step.K_main_v114 (F := F)

set_option maxRecDepth 16384 in
/-- The state after a trip. -/
theorem trip_state {V : Valuation τ sig (Elt F)} {s : Step.State F} {j : ℕ} (h : AtTrip V s j) :
    step_main_v125_6 V = Step.b61 j s := by
  obtain ⟨⟨h0, h1, h2, h3⟩, ⟨h6, h7⟩, h5, h4⟩ := h
  unfold step_main_v125_6 res_main_while0b_v204 res_main_while0b_v182 res_main_while0b_v183 res_main_while0b_v185
  rw [h1, h2, h3, h5, h6]
  rfl

set_option maxRecDepth 16384 in
/-- The outputs after a trip. -/
theorem trip_outputs {V : Valuation τ sig (Elt F)} {s : Step.State F} {j : ℕ} (h : AtTrip V s j) :
    step_main_v125_7 V = Step.b68 j s := by
  obtain ⟨⟨h0, h1, h2, h3⟩, ⟨h6, h7⟩, h5, h4⟩ := h
  unfold step_main_v125_7 res_main_while0b_v181 res_main_while0b_v182 res_main_while0b_v183 res_main_while0b_v185
  rw [h0, h1, h2, h3, h4, h5, h6, h7]
  rfl

/-- The trip's number goes on by one. -/
theorem trip_number {V : Valuation τ sig (Elt F)} {s : Step.State F} {j : ℕ} (h : AtTrip V s j) :
    step_main_v125_5 V = constantI S_ 32 (BitVec.ofNat 32 (j + 1)) := by
  unfold step_main_v125_5
  rw [h.2.2.1]
  funext i
  show BitVec.ofNat 32 j + 1#32 = BitVec.ofNat 32 (j + 1)
  rw [BitVec.ofNat_add]

/-- A trip takes a state to the next. -/
theorem atTrip_next {V : Valuation τ sig (Elt F)} {s : Step.State F} {j : ℕ} (h : AtTrip V s j) :
    AtTrip (STEP V) (Step.step j s) (j + 1) :=
  ⟨⟨(STEP_main_v125_0 V).trans h.1.1, (STEP_main_v125_1 V).trans h.1.2.1, (STEP_main_v125_2 V).trans h.1.2.2.1,
      (STEP_main_v125_3 V).trans h.1.2.2.2⟩,
    ⟨((STEP_main_v125_6 V).trans (trip_state h)).trans (Step.step_main_v125_6 j s).symm,
      ((STEP_main_v125_7 V).trans (trip_outputs h)).trans (Step.step_main_v125_7 j s).symm⟩,
    (STEP_main_v125_5 V).trans (trip_number h), (STEP_main_v125_4 V).trans h.2.2.2⟩

variable (m : (ℓ : Loc nD τ sig) → Buf (Elt F) ℓ) (c : Dev nD)

/-- The state the loop starts from. -/
def start : Step.State F :=
  Step.init (m ((c.tc : Thread nD τ).loc main_arg0)) (m ((c.tc : Thread nD τ).loc main_arg1))
    (m ((c.tc : Thread nD τ).loc main_arg2)) (m ((c.tc : Thread nD τ).loc main_arg3))

/-- The state before trip `n`. -/
def states : ℕ → Step.State F
  | 0 => start m c
  | n + 1 => Step.step n (states n)

set_option maxRecDepth 65536 in
set_option maxHeartbeats 1000000 in
/-- What is computed before the loop is the first state. -/
theorem atTrip_start : AtTrip (entryContents preI m c) (start m c) 0 := by
  refine ⟨⟨?_, ?_, ?_, ?_⟩, ⟨?_, ?_⟩, ?_, ?_⟩ <;>
    (simp only [entryContents, afterL_cons, afterL_nil]; after_reads_simp) <;> rfl

/-- Before each trip the loop's buffers hold that trip's state. -/
theorem atTrip_states : ∀ n, AtTrip (STEP^[n] (entryContents preI m c)) (states m c n) n
  | 0 => atTrip_start m c
  | n + 1 => by
    rw [Function.iterate_succ_apply']
    exact atTrip_next (atTrip_states n)

set_option maxRecDepth 16384 in
/-- What follows the loop, of its last state and the arguments. -/
theorem after_loop : out_main_v180 (STEP^[128] (entryContents preI m c))
    = Step.R_main_v180 (states m c 128) (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg5))
        (m ((c.tc : Thread nD τ).loc main_arg6)) (m ((c.tc : Thread nD τ).loc main_arg7)) := by
  unfold out_main_v180
  rw [(atTrip_states m c 128).2.1.2, iter_main_arg0 m c 128, iter_main_arg1 m c 128, iter_main_arg2 m c 128,
    iter_main_arg4 m c 128, iter_main_arg5 m c 128, iter_main_arg6 m c 128, iter_main_arg7 m c 128]
  rfl

end Cert.Hgrn
end
-- ==== Proof.RefValue.lean ====
/- The reference's result: its loop's states by induction, and what follows the loop, read at an index. -/
module

public import proofs.«01_k».proof.Proof.RefTrip
public import proofs.«01_k».proof.Proof.RefRun
public import Idealize.ShloMosaic.Lib.Pointwise

@[expose] public section

set_option maxRecDepth 16384

noncomputable section

namespace Cert.Hgrn

open Idealize.ShloMosaic Cert.ReferenceIdeal Cert.ReferenceIdeal.Gen Cert.ReferenceIdeal.Step

variable (X : (⟨S2x8192x1024, .f32⟩ : BufTy).Contents (Elt Ideal)) (NW : (⟨S1x1024, .f32⟩ : BufTy).Contents (Elt Ideal))
    (W : (⟨S1x1024x4096, .f32⟩ : BufTy).Contents (Elt Ideal)) (L : (⟨S2x512, .f32⟩ : BufTy).Contents (Elt Ideal))
    (GN : (⟨S1x512, .f32⟩ : BufTy).Contents (Elt Ideal)) (OAT : (⟨S2x8192x512, .bf16⟩ : BufTy).Contents (Elt Ideal))
    (WO : (⟨S1x1024x1024, .f32⟩ : BufTy).Contents (Elt Ideal)) (FW : (⟨S1024, .f32⟩ : BufTy).Contents (Elt Ideal))

local notation "𝔞" => argsOf X NW W L GN OAT WO FW

/-- The states of the loop, from its first. -/
def iter (s : State Ideal) : ℕ → State Ideal
  | 0 => s
  | n + 1 => step n (iter s n)

/-- What the trips before `n` leave. -/
theorem iter_spec (b : Fin 2) (h : Fin 4) (n : ℕ) (hn : n ≤ 128) :
    (iter (init X NW W L) n).main_v125_0 = A_main_v117 X NW W L ∧ (iter (init X NW W L) n).main_v125_1 = A_main_v119 X NW W L
    ∧ (iter (init X NW W L) n).main_v125_2 = A_main_v121 X NW W L ∧ (iter (init X NW W L) n).main_v125_3 = A_main_v123 X NW W L
    ∧ (∀ i j, (iter (init X NW W L) n).main_v125_6 (ix4 b h i j) = (𝔞).S b h n i j)
    ∧ (∀ c : Fin 128, c.val < n → ∀ t j, (iter (init X NW W L) n).main_v125_7 (ix5 c b h t j) = (𝔞).O b h c.val t j) := by
  induction n with
  | zero =>
    refine ⟨rfl, rfl, rfl, rfl, fun i j => ?_, fun c hc => absurd hc (Nat.not_lt_zero _)⟩
    show K_main_v115 (F := Ideal) (ix4 b h i j) = 0
    unfold K_main_v115 K_main_cst_14
    pointwise
  | succ n ih =>
    obtain ⟨e0, e1, e2, e3, es, eo⟩ := ih (by omega)
    have hq : ∀ t d, (iter (init X NW W L) n).main_v125_0 (ix5 ⟨n, by omega⟩ b h t d) = (𝔞).Q b h n t d := fun t d => by
      rw [e0]; exact ref_Q X NW W L GN OAT WO FW ⟨n, by omega⟩ b h t d
    have hk : ∀ t d, (iter (init X NW W L) n).main_v125_1 (ix5 ⟨n, by omega⟩ b h t d) = (𝔞).K b h n t d := fun t d => by
      rw [e1]; exact ref_K X NW W L GN OAT WO FW ⟨n, by omega⟩ b h t d
    have hv : ∀ t d, (iter (init X NW W L) n).main_v125_2 (ix5 ⟨n, by omega⟩ b h t d) = (𝔞).V b h n t d := fun t d => by
      rw [e2]; exact ref_V X NW W L GN OAT WO FW ⟨n, by omega⟩ b h t d
    have hg : ∀ t d, (iter (init X NW W L) n).main_v125_3 (ix5 ⟨n, by omega⟩ b h t d) = ((𝔞).G b h n t d : EReal) := fun t d => by
      rw [e3]; exact ref_G X NW W L GN OAT WO FW ⟨n, by omega⟩ b h t d
    refine ⟨e0, e1, e2, e3, fun i j => ?_, fun c hc t j => ?_⟩
    · exact trip_next (iter (init X NW W L) n) ⟨n, by omega⟩ b h _ hg _ _ _ hk hv es i j
    · show b68 n (iter (init X NW W L) n) (ix5 c b h t j) = _
      rw [trip_out (iter (init X NW W L) n) ⟨n, by omega⟩ b h c t j]
      by_cases h' : c = ⟨n, by omega⟩
      · rw [if_pos h', h']
        unfold b62
        pointwise
        rw [trip_inter (iter (init X NW W L) n) ⟨n, by omega⟩ b h _ hg _ _ hq es, trip_intra (iter (init X NW W L) n) ⟨n, by omega⟩ b h _ hg _ _ _ hq hk hv]
        rfl
      · rw [if_neg h']
        exact eo c (Nat.lt_of_le_of_ne (Nat.lt_succ_iff.mp hc) (fun q => h' (Fin.ext q))) t j

/-- The result. -/
theorem ref_out (s : State Ideal) (hs : ∀ b h (c : Fin 128) t j, s.main_v125_7 (ix5 c b h t j) = (𝔞).O b h c.val t j)
    (b : Fin 2) (t : Fin 8192) (d : Fin 1024) : R_main_v180 s X NW W GN OAT WO FW (ix3 b t d) = (𝔞).out b t d := by
  unfold R_main_v180
  pointwise
  have hrow : ∀ t : Fin 8192, row (t.val / 64) ⟨t.val % 64, Nat.mod_lt _ (by norm_num)⟩ = t := fun t =>
    Fin.ext (by have := t.isLt; show (t.val / 64 * 64 + t.val % 64) % 8192 = t.val; omega)
  have hcol : ∀ x : Fin 512, (col ⟨x.val / 128, by omega⟩ ⟨x.val % 128, Nat.mod_lt _ (by norm_num)⟩).val = x.val := fun x => by
    show x.val / 128 * 128 + x.val % 128 = x.val; omega
  unfold Args.out Args.res Args.ohg
  simp only [hs, hrow, hcol]
  rfl

/-- The result, of the arguments alone. -/
theorem ref_result (b : Fin 2) (t : Fin 8192) (d : Fin 1024) : R_main_v180 (iter (init X NW W L) 128) X NW W GN OAT WO FW (ix3 b t d) = (𝔞).out b t d :=
  ref_out X NW W L GN OAT WO FW _ (fun b h c t j => (iter_spec X NW W L GN OAT WO FW b h 128 le_rfl).2.2.2.2.2 c c.isLt t j) b t d

/-- The program's states are those of the iteration. -/
theorem states_eq (m : (ℓ : Loc Cert.ReferenceIdeal.nD τ sig) → Buf (Elt Ideal) ℓ) (c : Dev Cert.ReferenceIdeal.nD) (n : ℕ) : states m c n = iter (start m c) n := by
  induction n with
  | zero => rfl
  | succ n ih => exact congrArg (step n) ih

end Cert.Hgrn
end
-- ==== Proof.Tables.lean ====
/- The two tables the kernel is given: the coefficients of its sums, and the levels of its rows and columns. -/
module

public import proofs.«01_k».proof.Proof.Unit
public import proofs.«01_k».proof.KernelIdeal

@[expose] public section

set_option maxRecDepth 16384

noncomputable section

namespace Cert.Hgrn

open Idealize.ShloMosaic Cert.KernelIdeal

/-- The word of a coefficient. -/
def coefW (z : ℤ) : BitVec 16 := if z = 2 then 0x3F80#16 else if z = 1 then 0x3F00#16 else if z = 0 then 0x0000#16 else 0xBF00#16

theorem words_l0 : ∀ (i : Fin 16) (s : Fin 64), lit0 ⟨(0 + i.val) * 128 + s.val, by omega⟩ = coefW (coefZ ⟨0 + i.val, by omega⟩ s) := by
  decide +kernel

theorem words_r0 : ∀ (i : Fin 16) (s : Fin 64), lit0 ⟨(0 + i.val) * 128 + (64 + s.val), by omega⟩ = coefW (coefZ ⟨0 + i.val, by omega⟩ s) := by
  decide +kernel

theorem words_l1 : ∀ (i : Fin 16) (s : Fin 64), lit0 ⟨(16 + i.val) * 128 + s.val, by omega⟩ = coefW (coefZ ⟨16 + i.val, by omega⟩ s) := by
  decide +kernel

theorem words_r1 : ∀ (i : Fin 16) (s : Fin 64), lit0 ⟨(16 + i.val) * 128 + (64 + s.val), by omega⟩ = coefW (coefZ ⟨16 + i.val, by omega⟩ s) := by
  decide +kernel

theorem words_l2 : ∀ (i : Fin 16) (s : Fin 64), lit0 ⟨(32 + i.val) * 128 + s.val, by omega⟩ = coefW (coefZ ⟨32 + i.val, by omega⟩ s) := by
  decide +kernel

theorem words_r2 : ∀ (i : Fin 16) (s : Fin 64), lit0 ⟨(32 + i.val) * 128 + (64 + s.val), by omega⟩ = coefW (coefZ ⟨32 + i.val, by omega⟩ s) := by
  decide +kernel

theorem words_l3 : ∀ (i : Fin 16) (s : Fin 64), lit0 ⟨(48 + i.val) * 128 + s.val, by omega⟩ = coefW (coefZ ⟨48 + i.val, by omega⟩ s) := by
  decide +kernel

theorem words_r3 : ∀ (i : Fin 16) (s : Fin 64), lit0 ⟨(48 + i.val) * 128 + (64 + s.val), by omega⟩ = coefW (coefZ ⟨48 + i.val, by omega⟩ s) := by
  decide +kernel

theorem words_l4 : ∀ (i : Fin 16) (s : Fin 64), lit0 ⟨(64 + i.val) * 128 + s.val, by omega⟩ = coefW (coefZ ⟨64 + i.val, by omega⟩ s) := by
  decide +kernel

theorem words_r4 : ∀ (i : Fin 16) (s : Fin 64), lit0 ⟨(64 + i.val) * 128 + (64 + s.val), by omega⟩ = coefW (coefZ ⟨64 + i.val, by omega⟩ s) := by
  decide +kernel

theorem words_l5 : ∀ (i : Fin 16) (s : Fin 64), lit0 ⟨(80 + i.val) * 128 + s.val, by omega⟩ = coefW (coefZ ⟨80 + i.val, by omega⟩ s) := by
  decide +kernel

theorem words_r5 : ∀ (i : Fin 16) (s : Fin 64), lit0 ⟨(80 + i.val) * 128 + (64 + s.val), by omega⟩ = coefW (coefZ ⟨80 + i.val, by omega⟩ s) := by
  decide +kernel

theorem words_l6 : ∀ (i : Fin 16) (s : Fin 64), lit0 ⟨(96 + i.val) * 128 + s.val, by omega⟩ = coefW (coefZ ⟨96 + i.val, by omega⟩ s) := by
  decide +kernel

theorem words_r6 : ∀ (i : Fin 16) (s : Fin 64), lit0 ⟨(96 + i.val) * 128 + (64 + s.val), by omega⟩ = coefW (coefZ ⟨96 + i.val, by omega⟩ s) := by
  decide +kernel

theorem words_l7 : ∀ (i : Fin 16) (s : Fin 64), lit0 ⟨(112 + i.val) * 128 + s.val, by omega⟩ = coefW (coefZ ⟨112 + i.val, by omega⟩ s) := by
  decide +kernel

theorem words_r7 : ∀ (i : Fin 16) (s : Fin 64), lit0 ⟨(112 + i.val) * 128 + (64 + s.val), by omega⟩ = coefW (coefZ ⟨112 + i.val, by omega⟩ s) := by
  decide +kernel

theorem words_l (i : Fin 128) (s : Fin 64) : lit0 ⟨i.val * 128 + s.val, by omega⟩ = coefW (coefZ i s) := by
  obtain ⟨i, hi⟩ := i
  have : i < 16 ∨ (16 ≤ i ∧ i < 32) ∨ (32 ≤ i ∧ i < 48) ∨ (48 ≤ i ∧ i < 64) ∨ (64 ≤ i ∧ i < 80) ∨ (80 ≤ i ∧ i < 96) ∨ (96 ≤ i ∧ i < 112) ∨ (112 ≤ i ∧ i < 128) := by omega
  rcases this with h | h | h | h | h | h | h | h
  · simpa only [Nat.zero_add] using words_l0 ⟨i, h⟩ s
  · obtain ⟨k, rfl⟩ := Nat.exists_eq_add_of_le h.1
    exact words_l1 ⟨k, by omega⟩ s
  · obtain ⟨k, rfl⟩ := Nat.exists_eq_add_of_le h.1
    exact words_l2 ⟨k, by omega⟩ s
  · obtain ⟨k, rfl⟩ := Nat.exists_eq_add_of_le h.1
    exact words_l3 ⟨k, by omega⟩ s
  · obtain ⟨k, rfl⟩ := Nat.exists_eq_add_of_le h.1
    exact words_l4 ⟨k, by omega⟩ s
  · obtain ⟨k, rfl⟩ := Nat.exists_eq_add_of_le h.1
    exact words_l5 ⟨k, by omega⟩ s
  · obtain ⟨k, rfl⟩ := Nat.exists_eq_add_of_le h.1
    exact words_l6 ⟨k, by omega⟩ s
  · obtain ⟨k, rfl⟩ := Nat.exists_eq_add_of_le h.1
    exact words_l7 ⟨k, by omega⟩ s

theorem words_r (i : Fin 128) (s : Fin 64) : lit0 ⟨i.val * 128 + (64 + s.val), by omega⟩ = coefW (coefZ i s) := by
  obtain ⟨i, hi⟩ := i
  have : i < 16 ∨ (16 ≤ i ∧ i < 32) ∨ (32 ≤ i ∧ i < 48) ∨ (48 ≤ i ∧ i < 64) ∨ (64 ≤ i ∧ i < 80) ∨ (80 ≤ i ∧ i < 96) ∨ (96 ≤ i ∧ i < 112) ∨ (112 ≤ i ∧ i < 128) := by omega
  rcases this with h | h | h | h | h | h | h | h
  · simpa only [Nat.zero_add] using words_r0 ⟨i, h⟩ s
  · obtain ⟨k, rfl⟩ := Nat.exists_eq_add_of_le h.1
    exact words_r1 ⟨k, by omega⟩ s
  · obtain ⟨k, rfl⟩ := Nat.exists_eq_add_of_le h.1
    exact words_r2 ⟨k, by omega⟩ s
  · obtain ⟨k, rfl⟩ := Nat.exists_eq_add_of_le h.1
    exact words_r3 ⟨k, by omega⟩ s
  · obtain ⟨k, rfl⟩ := Nat.exists_eq_add_of_le h.1
    exact words_r4 ⟨k, by omega⟩ s
  · obtain ⟨k, rfl⟩ := Nat.exists_eq_add_of_le h.1
    exact words_r5 ⟨k, by omega⟩ s
  · obtain ⟨k, rfl⟩ := Nat.exists_eq_add_of_le h.1
    exact words_r6 ⟨k, by omega⟩ s
  · obtain ⟨k, rfl⟩ := Nat.exists_eq_add_of_le h.1
    exact words_r7 ⟨k, by omega⟩ s

theorem coefZ_cases : ∀ (i : Fin 128) (s : Fin 64), coefZ i s = 2 ∨ coefZ i s = 1 ∨ coefZ i s = 0 ∨ coefZ i s = -1 := by
  decide +kernel

theorem coefW_val (z : ℤ) (h : z = 2 ∨ z = 1 ∨ z = 0 ∨ z = -1) : Ideal.ofBits FTy.bf16 (coefW z) = (((z : ℝ) / 2 : ℝ) : EReal) := by
  rcases h with rfl | rfl | rfl | rfl
  · show Ideal.ofBits FTy.bf16 0x3F80#16 = _
    rw [one_bf16]; congr 1; norm_num
  · show Ideal.ofBits FTy.bf16 0x3F00#16 = _
    rw [half_bf16]; congr 1; norm_num
  · show Ideal.ofBits FTy.bf16 0x0000#16 = _
    rw [zero_bf16]; congr 1; norm_num
  · show Ideal.ofBits FTy.bf16 0xBF00#16 = _
    rw [neg_half_bf16]; congr 1; norm_num

theorem lit1_words : ∀ t s : Fin 64, lit1 ⟨t.val * 64 + s.val, by omega⟩ = BitVec.ofNat 32 (level t s) := by
  decide +kernel

theorem coef_table : IsCoef (fun i => FloatOps.ofBits (F := Ideal) .bf16 (lit0 (S128x128.rowMajor i))) := by
  intro i s
  have e1 : S128x128.rowMajor (ix2 i (⟨s.val, by omega⟩ : Fin 128)) = (⟨i.val * 128 + s.val, by omega⟩ : Fin 16384) := Fin.ext (by rw [Shape.rowMajor_val_two]; rfl)
  have e2 : S128x128.rowMajor (ix2 i (⟨64 + s.val, by omega⟩ : Fin 128)) = (⟨i.val * 128 + (64 + s.val), by omega⟩ : Fin 16384) := Fin.ext (by rw [Shape.rowMajor_val_two]; rfl)
  constructor
  · show Ideal.ofBits .bf16 (lit0 (S128x128.rowMajor (ix2 i (⟨s.val, by omega⟩ : Fin 128)))) = _
    rw [e1, words_l]
    exact coefW_val _ (coefZ_cases i s)
  · show Ideal.ofBits .bf16 (lit0 (S128x128.rowMajor (ix2 i (⟨64 + s.val, by omega⟩ : Fin 128)))) = _
    rw [e2, words_r]
    exact coefW_val _ (coefZ_cases i s)

theorem level_table (t s : Fin 64) : lit1 (S64x64.rowMajor (ix2 t s)) = BitVec.ofNat 32 (level t s) := by
  have e1 : S64x64.rowMajor (ix2 t s) = (⟨t.val * 64 + s.val, by omega⟩ : Fin 4096) := Fin.ext (by rw [Shape.rowMajor_val_two]; rfl)
  rw [e1, lit1_words]

end Cert.Hgrn
end
-- ==== Proof.Blocks.lean ====
/- What each point of the grid is handed: its tile of the arguments, and the two tables. -/
module

public import proofs.«01_k».proof.Proof.Outs
public import proofs.«01_k».proof.Proof.RefValue
public import proofs.«01_k».proof.Proof.Tables
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Hgrn

open Idealize.ShloMosaic Idealize.ShloMosaic.TcCoe Idealize.ShloMosaic.Pipeline Idealize.SL.Sem Cert.KernelIdeal Cert.KernelIdeal.Gen

variable (m : (ℓ : Loc Cert.KernelIdeal.nD τ sig) → Buf (Elt Ideal) ℓ) (c : Dev Cert.KernelIdeal.nD)

/-- The places the grid's windows read. -/
theorem idxIn : ∀ t : Fin cfg0.N, win0_0.index t = ![0, 0] ∧ win0_1.index t = ![0, 0] ∧ win0_2.index t = ![t.val / 16, t.val % 16, 0]
    ∧ win0_3.index t = ![0, 0] ∧ win0_4.index t = ![0, 0, 0] ∧ win0_5.index t = ![0, 0] ∧ win0_6.index t = ![0, 0]
    ∧ win0_7.index t = ![t.val / 16, t.val % 16, 0] ∧ win0_8.index t = ![0, 0, 0] ∧ win0_9.index t = ![0, 0] :=
  (by decide +kernel : ∀ t : Fin grid0.N, _)

/-- The batch entry of a point. -/
def bt (t : Fin cfg0.N) : Fin 2 := ⟨t.val / 16, by have : t.val < 32 := N_0 ▸ t.isLt; omega⟩

/-- The arguments the kernel starts from. -/
def karg : Args := argsOf (m ((c : Thread Cert.KernelIdeal.nD τ).loc main_arg0)) (m ((c : Thread Cert.KernelIdeal.nD τ).loc main_arg1))
  (m ((c : Thread Cert.KernelIdeal.nD τ).loc main_arg2)) (m ((c : Thread Cert.KernelIdeal.nD τ).loc main_arg3))
  (m ((c : Thread Cert.KernelIdeal.nD τ).loc main_arg4)) (m ((c : Thread Cert.KernelIdeal.nD τ).loc main_arg5))
  (m ((c : Thread Cert.KernelIdeal.nD τ).loc main_arg6)) (m ((c : Thread Cert.KernelIdeal.nD τ).loc main_arg7))

/-- The tile of the activations. -/
theorem blk2 (t : Fin cfg0.N) (r : Fin 512) (d : Fin 1024) : iblk m c 2 t (ix3 0 r d) = m ((c : Thread Cert.KernelIdeal.nD τ).loc main_arg0) (ix3 (bt t) (⟨512 * (t.val % 16) + r.val, by omega⟩ : Fin 8192) d) := by
  unfold bt
  have h2 := (idxIn t).2.2.1
  blk_ext [iblk, V, h2]

/-- The first norm weights. -/
theorem blk3 (t : Fin cfg0.N) (d : Fin 1024) : iblk m c 3 t (ix2 0 d) = m ((c : Thread Cert.KernelIdeal.nD τ).loc main_arg1) (ix2 0 d) := by
  have h3 := (idxIn t).2.2.2.1
  blk_ext [iblk, V, h3]

/-- The input weights the kernel uses. -/
theorem blk4 (t : Fin cfg0.N) (k : Fin 1024) (j : Fin 2048) : iblk m c 4 t (ix3 0 k j) = m ((c : Thread Cert.KernelIdeal.nD τ).loc main_arg2) (ix3 0 k (⟨j.val, by omega⟩ : Fin 4096)) := by
  have h4 := (idxIn t).2.2.2.2.1
  blk_ext [iblk, V, h4]

/-- The lower bounds. -/
theorem blk5 (t : Fin cfg0.N) (k : Fin 2) (j : Fin 512) : iblk m c 5 t (ix2 k j) = m ((c : Thread Cert.KernelIdeal.nD τ).loc main_arg3) (ix2 k j) := by
  have h5 := (idxIn t).2.2.2.2.2.1
  blk_ext [iblk, V, h5]

/-- The norm weights of the recurrence. -/
theorem blk6 (t : Fin cfg0.N) (d : Fin 512) : iblk m c 6 t (ix2 0 d) = m ((c : Thread Cert.KernelIdeal.nD τ).loc main_arg4) (ix2 0 d) := by
  have h6 := (idxIn t).2.2.2.2.2.2.1
  blk_ext [iblk, V, h6]

/-- The tile of the attention. -/
theorem blk7 (t : Fin cfg0.N) (r : Fin 512) (d : Fin 512) : iblk m c 7 t (ix3 0 r d) = m ((c : Thread Cert.KernelIdeal.nD τ).loc main_arg5) (ix3 (bt t) (⟨512 * (t.val % 16) + r.val, by omega⟩ : Fin 8192) d) := by
  unfold bt
  have h7 := (idxIn t).2.2.2.2.2.2.2.1
  blk_ext [iblk, V, h7]

/-- The output weights. -/
theorem blk8 (t : Fin cfg0.N) (k d : Fin 1024) : iblk m c 8 t (ix3 0 k d) = m ((c : Thread Cert.KernelIdeal.nD τ).loc main_arg6) (ix3 0 k d) := by
  have h8 := (idxIn t).2.2.2.2.2.2.2.2.1
  blk_ext [iblk, V, h8]

/-- The last norm weights. -/
theorem blk9 (t : Fin cfg0.N) (d : Fin 1024) : iblk m c 9 t (ix2 0 d) = m ((c : Thread Cert.KernelIdeal.nD τ).loc main_arg7) (ix1 d) := by
  have h9 := (idxIn t).2.2.2.2.2.2.2.2.2
  blk_simp [iblk, h9]
  entry_read
  pointwise
  blk_ext [h9]

/-- The table of coefficients. -/
theorem blk0 (t : Fin cfg0.N) (i j : Fin 128) : iblk m c 0 t (ix2 i j) = FloatOps.ofBits (F := Ideal) .bf16 (lit0 (S128x128.rowMajor (ix2 i j))) := by
  have h0 := (idxIn t).1
  blk_simp [iblk, h0]
  entry_read
  congr 3
  blk_ext [h0]

/-- The table of levels. -/
theorem blk1 (t : Fin cfg0.N) (i j : Fin 64) : iblk m c 1 t (ix2 i j) = lit1 (S64x64.rowMajor (ix2 i j)) := by
  have h1 := (idxIn t).2.1
  blk_simp [iblk, h1]
  entry_read
  congr 2
  blk_ext [h1]

end Cert.Hgrn
end
-- ==== Proof.Points.lean ====
/- What each point of the grid leaves: its rows of the result, the weights it was handed, and the state carried to the next. -/
module

public import proofs.«01_k».proof.Proof.Blocks

@[expose] public section

set_option maxRecDepth 16384

noncomputable section

namespace Cert.Hgrn

open Idealize.ShloMosaic Idealize.ShloMosaic.TcCoe Idealize.ShloMosaic.Pipeline Idealize.SL.Sem Cert.KernelIdeal Cert.KernelIdeal.Gen

variable (m : (ℓ : Loc Cert.KernelIdeal.nD τ sig) → Buf (Elt Ideal) ℓ) (c : Dev Cert.KernelIdeal.nD)

/-- The buffers of a point. -/
def memAt (t : Fin cfg0.N) : Mem := ⟨c, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _, scM0_8, Memref.isWhole_whole _, scM0_9, Memref.isWhole_whole _, scM0_10, Memref.isWhole_whole _, scM0_11, Memref.isWhole_whole _, scM0_12, Memref.isWhole_whole _⟩

/-- What a point starts from, over what is carried into it. -/
def dataAt (t : Fin cfg0.N) (y0 : Vec Ideal S1024x2048 .bf16) (y1 : Vec Ideal S1024x1024 .bf16) (y2 : Vec Ideal S4x128x128 .f32) : Data :=
  ⟨iblk m c 0 t, iblk m c 1 t, iblk m c 2 t, iblk m c 3 t, iblk m c 4 t, iblk m c 5 t, iblk m c 6 t, iblk m c 7 t, iblk m c 8 t, iblk m c 9 t, y0, y1, y2⟩

/-- The row of a tile among all rows, as a place. -/
theorem trow_eq (T : ℕ) (hT : T < 16) (r : Fin 512) : (⟨512 * T + r.val, by omega⟩ : Fin 8192) = trow T r := by
  apply Fin.ext
  show 512 * T + r.val = ((8 * T + r.val / 64) * 64 + r.val % 64) % 8192
  omega

/-- A point's blocks are its tile of the arguments and the two tables. -/
theorem tileAt (t : Fin cfg0.N) : Tile (karg m c) (bt t) (t.val % 16) (iblk m c 0 t) (iblk m c 1 t) (iblk m c 2 t) (iblk m c 3 t) (iblk m c 5 t) (iblk m c 6 t) (iblk m c 7 t) (iblk m c 9 t) where
  coef := fun i s => ⟨(blk0 m c t i _).trans (coef_table i s).1, (blk0 m c t i _).trans (coef_table i s).2⟩
  lev := fun p s => (blk1 m c t p s).trans (level_table p s)
  rows := fun r d => (blk2 m c t r d).trans (by rw [trow_eq _ (Nat.mod_lt _ (by norm_num)) r]; rfl)
  nw := fun d => blk3 m c t d
  lb := fun i n => blk5 m c t i n
  gn := fun n => blk6 m c t n
  oat := fun r x => (blk7 m c t r x).trans (by rw [trow_eq _ (Nat.mod_lt _ (by norm_num)) r]; rfl)
  fw := fun d => blk9 m c t d

/-- What a point leaves. -/
structure Left (t : Fin cfg0.N) : Prop where
  out : ∀ (r : Fin 512) (d : Fin 1024), (outsAt0 m c t.val t.isLt).1 (ix3 0 r d) = (karg m c).out (bt t) (trow (t.val % 16) r) d
  win : ∀ (k : Fin 1024) (j : Fin 2048), (outsAt0 m c t.val t.isLt).2.1 (ix2 k j) = (karg m c).W k ⟨j.val, by omega⟩
  wout : ∀ k d, (outsAt0 m c t.val t.isLt).2.2.1 (ix2 k d) = (karg m c).WO k d
  st : (outsAt0 m c t.val t.isLt).2.2.2 = carried (karg m c) (bt t) (t.val % 16)

set_option maxHeartbeats 1000000 in
/-- A point that starts a batch entry. -/
theorem left_first (t : Fin cfg0.N) (h0 : t.val % 16 = 0) : Left m c t := by
  have H : InA (karg m c) (bt t) (t.val % 16) (dataAt m c t (fun _ => (0 : EReal)) (fun _ => (0 : EReal)) (fun _ => (0 : EReal))) :=
    ⟨tileAt m c t, h0, Nat.mod_lt _ (by norm_num), fun k j => blk4 m c t k j, fun k d => blk8 m c t k d⟩
  have q := outsAt0_A m c t h0
  constructor
  · intro r d
    have e := kA_out (memAt c t) _ H (grid0.coords t) ((hcond0_0 t).mpr h0) r d
    have e' := congrArg (fun p => p.1) q
    unfold memAt dataAt at e
    dsimp only at e e'
    rw [e']
    exact e
  · intro k j
    have e := kA_wout0 (memAt c t) _ H (grid0.coords t) ((hcond0_0 t).mpr h0) k j
    have e' := congrArg (fun p => p.2.1) q
    unfold memAt dataAt at e
    dsimp only at e e'
    rw [e']
    exact e
  · intro k d
    have e := kA_wout1 (memAt c t) _ H (grid0.coords t) ((hcond0_0 t).mpr h0) k d
    have e' := congrArg (fun p => p.2.2.1) q
    unfold memAt dataAt at e
    dsimp only at e e'
    rw [e']
    exact e
  · have e := kA_sout (memAt c t) _ H (grid0.coords t) ((hcond0_0 t).mpr h0)
    have e' := congrArg (fun p => p.2.2.2) q
    unfold memAt dataAt at e
    dsimp only at e e'
    rw [e']
    exact e

set_option maxHeartbeats 1000000 in
/-- A point after another of its batch entry. -/
theorem left_next (t : Fin cfg0.N) (h0 : ¬t.val % 16 = 0) (P : Left m c ⟨t.val - 1, Nat.lt_of_le_of_lt (Nat.sub_le _ _) t.isLt⟩) : Left m c t := by
  have hT : (t.val - 1) % 16 + 1 = t.val % 16 := by omega
  have hb : bt ⟨t.val - 1, Nat.lt_of_le_of_lt (Nat.sub_le _ _) t.isLt⟩ = bt t := Fin.ext (by show (t.val - 1) / 16 = t.val / 16; omega)
  have H : InB (karg m c) (bt t) (t.val % 16) (dataAt m c t (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2) :=
    ⟨tileAt m c t, Nat.mod_lt _ (by norm_num), P.win, P.wout, fun h i j => by
      refine (congrFun P.st (ix3 h j i)).trans ?_
      rw [hb]
      show (karg m c).S (bt t) h (8 * ((t.val - 1) % 16) + 8) i j = (karg m c).S (bt t) h (8 * (t.val % 16)) i j
      rw [← hT]; rfl⟩
  have q := outsAt0_B m c t h0
  constructor
  · intro r d
    have e := kB_out (memAt c t) _ H (grid0.coords t) (fun h => h0 ((hcond0_0 t).mp h)) r d
    have e' := congrArg (fun p => p.1) q
    unfold memAt dataAt at e
    dsimp only at e e'
    rw [e']
    exact e
  · intro k j
    have e' := congrArg (fun p => p.2.1) q
    dsimp only at e'
    rw [e']
    exact P.win k j
  · intro k d
    have e' := congrArg (fun p => p.2.2.1) q
    dsimp only at e'
    rw [e']
    exact P.wout k d
  · have e := kB_sout (memAt c t) _ H (grid0.coords t) (fun h => h0 ((hcond0_0 t).mp h))
    have e' := congrArg (fun p => p.2.2.2) q
    unfold memAt dataAt at e
    dsimp only at e e'
    rw [e']
    exact e

/-- What every point leaves. -/
theorem left_all (n : ℕ) (hn : n < cfg0.N) : Left m c ⟨n, hn⟩ := by
  induction n with
  | zero => exact left_first m c ⟨0, hn⟩ rfl
  | succ n ih =>
    by_cases h0 : (n + 1) % 16 = 0
    · exact left_first m c ⟨n + 1, hn⟩ h0
    · exact left_next m c ⟨n + 1, hn⟩ h0 (ih (Nat.lt_of_succ_lt hn))

/-- The kernel's result. -/
theorem kernel_result (b : Fin 2) (t : Fin 8192) (d : Fin 1024) : Cert.KernelIdeal.Value.G10 m c (ix3 b t d) = (karg m c).out b t d := by
  have e : Cert.KernelIdeal.Value.pt10Of (ix3 b t d) = 16 * b.val + t.val / 512 := by
    show 16 * (b.val / 1 - 0) + 1 * (t.val / 512 - 0) + 1 * (d.val / 1024 - 0) = _
    omega
  have hp : Cert.KernelIdeal.Value.pt10Of (ix3 b t d) < cfg0.N := by
    rw [e]
    exact lt_of_lt_of_eq (by omega : 16 * b.val + t.val / 512 < 32) N_0.symm
  unfold Cert.KernelIdeal.Value.G10
  rw [dif_pos hp, ← Cert.KernelIdeal.Value.outsAt0_sweep m c _ hp]
  have hl : Cert.KernelIdeal.Value.loc10Of (ix3 b t d) = ix3 (0 : Fin 1) (⟨t.val % 512, Nat.mod_lt _ (by norm_num)⟩ : Fin 512) d := by
    funext a
    apply Fin.ext
    match a with
    | ⟨0, _⟩ => show b.val % 1 = 0; omega
    | ⟨1, _⟩ => rfl
    | ⟨2, _⟩ => show d.val % 1024 = d.val; omega
  rw [hl]
  refine ((left_all m c _ hp).out ⟨t.val % 512, Nat.mod_lt _ (by norm_num)⟩ d).trans ?_
  have hb : bt ⟨Cert.KernelIdeal.Value.pt10Of (ix3 b t d), hp⟩ = b := Fin.ext (by
    show Cert.KernelIdeal.Value.pt10Of (ix3 b t d) / 16 = b.val
    rw [e]; omega)
  have ht : trow (Cert.KernelIdeal.Value.pt10Of (ix3 b t d) % 16) ⟨t.val % 512, Nat.mod_lt _ (by norm_num)⟩ = t := by
    rw [← trow_eq _ (Nat.mod_lt _ (by norm_num))]
    apply Fin.ext
    show 512 * (Cert.KernelIdeal.Value.pt10Of (ix3 b t d) % 16) + t.val % 512 = t.val
    rw [e]; omega
  rw [hb]
  exact congrArg (fun q => (karg m c).out b q d) ht

end Cert.Hgrn
end
-- ==== Proof.Claims.lean ====
/- The claims, one by one: the three programs' runs, the idealization's one named constant, and the equality of the results. -/
module

public import proofs.«01_k».proof.Defs
public import proofs.«01_k».proof.Proof.Gen.Kernel.Frame
public import proofs.«01_k».proof.Proof.Points
public import Idealize.ShloMosaic.Lib.Quiescent

@[expose] public section

set_option maxRecDepth 16384

noncomputable section

namespace Cert.Hgrn

open Idealize.ShloMosaic Idealize.ShloMosaic.TcCoe Idealize.SL.Sem

/-- The kernel runs. -/
theorem runs_kernel : Cert.quiescent_Kernel := fun m g _ => Cert.Kernel.Gen.frame (F := Bits) m g

/-- Its idealization runs. -/
theorem runs_ideal : Cert.quiescent_KernelIdeal := fun m g _ => Cert.KernelIdeal.Gen.frame (F := Ideal) m g

/-- The reference runs. -/
theorem runs_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant is the reciprocal of the logarithm of two, and the high half of a word is a rounding. -/
theorem keeps : Cert.preserves_Kernel_KernelIdeal :=
  ⟨IdealRules.named_const.statement Cert.KernelIdeal.κ "log2e" .f32 0x3FB8AA3B#32 (((Real.log 2)⁻¹ : ℝ) : EReal) rfl,
    IdealRules.bf16_pack.statement Cert.KernelIdeal.S512x512⟩

/-- The reference's result of its arguments. -/
theorem ref_final (m : (ℓ : Loc Cert.ReferenceIdeal.nD Cert.ReferenceIdeal.τ Cert.ReferenceIdeal.sig) → Buf (Elt Ideal) ℓ) (c : Dev Cert.ReferenceIdeal.nD)
    (b : Fin 2) (t : Fin 8192) (d : Fin 1024) :
    Cert.ReferenceIdeal.Value.out_main_v180 (F := Ideal) (Cert.ReferenceIdeal.Value.STEP^[128] (StableHlo.entryContents Cert.ReferenceIdeal.Value.preI m c)) (ix3 b t d)
      = (argsOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).out b t d := by
  rw [after_loop m c, states_eq m c 128]
  exact ref_result _ _ _ _ _ _ _ _ b t d

/-- From the same arguments the reference's result is the kernel's. -/
theorem result_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    : Cert.ReferenceIdeal.Value.out_main_v180 (F := Ideal) (Cert.ReferenceIdeal.Value.STEP^[128] (StableHlo.entryContents Cert.ReferenceIdeal.Value.preI m' c))
      = Cert.KernelIdeal.Value.G10 m c := by
  have key : ∀ (b : Fin 2) (t : Fin 8192) (d : Fin 1024),
      Cert.ReferenceIdeal.Value.out_main_v180 (F := Ideal) (Cert.ReferenceIdeal.Value.STEP^[128] (StableHlo.entryContents Cert.ReferenceIdeal.Value.preI m' c)) (ix3 b t d)
        = Cert.KernelIdeal.Value.G10 m c (ix3 b t d) := fun b t d => by
    refine (ref_final m' c b t d).trans (Eq.trans ?_ (kernel_result m c b t d).symm)
    unfold karg
    rw [e0, e1, e2, e3, e4, e5, e6, e7]
  funext i
  rw [show i = ix3 (i 0) (i 1) (i 2) from (ix3_eta i).symm]
  exact key _ _ _

/-- Kernel and reference end with the same result. -/
theorem same : Cert.algebraic_KernelIdeal_ReferenceIdeal := fun m g m' g' _ hagree =>
  ⟨fun c => Cert.KernelIdeal.Value.G10 m c, Cert.KernelIdeal.Value.run (F := Ideal) m g,
    (θ_run Cert.ReferenceIdeal.defs _ _).mono (fun _ h c => ⟨(h c).1.trans (result_same m m' c (hagree c).1 (hagree c).2.1 (hagree c).2.2.1
      (hagree c).2.2.2.1 (hagree c).2.2.2.2.1 (hagree c).2.2.2.2.2.1 (hagree c).2.2.2.2.2.2.1 (hagree c).2.2.2.2.2.2.2), (h c).2⟩)
    (Cert.ReferenceIdeal.Value.run (F := Ideal) m' g')⟩

end Cert.Hgrn
end
-- ==== Proof.lean ====
/- The proof of the certificate's claim. The programs' stated facts are the generated ones; the claims are proved in Proof/Claims.lean:
   the two kernels' frames are the generated ones, the reference's is read off its run, the one named constant is by definition,
   and the equality of the results goes through one description of the layer (Proof/Spec.lean) which the reference's result is
   (Proof/RefProj, RefTrip, RefRun, RefValue) and the kernel's is (Proof/Unit to Proof/Points). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

/-- Every claim holds. -/
theorem claim : Cert.Claim := ⟨Cert.Kernel.Gen.facts, Cert.KernelIdeal.Gen.facts, Cert.ReferenceIdeal.Gen.facts,
  Cert.Hgrn.runs_kernel, Cert.Hgrn.runs_ideal, Cert.Hgrn.runs_reference, Cert.Hgrn.keeps, Cert.Hgrn.same⟩

end Cert.Proof

end
